-- ==== Defs.lean ====
def Pre_KernelIdeal (m : (ℓ : Loc Cert.KernelIdeal.nD Cert.KernelIdeal.τ Cert.KernelIdeal.sig) → Buf (Elt Ideal) ℓ) : Prop :=
  True

def Pre_KernelIdeal_labels_in_range [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_distinct_costs [hPre_distinct_costs : Cert.Pre_distinct_costs.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_costs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_distinct_costs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_distinct_costs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_ReferenceIdeal_distinct_costs [hPre_distinct_costs : Cert.Pre_distinct_costs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_costs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_distinct_costs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_distinct_costs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_labels_in_range [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_distinct_costs [hKernelIdeal : Cert.KernelIdeal.Facts] [hPre_distinct_costs : Cert.Pre_distinct_costs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_costs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_distinct_costs [hReferenceIdeal : Cert.ReferenceIdeal.Facts] [hPre_distinct_costs : Cert.Pre_distinct_costs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_costs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def algebraic_KernelIdeal_ReferenceIdeal_on_costs_only_pre_labels_in_range [hKernelIdeal : Cert.KernelIdeal.Facts] [hReferenceIdeal : Cert.ReferenceIdeal.Facts] [hPre_labels_in_range : Cert.Pre_labels_in_range.Facts] [hOn_costs_only : Cert.On_costs_only.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 10000, 50]⟩ : Shape).Idx, (Cert.On_costs_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v3_0) i = v0 c i)
          ∧ (∀ i : (⟨2, ![4, 50]⟩ : Shape).Idx, (Cert.On_costs_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v4) i = v1 c i)
          ∧ (∀ i : (⟨2, ![4, 50]⟩ : Shape).Idx, (Cert.On_costs_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 i = 1#1 → r.2.mem ((c.tc : Thread Cert.KernelIdeal.nD Cert.KernelIdeal.τ).loc Cert.KernelIdeal.main_v5) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4, 10000, 50]⟩ : Shape).Idx, (Cert.On_costs_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v189) i = v0 c i)
          ∧ (∀ i : (⟨2, ![4, 50]⟩ : Shape).Idx, (Cert.On_costs_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v193) i = v1 c i)
          ∧ (∀ i : (⟨2, ![4, 50]⟩ : Shape).Idx, (Cert.On_costs_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 i = 1#1 → r.2.mem ((c.tc : Thread Cert.ReferenceIdeal.nD Cert.ReferenceIdeal.τ).loc Cert.ReferenceIdeal.main_v194) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def algebraic_KernelIdeal_ReferenceIdeal_pre_distinct_costs [hKernelIdeal : Cert.KernelIdeal.Facts] [hReferenceIdeal : Cert.ReferenceIdeal.Facts] [hPre_distinct_costs : Cert.Pre_distinct_costs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_costs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_v193) = v1 c
          ∧ r.2.mem ((c.tc : Thread Cert.ReferenceIdeal.nD Cert.ReferenceIdeal.τ).loc Cert.ReferenceIdeal.main_v194) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernelIdeal : Cert.KernelIdeal.Facts) (hReferenceIdeal : Cert.ReferenceIdeal.Facts) (hPre_labels_in_range : Cert.Pre_labels_in_range.Facts) (hPre_distinct_costs : Cert.Pre_distinct_costs.Facts) (hOn_costs_only : Cert.On_costs_only.Facts),
    quiescent_KernelIdeal (hKernelIdeal := hKernelIdeal)
    ∧ quiescent_KernelIdeal_pre_labels_in_range (hKernelIdeal := hKernelIdeal) (hPre_labels_in_range := hPre_labels_in_range)
    ∧ quiescent_KernelIdeal_pre_distinct_costs (hKernelIdeal := hKernelIdeal) (hPre_distinct_costs := hPre_distinct_costs)
    ∧ quiescent_ReferenceIdeal (hReferenceIdeal := hReferenceIdeal)
    ∧ quiescent_ReferenceIdeal_pre_labels_in_range (hReferenceIdeal := hReferenceIdeal) (hPre_labels_in_range := hPre_labels_in_range)
    ∧ quiescent_ReferenceIdeal_pre_distinct_costs (hReferenceIdeal := hReferenceIdeal) (hPre_distinct_costs := hPre_distinct_costs)
    ∧ algebraic_KernelIdeal_ReferenceIdeal_on_costs_only_pre_labels_in_range (hKernelIdeal := hKernelIdeal) (hReferenceIdeal := hReferenceIdeal) (hPre_labels_in_range := hPre_labels_in_range) (hOn_costs_only := hOn_costs_only)
    ∧ algebraic_KernelIdeal_ReferenceIdeal_pre_distinct_costs (hKernelIdeal := hKernelIdeal) (hReferenceIdeal := hReferenceIdeal) (hPre_distinct_costs := hPre_distinct_costs)
-- ==== On_costs_only.lean ====
abbrev S4x10000x81 : Shape := ⟨3, ![4, 10000, 81]⟩
abbrev S4x10000x4 : Shape := ⟨3, ![4, 10000, 4]⟩
abbrev S4x10000x117 : Shape := ⟨3, ![4, 10000, 117]⟩
abbrev S4x50 : Shape := ⟨2, ![4, 50]⟩
abbrev S4x50x4 : Shape := ⟨3, ![4, 50, 4]⟩
abbrev S4x50x117 : Shape := ⟨3, ![4, 50, 117]⟩
abbrev S_ : Shape := ⟨0, ![]⟩
abbrev S4x10000x50 : Shape := ⟨3, ![4, 10000, 50]⟩

class Facts : Prop where
  bcast_S_S4x10000x50 : S_.BroadcastsInDim S4x10000x50 (![] : Fin 0 → Fin S4x10000x50.rank)
  bcast_S_S4x50 : S_.BroadcastsInDim S4x50 (![] : Fin 0 → Fin S4x50.rank)

variable [Facts]

def fn {F : FTy → Type} [FloatOps F] (main_arg0 : FVec F S4x10000x81 .f32) (main_arg1 : FVec F S4x10000x4 .f32) (main_arg2 : FVec F S4x10000x117 .f32) (main_arg3 : IVec S4x50 32) (main_arg4 : FVec F S4x50x4 .f32) (main_arg5 : FVec F S4x50x117 .f32) : IVec S4x10000x50 1 × IVec S4x50 1 × IVec S4x50 1 :=
  let main_c : IVec S_ 1 := constantI S_ 1 1#1
  let main_v0 : IVec S4x10000x50 1 := broadcastInDim S4x10000x50 ![] bcast_S_S4x10000x50 main_c
  let main_c_0 : IVec S_ 1 := constantI S_ 1 0#1
  let main_v1 : IVec S4x50 1 := broadcastInDim S4x50 ![] bcast_S_S4x50 main_c_0
  let main_c_1 : IVec S_ 1 := constantI S_ 1 0#1
  let main_v2 : IVec S4x50 1 := broadcastInDim S4x50 ![] bcast_S_S4x50 main_c_1
  (main_v0, main_v1, main_v2)
-- ==== Pre_distinct_costs.lean ====
abbrev S4x10000x81 : Shape := ⟨3, ![4, 10000, 81]⟩
abbrev S4x10000x4 : Shape := ⟨3, ![4, 10000, 4]⟩
abbrev S4x10000x117 : Shape := ⟨3, ![4, 10000, 117]⟩
abbrev S4x50 : Shape := ⟨2, ![4, 50]⟩
abbrev S4x50x4 : Shape := ⟨3, ![4, 50, 4]⟩
abbrev S4x50x117 : Shape := ⟨3, ![4, 50, 117]⟩
abbrev S_ : Shape := ⟨0, ![]⟩
abbrev S4x10000 : Shape := ⟨2, ![4, 10000]⟩
abbrev S4x10000x1 : Shape := ⟨3, ![4, 10000, 1]⟩
abbrev S4x50x1 : Shape := ⟨3, ![4, 50, 1]⟩
abbrev S4x10000x50 : Shape := ⟨3, ![4, 10000, 50]⟩
abbrev S4x10000x1x4 : Shape := ⟨4, ![4, 10000, 1, 4]⟩
abbrev S4x1x50x4 : Shape := ⟨4, ![4, 1, 50, 4]⟩
abbrev S4x10000x50x4 : Shape := ⟨4, ![4, 10000, 50, 4]⟩
abbrev S4x10000x2 : Shape := ⟨3, ![4, 10000, 2]⟩
abbrev S4x10000x1x2 : Shape := ⟨4, ![4, 10000, 1, 2]⟩
abbrev S4x50x2 : Shape := ⟨3, ![4, 50, 2]⟩
abbrev S4x1x50x2 : Shape := ⟨4, ![4, 1, 50, 2]⟩
abbrev S4x10000x50x2 : Shape := ⟨4, ![4, 10000, 50, 2]⟩
abbrev S4x10000x50x1 : Shape := ⟨4, ![4, 10000, 50, 1]⟩
abbrev S4x1x50 : Shape := ⟨3, ![4, 1, 50]⟩
abbrev S4x117x50 : Shape := ⟨3, ![4, 117, 50]⟩
abbrev S4x500000 : Shape := ⟨2, ![4, 500000]⟩
abbrev S4x499999 : Shape := ⟨2, ![4, 499999]⟩
abbrev S4x1 : Shape := ⟨2, ![4, 1]⟩
abbrev S4 : Shape := ⟨1, ![4]⟩

class Facts : Prop where
  reducesTo_S4x10000x81_S4x10000_d2 : S4x10000x81.ReducesTo [2] S4x10000
  h_S_ : 0 < S_.numel
  bcast_S_S4x10000 : S_.BroadcastsInDim S4x10000 (![] : Fin 0 → Fin S4x10000.rank)
  bcast_S4x10000_S4x10000x1_0_1 : S4x10000.BroadcastsInDim S4x10000x1 (![0, 1] : Fin 2 → Fin S4x10000x1.rank)
  bcast_S4x10000x1_S4x10000x81_0_1_2 : S4x10000x1.BroadcastsInDim S4x10000x81 (![0, 1, 2] : Fin 3 → Fin S4x10000x81.rank)
  bcast_S_S4x50 : S_.BroadcastsInDim S4x50 (![] : Fin 0 → Fin S4x50.rank)
  bcast_S4x50_S4x50x1_0_1 : S4x50.BroadcastsInDim S4x50x1 (![0, 1] : Fin 2 → Fin S4x50x1.rank)
  bcast_S4x10000x4_S4x10000x1x4_0_1_3 : S4x10000x4.BroadcastsInDim S4x10000x1x4 (![0, 1, 3] : Fin 3 → Fin S4x10000x1x4.rank)
  bcast_S4x50x4_S4x1x50x4_0_2_3 : S4x50x4.BroadcastsInDim S4x1x50x4 (![0, 2, 3] : Fin 3 → Fin S4x1x50x4.rank)
  bcast_S4x10000x1x4_S4x10000x50x4_0_1_2_3 : S4x10000x1x4.BroadcastsInDim S4x10000x50x4 (![0, 1, 2, 3] : Fin 4 → Fin S4x10000x50x4.rank)
  bcast_S4x1x50x4_S4x10000x50x4_0_1_2_3 : S4x1x50x4.BroadcastsInDim S4x10000x50x4 (![0, 1, 2, 3] : Fin 4 → Fin S4x10000x50x4.rank)
  reducesTo_S4x10000x50x4_S4x10000x50_d3 : S4x10000x50x4.ReducesTo [3] S4x10000x50
  slices_S4x10000x4_S4x10000x1_0_0_0 : S4x10000x4.Slices ![0, 0, 0] S4x10000x1
  shapeCasts_S4x10000x1_S4x10000 : S4x10000x1.ShapeCasts S4x10000
  slices_S4x10000x4_S4x10000x1_0_0_1 : S4x10000x4.Slices ![0, 0, 1] S4x10000x1
  slices_S4x10000x4_S4x10000x1_0_0_2 : S4x10000x4.Slices ![0, 0, 2] S4x10000x1
  slices_S4x10000x4_S4x10000x1_0_0_3 : S4x10000x4.Slices ![0, 0, 3] S4x10000x1
  concatenates_S4x10000x1_S4x10000x1_S4x10000x1_S4x10000x1_S4x10000x4_d2 : Shape.Concatenates [S4x10000x1, S4x10000x1, S4x10000x1, S4x10000x1] S4x10000x4 2
  slices_S4x50x4_S4x50x1_0_0_0 : S4x50x4.Slices ![0, 0, 0] S4x50x1
  shapeCasts_S4x50x1_S4x50 : S4x50x1.ShapeCasts S4x50
  slices_S4x50x4_S4x50x1_0_0_1 : S4x50x4.Slices ![0, 0, 1] S4x50x1
  slices_S4x50x4_S4x50x1_0_0_2 : S4x50x4.Slices ![0, 0, 2] S4x50x1
  slices_S4x50x4_S4x50x1_0_0_3 : S4x50x4.Slices ![0, 0, 3] S4x50x1
  concatenates_S4x50x1_S4x50x1_S4x50x1_S4x50x1_S4x50x4_d2 : Shape.Concatenates [S4x50x1, S4x50x1, S4x50x1, S4x50x1] S4x50x4 2
  slices_S4x10000x4_S4x10000x2_0_0_0 : S4x10000x4.Slices ![0, 0, 0] S4x10000x2
  bcast_S4x10000x2_S4x10000x1x2_0_1_3 : S4x10000x2.BroadcastsInDim S4x10000x1x2 (![0, 1, 3] : Fin 3 → Fin S4x10000x1x2.rank)
  slices_S4x50x4_S4x50x2_0_0_0 : S4x50x4.Slices ![0, 0, 0] S4x50x2
  bcast_S4x50x2_S4x1x50x2_0_2_3 : S4x50x2.BroadcastsInDim S4x1x50x2 (![0, 2, 3] : Fin 3 → Fin S4x1x50x2.rank)
  bcast_S4x10000x1x2_S4x10000x50x2_0_1_2_3 : S4x10000x1x2.BroadcastsInDim S4x10000x50x2 (![0, 1, 2, 3] : Fin 4 → Fin S4x10000x50x2.rank)
  bcast_S4x1x50x2_S4x10000x50x2_0_1_2_3 : S4x1x50x2.BroadcastsInDim S4x10000x50x2 (![0, 1, 2, 3] : Fin 4 → Fin S4x10000x50x2.rank)
  slices_S4x10000x4_S4x10000x2_0_0_2 : S4x10000x4.Slices ![0, 0, 2] S4x10000x2
  slices_S4x50x4_S4x50x2_0_0_2 : S4x50x4.Slices ![0, 0, 2] S4x50x2
  bcast_S_S4x10000x50x2 : S_.BroadcastsInDim S4x10000x50x2 (![] : Fin 0 → Fin S4x10000x50x2.rank)
  slices_S4x10000x50x2_S4x10000x50x1_0_0_0_0 : S4x10000x50x2.Slices ![0, 0, 0, 0] S4x10000x50x1
  shapeCasts_S4x10000x50x1_S4x10000x50 : S4x10000x50x1.ShapeCasts S4x10000x50
  slices_S4x10000x50x2_S4x10000x50x1_0_0_0_1 : S4x10000x50x2.Slices ![0, 0, 0, 1] S4x10000x50x1
  bcast_S4x50_S4x1x50_0_2 : S4x50.BroadcastsInDim S4x1x50 (![0, 2] : Fin 2 → Fin S4x1x50.rank)
  bcast_S4x10000x1_S4x10000x50_0_1_2 : S4x10000x1.BroadcastsInDim S4x10000x50 (![0, 1, 2] : Fin 3 → Fin S4x10000x50.rank)
  bcast_S4x1x50_S4x10000x50_0_1_2 : S4x1x50.BroadcastsInDim S4x10000x50 (![0, 1, 2] : Fin 3 → Fin S4x10000x50.rank)
  bcast_S_S4x10000x50 : S_.BroadcastsInDim S4x10000x50 (![] : Fin 0 → Fin S4x10000x50.rank)
  bcast_S_S4x10000x117 : S_.BroadcastsInDim S4x10000x117 (![] : Fin 0 → Fin S4x10000x117.rank)
  transposes_S4x50x117_S4x117x50_0_2_1 : S4x50x117.Transposes [0, 2, 1] S4x117x50
  bcast_S_S4x50x117 : S_.BroadcastsInDim S4x50x117 (![] : Fin 0 → Fin S4x50x117.rank)
  shapeCasts_S4x10000x50_S4x500000 : S4x10000x50.ShapeCasts S4x500000
  slices_S4x500000_S4x499999_0_0 : S4x500000.Slices ![0, 0] S4x499999
  slices_S4x500000_S4x499999_0_1 : S4x500000.Slices ![0, 1] S4x499999
  slices_S4x500000_S4x1_0_499999 : S4x500000.Slices ![0, 499999] S4x1
  shapeCasts_S4x1_S4 : S4x1.ShapeCasts S4
  slices_S4x500000_S4x1_0_0 : S4x500000.Slices ![0, 0] S4x1
  bcast_S_S4 : S_.BroadcastsInDim S4 (![] : Fin 0 → Fin S4.rank)
  gather_S4x10000x81_S4x50x1_S4x10000x50_1_2_0_0_2_2_1100001_wf : GatherDims.WF S4x10000x81 S4x50x1 S4x10000x50 [1] [2] [0] [2] [0] 2 ![1, 10000, 1]
  dot_S4x10000x117_S4x117x50_S4x10000x50_2_1_1_2_0_0_wf : DotDims.WF S4x10000x117 S4x117x50 S4x10000x50 [2] [1] [1] [2] [0] [0]

variable [Facts]

variable {F : FTy → Type} [FloatOps F]
def gather_S4x10000x81_S4x50x1_S4x10000x50_1_2_0_0_2_2_1100001 : GatherDims S4x10000x81 S4x50x1 S4x10000x50 where
  offsetDims := [1]
  collapsedSliceDims := [2]
  operandBatchingDims := [0]
  startIndicesBatchingDims := [0]
  startIndexMap := [2]
  indexVectorDim := 2
  sliceSizes := ![1, 10000, 1]
  wf := gather_S4x10000x81_S4x50x1_S4x10000x50_1_2_0_0_2_2_1100001_wf
def dot_S4x10000x117_S4x117x50_S4x10000x50_2_1_1_2_0_0 : DotDims S4x10000x117 S4x117x50 S4x10000x50 where
  lhsContracting := [2]
  rhsContracting := [1]
  lhsNonContracting := [1]
  rhsNonContracting := [2]
  lhsBatch := [0]
  rhsBatch := [0]
  wf := dot_S4x10000x117_S4x117x50_S4x10000x50_2_1_1_2_0_0_wf
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_clip {F : FTy → Type} [FloatOps F] (arg0 : FVec F S4x10000x50x2 .f32) (arg1 : FVec F S_ .f32) : FVec F S4x10000x50x2 .f32 :=
  let v0 : FVec F S_ .f32 := id arg1
  let v1 : FVec F S4x10000x50x2 .f32 := broadcastInDim S4x10000x50x2 ![] bcast_S_S4x10000x50x2 v0
  let v2 : FVec F S4x10000x50x2 .f32 := maximumf v1 arg0
  v2

def fn_sort {F : FTy → Type} [FloatOps F] (arg0 : FVec F S4x500000 .f32) : FVec F S4x500000 .f32 :=
  let v0 : FVec F S4x500000 .f32 := (fun x => Host.sort S4x500000 1 comparator_f32_d1 x) arg0
  v0

def fn_part9 {F : FTy → Type} [FloatOps F] (main_arg3 : IVec S4x50 32) (main_v178 : FVec F S4x10000x50 .f32) (main_v186 : FVec F S4x10000x50 .f32) (main_cst_26 : FVec F S_ .f32) : IVec S4x50 1 × IVec S4x499999 1 × IVec S4 1 :=
  let main_v187 : FVec F S4x10000x50 .f32 := broadcastInDim S4x10000x50 ![] bcast_S_S4x10000x50 main_cst_26
  let main_v188 : FVec F S4x10000x50 .f32 := mulf main_v187 main_v178
  let main_v189 : FVec F S4x10000x50 .f32 := addf main_v186 main_v188
  let main_v190 : FVec F S4x500000 .f32 := shapeCast S4x500000 main_v189 shapeCasts_S4x10000x50_S4x500000
  let main_v191 : FVec F S4x500000 .f32 := fn_sort (F := F) main_v190
  let main_c_27 : IVec S_ 32 := constantI S_ 32 0#32
  let main_v192 : IVec S4x50 32 := broadcastInDim S4x50 ![] bcast_S_S4x50 main_c_27
  let main_v193 : IVec S4x50 1 := cmpi .sge main_arg3 main_v192
  let main_c_28 : IVec S_ 32 := constantI S_ 32 80#32
  let main_v194 : IVec S4x50 32 := broadcastInDim S4x50 ![] bcast_S_S4x50 main_c_28
  let main_v195 : IVec S4x50 1 := cmpi .sle main_arg3 main_v194
  let main_v196 : IVec S4x50 1 := andi main_v193 main_v195
  let main_v197 : FVec F S4x499999 .f32 := (extractStridedSlice S4x499999 ![0, 0] · slices_S4x500000_S4x499999_0_0) main_v191
  let main_v198 : FVec F S4x499999 .f32 := (extractStridedSlice S4x499999 ![0, 1] · slices_S4x500000_S4x499999_0_1) main_v191
  let main_v199 : IVec S4x499999 1 := cmpf .olt main_v197 main_v198
  let main_v200 : FVec F S4x1 .f32 := (extractStridedSlice S4x1 ![0, 499999] · slices_S4x500000_S4x1_0_499999) main_v191
  let main_v201 : FVec F S4 .f32 := shapeCast S4 main_v200 shapeCasts_S4x1_S4
  let main_v202 : FVec F S4x1 .f32 := (extractStridedSlice S4x1 ![0, 0] · slices_S4x500000_S4x1_0_0) main_v191
  let main_v203 : FVec F S4 .f32 := shapeCast S4 main_v202 shapeCasts_S4x1_S4
  let main_v204 : FVec F S4 .f32 := subf main_v201 main_v203
  let main_cst_29 : FVec F S_ .f32 := constant S_ .f32 0x4E6E6B28#32
  let main_v205 : FVec F S4 .f32 := broadcastInDim S4 ![] bcast_S_S4 main_cst_29
  let main_v206 : IVec S4 1 := cmpf .olt main_v204 main_v205
  (main_v196, main_v199, main_v206)

def fn_part8 {F : FTy → Type} [FloatOps F] (main_arg3 : IVec S4x50 32) (main_arg5 : FVec F S4x50x117 .f32) (main_v18 : FVec F S4x10000x50 .f32) (main_v25 : FVec F S4x10000x50 .f32) (main_v154 : FVec F S4x10000x50 .f32) (main_v165 : FVec F S4x10000x50 .f32) (main_v167 : FVec F S4x10000x117 .f32) (main_v168 : FVec F S4x10000x117 .f32) : IVec S4x50 1 × IVec S4x499999 1 × IVec S4 1 :=
  let main_v169 : FVec F S4x10000x117 .f32 := addf main_v167 main_v168
  let main_v170 : FVec F S4x10000x117 .f32 := Host.log main_v169
  let main_cst_21 : FVec F S_ .f32 := constant S_ .f32 0x3F800000#32
  let main_v171 : FVec F S4x50x117 .f32 := broadcastInDim S4x50x117 ![] bcast_S_S4x50x117 main_cst_21
  let main_v172 : FVec F S4x50x117 .f32 := subf main_v171 main_arg5
  let main_v173 : FVec F S4x117x50 .f32 := (transpose S4x117x50 [0, 2, 1] · transposes_S4x50x117_S4x117x50_0_2_1) main_v172
  let main_v174 : FVec F S4x10000x50 .f32 := (fun l r => Host.dotGeneral dot_S4x10000x117_S4x117x50_S4x10000x50_2_1_1_2_0_0 none l r) main_v170 main_v173
  let main_v175 : FVec F S4x10000x50 .f32 := addf main_v165 main_v174
  let main_v176 : FVec F S4x10000x50 .f32 := Host.negf main_v175
  let main_cst_22 : FVec F S_ .f32 := constant S_ .f32 0x42EA0000#32
  let main_v177 : FVec F S4x10000x50 .f32 := broadcastInDim S4x10000x50 ![] bcast_S_S4x10000x50 main_cst_22
  let main_v178 : FVec F S4x10000x50 .f32 := Host.divf main_v176 main_v177
  let main_cst_23 : FVec F S_ .f32 := constant S_ .f32 0x40A00000#32
  let main_v179 : FVec F S4x10000x50 .f32 := broadcastInDim S4x10000x50 ![] bcast_S_S4x10000x50 main_cst_23
  let main_v180 : FVec F S4x10000x50 .f32 := mulf main_v179 main_v25
  let main_cst_24 : FVec F S_ .f32 := constant S_ .f32 0x3F800000#32
  let main_v181 : FVec F S4x10000x50 .f32 := broadcastInDim S4x10000x50 ![] bcast_S_S4x10000x50 main_cst_24
  let main_v182 : FVec F S4x10000x50 .f32 := mulf main_v181 main_v18
  let main_v183 : FVec F S4x10000x50 .f32 := addf main_v180 main_v182
  let main_cst_25 : FVec F S_ .f32 := constant S_ .f32 0x40000000#32
  let main_v184 : FVec F S4x10000x50 .f32 := broadcastInDim S4x10000x50 ![] bcast_S_S4x10000x50 main_cst_25
  let main_v185 : FVec F S4x10000x50 .f32 := mulf main_v184 main_v154
  let main_v186 : FVec F S4x10000x50 .f32 := addf main_v183 main_v185
  let main_cst_26 : FVec F S_ .f32 := constant S_ .f32 0x3F800000#32
  fn_part9 (F := F) main_arg3 main_v178 main_v186 main_cst_26

def fn_part7 {F : FTy → Type} [FloatOps F] (main_arg2 : FVec F S4x10000x117 .f32) (main_arg3 : IVec S4x50 32) (main_arg5 : FVec F S4x50x117 .f32) (main_v18 : FVec F S4x10000x50 .f32) (main_v25 : FVec F S4x10000x50 .f32) (main_v127 : FVec F S4x10000x50 .f32) (main_v148 : FVec F S4x10000x50 .f32) (main_v149 : FVec F S4x10000x50 .f32) (main_cst_15 : FVec F S_ .f32) : IVec S4x50 1 × IVec S4x499999 1 × IVec S4 1 :=
  let main_v150 : FVec F S4x10000x50 .f32 := broadcastInDim S4x10000x50 ![] bcast_S_S4x10000x50 main_cst_15
  let main_v151 : FVec F S4x10000x50 .f32 := addf main_v148 main_v150
  let main_v152 : FVec F S4x10000x50 .f32 := Host.divf main_v149 main_v151
  let main_v153 : FVec F S4x10000x50 .f32 := subf main_v127 main_v152
  let main_v154 : FVec F S4x10000x50 .f32 := Host.negf main_v153
  let main_v155 : FVec F S4x10000x117 .f32 := Host.negf main_arg2
  let main_v156 : FVec F S4x10000x117 .f32 := Host.exp main_v155
  let main_cst_16 : FVec F S_ .f32 := constant S_ .f32 0x3F800000#32
  let main_v157 : FVec F S4x10000x117 .f32 := broadcastInDim S4x10000x117 ![] bcast_S_S4x10000x117 main_cst_16
  let main_v158 : FVec F S4x10000x117 .f32 := addf main_v157 main_v156
  let main_cst_17 : FVec F S_ .f32 := constant S_ .f32 0x3F800000#32
  let main_v159 : FVec F S4x10000x117 .f32 := broadcastInDim S4x10000x117 ![] bcast_S_S4x10000x117 main_cst_17
  let main_v160 : FVec F S4x10000x117 .f32 := Host.divf main_v159 main_v158
  let main_cst_18 : FVec F S_ .f32 := constant S_ .f32 0x322BCC77#32
  let main_v161 : FVec F S4x10000x117 .f32 := broadcastInDim S4x10000x117 ![] bcast_S_S4x10000x117 main_cst_18
  let main_v162 : FVec F S4x10000x117 .f32 := addf main_v160 main_v161
  let main_v163 : FVec F S4x10000x117 .f32 := Host.log main_v162
  let main_v164 : FVec F S4x117x50 .f32 := (transpose S4x117x50 [0, 2, 1] · transposes_S4x50x117_S4x117x50_0_2_1) main_arg5
  let main_v165 : FVec F S4x10000x50 .f32 := (fun l r => Host.dotGeneral dot_S4x10000x117_S4x117x50_S4x10000x50_2_1_1_2_0_0 none l r) main_v163 main_v164
  let main_cst_19 : FVec F S_ .f32 := constant S_ .f32 0x3F800000#32
  let main_v166 : FVec F S4x10000x117 .f32 := broadcastInDim S4x10000x117 ![] bcast_S_S4x10000x117 main_cst_19
  let main_v167 : FVec F S4x10000x117 .f32 := subf main_v166 main_v160
  let main_cst_20 : FVec F S_ .f32 := constant S_ .f32 0x322BCC77#32
  let main_v168 : FVec F S4x10000x117 .f32 := broadcastInDim S4x10000x117 ![] bcast_S_S4x10000x117 main_cst_20
  fn_part8 (F := F) main_arg3 main_arg5 main_v18 main_v25 main_v154 main_v165 main_v167 main_v168

def fn_part6 {F : FTy → Type} [FloatOps F] (main_arg2 : FVec F S4x10000x117 .f32) (main_arg3 : IVec S4x50 32) (main_arg5 : FVec F S4x50x117 .f32) (main_v18 : FVec F S4x10000x50 .f32) (main_v25 : FVec F S4x10000x50 .f32) (main_v50 : FVec F S4x10000x4 .f32) (main_v75 : FVec F S4x50x4 .f32) (main_v124 : FVec F S4x10000x50 .f32) (main_v127 : FVec F S4x10000x50 .f32) : IVec S4x50 1 × IVec S4x499999 1 × IVec S4 1 :=
  let main_v128 : FVec F S4x10000x2 .f32 := (extractStridedSlice S4x10000x2 ![0, 0, 0] · slices_S4x10000x4_S4x10000x2_0_0_0) main_v50
  let main_v129 : FVec F S4x10000x1x2 .f32 := broadcastInDim S4x10000x1x2 ![0, 1, 3] bcast_S4x10000x2_S4x10000x1x2_0_1_3 main_v128
  let main_v130 : FVec F S4x50x2 .f32 := (extractStridedSlice S4x50x2 ![0, 0, 0] · slices_S4x50x4_S4x50x2_0_0_0) main_v75
  let main_v131 : FVec F S4x1x50x2 .f32 := broadcastInDim S4x1x50x2 ![0, 2, 3] bcast_S4x50x2_S4x1x50x2_0_2_3 main_v130
  let main_v132 : FVec F S4x10000x50x2 .f32 := broadcastInDim S4x10000x50x2 ![0, 1, 2, 3] bcast_S4x10000x1x2_S4x10000x50x2_0_1_2_3 main_v129
  let main_v133 : FVec F S4x10000x50x2 .f32 := broadcastInDim S4x10000x50x2 ![0, 1, 2, 3] bcast_S4x1x50x2_S4x10000x50x2_0_1_2_3 main_v131
  let main_v134 : FVec F S4x10000x50x2 .f32 := minimumf main_v132 main_v133
  let main_v135 : FVec F S4x10000x2 .f32 := (extractStridedSlice S4x10000x2 ![0, 0, 2] · slices_S4x10000x4_S4x10000x2_0_0_2) main_v50
  let main_v136 : FVec F S4x10000x1x2 .f32 := broadcastInDim S4x10000x1x2 ![0, 1, 3] bcast_S4x10000x2_S4x10000x1x2_0_1_3 main_v135
  let main_v137 : FVec F S4x50x2 .f32 := (extractStridedSlice S4x50x2 ![0, 0, 2] · slices_S4x50x4_S4x50x2_0_0_2) main_v75
  let main_v138 : FVec F S4x1x50x2 .f32 := broadcastInDim S4x1x50x2 ![0, 2, 3] bcast_S4x50x2_S4x1x50x2_0_2_3 main_v137
  let main_v139 : FVec F S4x10000x50x2 .f32 := broadcastInDim S4x10000x50x2 ![0, 1, 2, 3] bcast_S4x10000x1x2_S4x10000x50x2_0_1_2_3 main_v136
  let main_v140 : FVec F S4x10000x50x2 .f32 := broadcastInDim S4x10000x50x2 ![0, 1, 2, 3] bcast_S4x1x50x2_S4x10000x50x2_0_1_2_3 main_v138
  let main_v141 : FVec F S4x10000x50x2 .f32 := maximumf main_v139 main_v140
  let main_v142 : FVec F S4x10000x50x2 .f32 := subf main_v141 main_v134
  let main_cst_14 : FVec F S_ .f32 := constant S_ .f32 0x00000000#32
  let main_v143 : FVec F S4x10000x50x2 .f32 := fn_clip (F := F) main_v142 main_cst_14
  let main_v144 : FVec F S4x10000x50x1 .f32 := (extractStridedSlice S4x10000x50x1 ![0, 0, 0, 0] · slices_S4x10000x50x2_S4x10000x50x1_0_0_0_0) main_v143
  let main_v145 : FVec F S4x10000x50 .f32 := shapeCast S4x10000x50 main_v144 shapeCasts_S4x10000x50x1_S4x10000x50
  let main_v146 : FVec F S4x10000x50x1 .f32 := (extractStridedSlice S4x10000x50x1 ![0, 0, 0, 1] · slices_S4x10000x50x2_S4x10000x50x1_0_0_0_1) main_v143
  let main_v147 : FVec F S4x10000x50 .f32 := shapeCast S4x10000x50 main_v146 shapeCasts_S4x10000x50x1_S4x10000x50
  let main_v148 : FVec F S4x10000x50 .f32 := mulf main_v145 main_v147
  let main_v149 : FVec F S4x10000x50 .f32 := subf main_v148 main_v124
  let main_cst_15 : FVec F S_ .f32 := constant S_ .f32 0x322BCC77#32
  fn_part7 (F := F) main_arg2 main_arg3 main_arg5 main_v18 main_v25 main_v127 main_v148 main_v149 main_cst_15

def fn_part5 {F : FTy → Type} [FloatOps F] (main_arg2 : FVec F S4x10000x117 .f32) (main_arg3 : IVec S4x50 32) (main_arg5 : FVec F S4x50x117 .f32) (main_v18 : FVec F S4x10000x50 .f32) (main_v25 : FVec F S4x10000x50 .f32) (main_v50 : FVec F S4x10000x4 .f32) (main_v75 : FVec F S4x50x4 .f32) (main_v86 : FVec F S4x10000 .f32) (main_v97 : FVec F S4x50 .f32) (main_v104 : FVec F S4x10000x50x2 .f32) (main_v105 : FVec F S4x10000x2 .f32) : IVec S4x50 1 × IVec S4x499999 1 × IVec S4 1 :=
  let main_v106 : FVec F S4x10000x1x2 .f32 := broadcastInDim S4x10000x1x2 ![0, 1, 3] bcast_S4x10000x2_S4x10000x1x2_0_1_3 main_v105
  let main_v107 : FVec F S4x50x2 .f32 := (extractStridedSlice S4x50x2 ![0, 0, 2] · slices_S4x50x4_S4x50x2_0_0_2) main_v75
  let main_v108 : FVec F S4x1x50x2 .f32 := broadcastInDim S4x1x50x2 ![0, 2, 3] bcast_S4x50x2_S4x1x50x2_0_2_3 main_v107
  let main_v109 : FVec F S4x10000x50x2 .f32 := broadcastInDim S4x10000x50x2 ![0, 1, 2, 3] bcast_S4x10000x1x2_S4x10000x50x2_0_1_2_3 main_v106
  let main_v110 : FVec F S4x10000x50x2 .f32 := broadcastInDim S4x10000x50x2 ![0, 1, 2, 3] bcast_S4x1x50x2_S4x10000x50x2_0_1_2_3 main_v108
  let main_v111 : FVec F S4x10000x50x2 .f32 := minimumf main_v109 main_v110
  let main_v112 : FVec F S4x10000x50x2 .f32 := subf main_v111 main_v104
  let main_cst_12 : FVec F S_ .f32 := constant S_ .f32 0x00000000#32
  let main_v113 : FVec F S4x10000x50x2 .f32 := fn_clip (F := F) main_v112 main_cst_12
  let main_v114 : FVec F S4x10000x50x1 .f32 := (extractStridedSlice S4x10000x50x1 ![0, 0, 0, 0] · slices_S4x10000x50x2_S4x10000x50x1_0_0_0_0) main_v113
  let main_v115 : FVec F S4x10000x50 .f32 := shapeCast S4x10000x50 main_v114 shapeCasts_S4x10000x50x1_S4x10000x50
  let main_v116 : FVec F S4x10000x50x1 .f32 := (extractStridedSlice S4x10000x50x1 ![0, 0, 0, 1] · slices_S4x10000x50x2_S4x10000x50x1_0_0_0_1) main_v113
  let main_v117 : FVec F S4x10000x50 .f32 := shapeCast S4x10000x50 main_v116 shapeCasts_S4x10000x50x1_S4x10000x50
  let main_v118 : FVec F S4x10000x50 .f32 := mulf main_v115 main_v117
  let main_v119 : FVec F S4x10000x1 .f32 := broadcastInDim S4x10000x1 ![0, 1] bcast_S4x10000_S4x10000x1_0_1 main_v86
  let main_v120 : FVec F S4x1x50 .f32 := broadcastInDim S4x1x50 ![0, 2] bcast_S4x50_S4x1x50_0_2 main_v97
  let main_v121 : FVec F S4x10000x50 .f32 := broadcastInDim S4x10000x50 ![0, 1, 2] bcast_S4x10000x1_S4x10000x50_0_1_2 main_v119
  let main_v122 : FVec F S4x10000x50 .f32 := broadcastInDim S4x10000x50 ![0, 1, 2] bcast_S4x1x50_S4x10000x50_0_1_2 main_v120
  let main_v123 : FVec F S4x10000x50 .f32 := addf main_v121 main_v122
  let main_v124 : FVec F S4x10000x50 .f32 := subf main_v123 main_v118
  let main_cst_13 : FVec F S_ .f32 := constant S_ .f32 0x322BCC77#32
  let main_v125 : FVec F S4x10000x50 .f32 := broadcastInDim S4x10000x50 ![] bcast_S_S4x10000x50 main_cst_13
  let main_v126 : FVec F S4x10000x50 .f32 := addf main_v124 main_v125
  let main_v127 : FVec F S4x10000x50 .f32 := Host.divf main_v118 main_v126
  fn_part6 (F := F) main_arg2 main_arg3 main_arg5 main_v18 main_v25 main_v50 main_v75 main_v124 main_v127

def fn_part4 {F : FTy → Type} [FloatOps F] (main_arg2 : FVec F S4x10000x117 .f32) (main_arg3 : IVec S4x50 32) (main_arg5 : FVec F S4x50x117 .f32) (main_v18 : FVec F S4x10000x50 .f32) (main_v25 : FVec F S4x10000x50 .f32) (main_v50 : FVec F S4x10000x4 .f32) (main_v75 : FVec F S4x50x4 .f32) (main_v80 : FVec F S4x10000 .f32) (main_v81 : FVec F S4x10000x1 .f32) : IVec S4x50 1 × IVec S4x499999 1 × IVec S4 1 :=
  let main_v82 : FVec F S4x10000 .f32 := shapeCast S4x10000 main_v81 shapeCasts_S4x10000x1_S4x10000
  let main_v83 : FVec F S4x10000x1 .f32 := (extractStridedSlice S4x10000x1 ![0, 0, 1] · slices_S4x10000x4_S4x10000x1_0_0_1) main_v50
  let main_v84 : FVec F S4x10000 .f32 := shapeCast S4x10000 main_v83 shapeCasts_S4x10000x1_S4x10000
  let main_v85 : FVec F S4x10000 .f32 := subf main_v82 main_v84
  let main_v86 : FVec F S4x10000 .f32 := mulf main_v80 main_v85
  let main_v87 : FVec F S4x50x1 .f32 := (extractStridedSlice S4x50x1 ![0, 0, 2] · slices_S4x50x4_S4x50x1_0_0_2) main_v75
  let main_v88 : FVec F S4x50 .f32 := shapeCast S4x50 main_v87 shapeCasts_S4x50x1_S4x50
  let main_v89 : FVec F S4x50x1 .f32 := (extractStridedSlice S4x50x1 ![0, 0, 0] · slices_S4x50x4_S4x50x1_0_0_0) main_v75
  let main_v90 : FVec F S4x50 .f32 := shapeCast S4x50 main_v89 shapeCasts_S4x50x1_S4x50
  let main_v91 : FVec F S4x50 .f32 := subf main_v88 main_v90
  let main_v92 : FVec F S4x50x1 .f32 := (extractStridedSlice S4x50x1 ![0, 0, 3] · slices_S4x50x4_S4x50x1_0_0_3) main_v75
  let main_v93 : FVec F S4x50 .f32 := shapeCast S4x50 main_v92 shapeCasts_S4x50x1_S4x50
  let main_v94 : FVec F S4x50x1 .f32 := (extractStridedSlice S4x50x1 ![0, 0, 1] · slices_S4x50x4_S4x50x1_0_0_1) main_v75
  let main_v95 : FVec F S4x50 .f32 := shapeCast S4x50 main_v94 shapeCasts_S4x50x1_S4x50
  let main_v96 : FVec F S4x50 .f32 := subf main_v93 main_v95
  let main_v97 : FVec F S4x50 .f32 := mulf main_v91 main_v96
  let main_v98 : FVec F S4x10000x2 .f32 := (extractStridedSlice S4x10000x2 ![0, 0, 0] · slices_S4x10000x4_S4x10000x2_0_0_0) main_v50
  let main_v99 : FVec F S4x10000x1x2 .f32 := broadcastInDim S4x10000x1x2 ![0, 1, 3] bcast_S4x10000x2_S4x10000x1x2_0_1_3 main_v98
  let main_v100 : FVec F S4x50x2 .f32 := (extractStridedSlice S4x50x2 ![0, 0, 0] · slices_S4x50x4_S4x50x2_0_0_0) main_v75
  let main_v101 : FVec F S4x1x50x2 .f32 := broadcastInDim S4x1x50x2 ![0, 2, 3] bcast_S4x50x2_S4x1x50x2_0_2_3 main_v100
  let main_v102 : FVec F S4x10000x50x2 .f32 := broadcastInDim S4x10000x50x2 ![0, 1, 2, 3] bcast_S4x10000x1x2_S4x10000x50x2_0_1_2_3 main_v99
  let main_v103 : FVec F S4x10000x50x2 .f32 := broadcastInDim S4x10000x50x2 ![0, 1, 2, 3] bcast_S4x1x50x2_S4x10000x50x2_0_1_2_3 main_v101
  let main_v104 : FVec F S4x10000x50x2 .f32 := maximumf main_v102 main_v103
  let main_v105 : FVec F S4x10000x2 .f32 := (extractStridedSlice S4x10000x2 ![0, 0, 2] · slices_S4x10000x4_S4x10000x2_0_0_2) main_v50
  fn_part5 (F := F) main_arg2 main_arg3 main_arg5 main_v18 main_v25 main_v50 main_v75 main_v86 main_v97 main_v104 main_v105

def fn_part3 {F : FTy → Type} [FloatOps F] (main_arg2 : FVec F S4x10000x117 .f32) (main_arg3 : IVec S4x50 32) (main_arg5 : FVec F S4x50x117 .f32) (main_v18 : FVec F S4x10000x50 .f32) (main_v25 : FVec F S4x10000x50 .f32) (main_v50 : FVec F S4x10000x4 .f32) (main_v52 : FVec F S4x50 .f32) (main_v54 : FVec F S4x50 .f32) (main_v56 : FVec F S4x50 .f32) (main_v58 : FVec F S4x50 .f32) (main_v60 : FVec F S4x50 .f32) : IVec S4x50 1 × IVec S4x499999 1 × IVec S4 1 :=
  let main_v61 : FVec F S4x50 .f32 := subf main_v52 main_v60
  let main_cst_9 : FVec F S_ .f32 := constant S_ .f32 0x3F000000#32
  let main_v62 : FVec F S4x50 .f32 := broadcastInDim S4x50 ![] bcast_S_S4x50 main_cst_9
  let main_v63 : FVec F S4x50 .f32 := mulf main_v62 main_v58
  let main_v64 : FVec F S4x50 .f32 := subf main_v54 main_v63
  let main_cst_10 : FVec F S_ .f32 := constant S_ .f32 0x3F000000#32
  let main_v65 : FVec F S4x50 .f32 := broadcastInDim S4x50 ![] bcast_S_S4x50 main_cst_10
  let main_v66 : FVec F S4x50 .f32 := mulf main_v65 main_v56
  let main_v67 : FVec F S4x50 .f32 := addf main_v52 main_v66
  let main_cst_11 : FVec F S_ .f32 := constant S_ .f32 0x3F000000#32
  let main_v68 : FVec F S4x50 .f32 := broadcastInDim S4x50 ![] bcast_S_S4x50 main_cst_11
  let main_v69 : FVec F S4x50 .f32 := mulf main_v68 main_v58
  let main_v70 : FVec F S4x50 .f32 := addf main_v54 main_v69
  let main_v71 : FVec F S4x50x1 .f32 := broadcastInDim S4x50x1 ![0, 1] bcast_S4x50_S4x50x1_0_1 main_v61
  let main_v72 : FVec F S4x50x1 .f32 := broadcastInDim S4x50x1 ![0, 1] bcast_S4x50_S4x50x1_0_1 main_v64
  let main_v73 : FVec F S4x50x1 .f32 := broadcastInDim S4x50x1 ![0, 1] bcast_S4x50_S4x50x1_0_1 main_v67
  let main_v74 : FVec F S4x50x1 .f32 := broadcastInDim S4x50x1 ![0, 1] bcast_S4x50_S4x50x1_0_1 main_v70
  let main_v75 : FVec F S4x50x4 .f32 := concatenate S4x50x4 2 [⟨S4x50x1, main_v71⟩, ⟨S4x50x1, main_v72⟩, ⟨S4x50x1, main_v73⟩, ⟨S4x50x1, main_v74⟩] concatenates_S4x50x1_S4x50x1_S4x50x1_S4x50x1_S4x50x4_d2
  let main_v76 : FVec F S4x10000x1 .f32 := (extractStridedSlice S4x10000x1 ![0, 0, 2] · slices_S4x10000x4_S4x10000x1_0_0_2) main_v50
  let main_v77 : FVec F S4x10000 .f32 := shapeCast S4x10000 main_v76 shapeCasts_S4x10000x1_S4x10000
  let main_v78 : FVec F S4x10000x1 .f32 := (extractStridedSlice S4x10000x1 ![0, 0, 0] · slices_S4x10000x4_S4x10000x1_0_0_0) main_v50
  let main_v79 : FVec F S4x10000 .f32 := shapeCast S4x10000 main_v78 shapeCasts_S4x10000x1_S4x10000
  let main_v80 : FVec F S4x10000 .f32 := subf main_v77 main_v79
  let main_v81 : FVec F S4x10000x1 .f32 := (extractStridedSlice S4x10000x1 ![0, 0, 3] · slices_S4x10000x4_S4x10000x1_0_0_3) main_v50
  fn_part4 (F := F) main_arg2 main_arg3 main_arg5 main_v18 main_v25 main_v50 main_v75 main_v80 main_v81

def fn_part2 {F : FTy → Type} [FloatOps F] (main_arg2 : FVec F S4x10000x117 .f32) (main_arg3 : IVec S4x50 32) (main_arg4 : FVec F S4x50x4 .f32) (main_arg5 : FVec F S4x50x117 .f32) (main_v18 : FVec F S4x10000x50 .f32) (main_v25 : FVec F S4x10000x50 .f32) (main_v27 : FVec F S4x10000 .f32) (main_v29 : FVec F S4x10000 .f32) (main_v31 : FVec F S4x10000 .f32) (main_v33 : FVec F S4x10000 .f32) (main_v36 : FVec F S4x10000 .f32) (main_v39 : FVec F S4x10000 .f32) : IVec S4x50 1 × IVec S4x499999 1 × IVec S4 1 :=
  let main_cst_6 : FVec F S_ .f32 := constant S_ .f32 0x3F000000#32
  let main_v40 : FVec F S4x10000 .f32 := broadcastInDim S4x10000 ![] bcast_S_S4x10000 main_cst_6
  let main_v41 : FVec F S4x10000 .f32 := mulf main_v40 main_v31
  let main_v42 : FVec F S4x10000 .f32 := addf main_v27 main_v41
  let main_cst_7 : FVec F S_ .f32 := constant S_ .f32 0x3F000000#32
  let main_v43 : FVec F S4x10000 .f32 := broadcastInDim S4x10000 ![] bcast_S_S4x10000 main_cst_7
  let main_v44 : FVec F S4x10000 .f32 := mulf main_v43 main_v33
  let main_v45 : FVec F S4x10000 .f32 := addf main_v29 main_v44
  let main_v46 : FVec F S4x10000x1 .f32 := broadcastInDim S4x10000x1 ![0, 1] bcast_S4x10000_S4x10000x1_0_1 main_v36
  let main_v47 : FVec F S4x10000x1 .f32 := broadcastInDim S4x10000x1 ![0, 1] bcast_S4x10000_S4x10000x1_0_1 main_v39
  let main_v48 : FVec F S4x10000x1 .f32 := broadcastInDim S4x10000x1 ![0, 1] bcast_S4x10000_S4x10000x1_0_1 main_v42
  let main_v49 : FVec F S4x10000x1 .f32 := broadcastInDim S4x10000x1 ![0, 1] bcast_S4x10000_S4x10000x1_0_1 main_v45
  let main_v50 : FVec F S4x10000x4 .f32 := concatenate S4x10000x4 2 [⟨S4x10000x1, main_v46⟩, ⟨S4x10000x1, main_v47⟩, ⟨S4x10000x1, main_v48⟩, ⟨S4x10000x1, main_v49⟩] concatenates_S4x10000x1_S4x10000x1_S4x10000x1_S4x10000x1_S4x10000x4_d2
  let main_v51 : FVec F S4x50x1 .f32 := (extractStridedSlice S4x50x1 ![0, 0, 0] · slices_S4x50x4_S4x50x1_0_0_0) main_arg4
  let main_v52 : FVec F S4x50 .f32 := shapeCast S4x50 main_v51 shapeCasts_S4x50x1_S4x50
  let main_v53 : FVec F S4x50x1 .f32 := (extractStridedSlice S4x50x1 ![0, 0, 1] · slices_S4x50x4_S4x50x1_0_0_1) main_arg4
  let main_v54 : FVec F S4x50 .f32 := shapeCast S4x50 main_v53 shapeCasts_S4x50x1_S4x50
  let main_v55 : FVec F S4x50x1 .f32 := (extractStridedSlice S4x50x1 ![0, 0, 2] · slices_S4x50x4_S4x50x1_0_0_2) main_arg4
  let main_v56 : FVec F S4x50 .f32 := shapeCast S4x50 main_v55 shapeCasts_S4x50x1_S4x50
  let main_v57 : FVec F S4x50x1 .f32 := (extractStridedSlice S4x50x1 ![0, 0, 3] · slices_S4x50x4_S4x50x1_0_0_3) main_arg4
  let main_v58 : FVec F S4x50 .f32 := shapeCast S4x50 main_v57 shapeCasts_S4x50x1_S4x50
  let main_cst_8 : FVec F S_ .f32 := constant S_ .f32 0x3F000000#32
  let main_v59 : FVec F S4x50 .f32 := broadcastInDim S4x50 ![] bcast_S_S4x50 main_cst_8
  let main_v60 : FVec F S4x50 .f32 := mulf main_v59 main_v56
  fn_part3 (F := F) main_arg2 main_arg3 main_arg5 main_v18 main_v25 main_v50 main_v52 main_v54 main_v56 main_v58 main_v60

def fn_part1 {F : FTy → Type} [FloatOps F] (main_arg1 : FVec F S4x10000x4 .f32) (main_arg2 : FVec F S4x10000x117 .f32) (main_arg3 : IVec S4x50 32) (main_arg4 : FVec F S4x50x4 .f32) (main_arg5 : FVec F S4x50x117 .f32) (main_v18 : FVec F S4x10000x50 .f32) : IVec S4x50 1 × IVec S4x499999 1 × IVec S4 1 :=
  let main_v19 : FVec F S4x10000x1x4 .f32 := broadcastInDim S4x10000x1x4 ![0, 1, 3] bcast_S4x10000x4_S4x10000x1x4_0_1_3 main_arg1
  let main_v20 : FVec F S4x1x50x4 .f32 := broadcastInDim S4x1x50x4 ![0, 2, 3] bcast_S4x50x4_S4x1x50x4_0_2_3 main_arg4
  let main_v21 : FVec F S4x10000x50x4 .f32 := broadcastInDim S4x10000x50x4 ![0, 1, 2, 3] bcast_S4x10000x1x4_S4x10000x50x4_0_1_2_3 main_v19
  let main_v22 : FVec F S4x10000x50x4 .f32 := broadcastInDim S4x10000x50x4 ![0, 1, 2, 3] bcast_S4x1x50x4_S4x10000x50x4_0_1_2_3 main_v20
  let main_v23 : FVec F S4x10000x50x4 .f32 := subf main_v21 main_v22
  let main_v24 : FVec F S4x10000x50x4 .f32 := Host.absf main_v23
  let main_cst_3 : FVec F S_ .f32 := constant S_ .f32 0x00000000#32
  let main_v25 : FVec F S4x10000x50 .f32 := (fun x v => Host.reduceAdd x v reducesTo_S4x10000x50x4_S4x10000x50_d3 h_S_) main_v24 main_cst_3
  let main_v26 : FVec F S4x10000x1 .f32 := (extractStridedSlice S4x10000x1 ![0, 0, 0] · slices_S4x10000x4_S4x10000x1_0_0_0) main_arg1
  let main_v27 : FVec F S4x10000 .f32 := shapeCast S4x10000 main_v26 shapeCasts_S4x10000x1_S4x10000
  let main_v28 : FVec F S4x10000x1 .f32 := (extractStridedSlice S4x10000x1 ![0, 0, 1] · slices_S4x10000x4_S4x10000x1_0_0_1) main_arg1
  let main_v29 : FVec F S4x10000 .f32 := shapeCast S4x10000 main_v28 shapeCasts_S4x10000x1_S4x10000
  let main_v30 : FVec F S4x10000x1 .f32 := (extractStridedSlice S4x10000x1 ![0, 0, 2] · slices_S4x10000x4_S4x10000x1_0_0_2) main_arg1
  let main_v31 : FVec F S4x10000 .f32 := shapeCast S4x10000 main_v30 shapeCasts_S4x10000x1_S4x10000
  let main_v32 : FVec F S4x10000x1 .f32 := (extractStridedSlice S4x10000x1 ![0, 0, 3] · slices_S4x10000x4_S4x10000x1_0_0_3) main_arg1
  let main_v33 : FVec F S4x10000 .f32 := shapeCast S4x10000 main_v32 shapeCasts_S4x10000x1_S4x10000
  let main_cst_4 : FVec F S_ .f32 := constant S_ .f32 0x3F000000#32
  let main_v34 : FVec F S4x10000 .f32 := broadcastInDim S4x10000 ![] bcast_S_S4x10000 main_cst_4
  let main_v35 : FVec F S4x10000 .f32 := mulf main_v34 main_v31
  let main_v36 : FVec F S4x10000 .f32 := subf main_v27 main_v35
  let main_cst_5 : FVec F S_ .f32 := constant S_ .f32 0x3F000000#32
  let main_v37 : FVec F S4x10000 .f32 := broadcastInDim S4x10000 ![] bcast_S_S4x10000 main_cst_5
  let main_v38 : FVec F S4x10000 .f32 := mulf main_v37 main_v33
  let main_v39 : FVec F S4x10000 .f32 := subf main_v29 main_v38
  fn_part2 (F := F) main_arg2 main_arg3 main_arg4 main_arg5 main_v18 main_v25 main_v27 main_v29 main_v31 main_v33 main_v36 main_v39

def fn {F : FTy → Type} [FloatOps F] (main_arg0 : FVec F S4x10000x81 .f32) (main_arg1 : FVec F S4x10000x4 .f32) (main_arg2 : FVec F S4x10000x117 .f32) (main_arg3 : IVec S4x50 32) (main_arg4 : FVec F S4x50x4 .f32) (main_arg5 : FVec F S4x50x117 .f32) : IVec S4x50 1 × IVec S4x499999 1 × IVec S4 1 :=
  let main_cst : FVec F S_ .f32 := constant S_ .f32 0xFF800000#32
  let main_v0 : FVec F S4x10000 .f32 := (fun x v => Host.reduce FloatOps.maximumf x v reducesTo_S4x10000x81_S4x10000_d2 h_S_) main_arg0 main_cst
  let main_cst_0 : FVec F S_ .f32 := constant S_ .f32 0xFF800000#32
  let main_v1 : FVec F S4x10000 .f32 := broadcastInDim S4x10000 ![] bcast_S_S4x10000 main_cst_0
  let main_v2 : FVec F S4x10000 .f32 := maximumf main_v1 main_v0
  let main_v3 : FVec F S4x10000x1 .f32 := broadcastInDim S4x10000x1 ![0, 1] bcast_S4x10000_S4x10000x1_0_1 main_v2
  let main_v4 : FVec F S4x10000x81 .f32 := broadcastInDim S4x10000x81 ![0, 1, 2] bcast_S4x10000x1_S4x10000x81_0_1_2 main_v3
  let main_v5 : FVec F S4x10000x81 .f32 := subf main_arg0 main_v4
  let main_v6 : FVec F S4x10000x81 .f32 := Host.exp main_v5
  let main_cst_1 : FVec F S_ .f32 := constant S_ .f32 0x00000000#32
  let main_v7 : FVec F S4x10000 .f32 := (fun x v => Host.reduceAdd x v reducesTo_S4x10000x81_S4x10000_d2 h_S_) main_v6 main_cst_1
  let main_v8 : FVec F S4x10000x1 .f32 := broadcastInDim S4x10000x1 ![0, 1] bcast_S4x10000_S4x10000x1_0_1 main_v7
  let main_v9 : FVec F S4x10000x81 .f32 := broadcastInDim S4x10000x81 ![0, 1, 2] bcast_S4x10000x1_S4x10000x81_0_1_2 main_v8
  let main_v10 : FVec F S4x10000x81 .f32 := Host.divf main_v6 main_v9
  let main_c : IVec S_ 32 := constantI S_ 32 0#32
  let main_v11 : IVec S4x50 32 := broadcastInDim S4x50 ![] bcast_S_S4x50 main_c
  let main_v12 : IVec S4x50 1 := cmpi .slt main_arg3 main_v11
  let main_c_2 : IVec S_ 32 := constantI S_ 32 81#32
  let main_v13 : IVec S4x50 32 := broadcastInDim S4x50 ![] bcast_S_S4x50 main_c_2
  let main_v14 : IVec S4x50 32 := addi main_arg3 main_v13
  let main_v15 : IVec S4x50 32 := select main_v12 main_v14 main_arg3
  let main_v16 : IVec S4x50x1 32 := broadcastInDim S4x50x1 ![0, 1] bcast_S4x50_S4x50x1_0_1 main_v15
  let main_v17 : FVec F S4x10000x50 .f32 := (fun x i => Host.gather gather_S4x10000x81_S4x50x1_S4x10000x50_1_2_0_0_2_2_1100001 x i) main_v10 main_v16
  let main_v18 : FVec F S4x10000x50 .f32 := Host.negf main_v17
  fn_part1 (F := F) main_arg1 main_arg2 main_arg3 main_arg4 main_arg5 main_v18
-- ==== Pre_labels_in_range.lean ====
abbrev S4x10000x81 : Shape := ⟨3, ![4, 10000, 81]⟩
abbrev S4x10000x4 : Shape := ⟨3, ![4, 10000, 4]⟩
abbrev S4x10000x117 : Shape := ⟨3, ![4, 10000, 117]⟩
abbrev S4x50 : Shape := ⟨2, ![4, 50]⟩
abbrev S4x50x4 : Shape := ⟨3, ![4, 50, 4]⟩
abbrev S4x50x117 : Shape := ⟨3, ![4, 50, 117]⟩
abbrev S_ : Shape := ⟨0, ![]⟩

class Facts : Prop where
  bcast_S_S4x50 : S_.BroadcastsInDim S4x50 (![] : Fin 0 → Fin S4x50.rank)

variable [Facts]

def fn {F : FTy → Type} [FloatOps F] (main_arg0 : FVec F S4x10000x81 .f32) (main_arg1 : FVec F S4x10000x4 .f32) (main_arg2 : FVec F S4x10000x117 .f32) (main_arg3 : IVec S4x50 32) (main_arg4 : FVec F S4x50x4 .f32) (main_arg5 : FVec F S4x50x117 .f32) : IVec S4x50 1 :=
  let main_c : IVec S_ 32 := constantI S_ 32 0#32
  let main_v0 : IVec S4x50 32 := broadcastInDim S4x50 ![] bcast_S_S4x50 main_c
  let main_v1 : IVec S4x50 1 := cmpi .sge main_arg3 main_v0
  let main_c_0 : IVec S_ 32 := constantI S_ 32 80#32
  let main_v2 : IVec S4x50 32 := broadcastInDim S4x50 ![] bcast_S_S4x50 main_c_0
  let main_v3 : IVec S4x50 1 := cmpi .sle main_arg3 main_v2
  let main_v4 : IVec S4x50 1 := andi main_v1 main_v3
  main_v4
-- ==== KernelIdeal.lean ====
abbrev S4x10000x81 : Shape := ⟨3, ![4, 10000, 81]⟩
abbrev S4x10000x4 : Shape := ⟨3, ![4, 10000, 4]⟩
abbrev S4x10000x117 : Shape := ⟨3, ![4, 10000, 117]⟩
abbrev S4x50 : Shape := ⟨2, ![4, 50]⟩
abbrev S4x50x4 : Shape := ⟨3, ![4, 50, 4]⟩
abbrev S4x50x117 : Shape := ⟨3, ![4, 50, 117]⟩
abbrev S4x1x50 : Shape := ⟨3, ![4, 1, 50]⟩
abbrev S4x4x50 : Shape := ⟨3, ![4, 4, 50]⟩
abbrev S4x117x50 : Shape := ⟨3, ![4, 117, 50]⟩
abbrev S4x10000x50 : Shape := ⟨3, ![4, 10000, 50]⟩
abbrev S1x10000x81 : Shape := ⟨3, ![1, 10000, 81]⟩
abbrev S1x10000x4 : Shape := ⟨3, ![1, 10000, 4]⟩
abbrev S1x10000x117 : Shape := ⟨3, ![1, 10000, 117]⟩
abbrev S1x1x50 : Shape := ⟨3, ![1, 1, 50]⟩
abbrev S1x4x50 : Shape := ⟨3, ![1, 4, 50]⟩
abbrev S1x117x50 : Shape := ⟨3, ![1, 117, 50]⟩
abbrev S1x10000x50 : Shape := ⟨3, ![1, 10000, 50]⟩
abbrev S1x50 : Shape := ⟨2, ![1, 50]⟩
abbrev S117x50 : Shape := ⟨2, ![117, 50]⟩
abbrev S81x50 : Shape := ⟨2, ![81, 50]⟩
abbrev S1x2000x81 : Shape := ⟨3, ![1, 2000, 81]⟩
abbrev S2000x81 : Shape := ⟨2, ![2000, 81]⟩
abbrev S2000 : Shape := ⟨1, ![2000]⟩
abbrev S2000x1 : Shape := ⟨2, ![2000, 1]⟩
abbrev S2000x50 : Shape := ⟨2, ![2000, 50]⟩
abbrev S1x2000x4 : Shape := ⟨3, ![1, 2000, 4]⟩
abbrev S2000x4 : Shape := ⟨2, ![2000, 4]⟩
abbrev S1x2000x117 : Shape := ⟨3, ![1, 2000, 117]⟩
abbrev S2000x117 : Shape := ⟨2, ![2000, 117]⟩
abbrev S1x2000x50 : Shape := ⟨3, ![1, 2000, 50]⟩
abbrev S200x50 : Shape := ⟨2, ![200, 50]⟩
abbrev S50x50 : Shape := ⟨2, ![50, 50]⟩
abbrev S1x200x50 : Shape := ⟨3, ![1, 200, 50]⟩
abbrev S50 : Shape := ⟨1, ![50]⟩
abbrev S1x50x50 : Shape := ⟨3, ![1, 50, 50]⟩
abbrev S1 : Shape := ⟨1, ![1]⟩
abbrev S1x1x1 : Shape := ⟨3, ![1, 1, 1]⟩
abbrev S200 : Shape := ⟨1, ![200]⟩
abbrev S200x1 : Shape := ⟨2, ![200, 1]⟩

abbrev nBuf : Space → Nat
  | .hbm => 14
  | .vmem => 18
  | .smem => 0
  | _ => 0

abbrev bufTy : (tb : Table) → Fin (tcTables nBuf tb) → BufTy
  | .hbm, ⟨0, _⟩ => ⟨S4x10000x81, .f32⟩
  | .hbm, ⟨1, _⟩ => ⟨S4x10000x4, .f32⟩
  | .hbm, ⟨2, _⟩ => ⟨S4x10000x117, .f32⟩
  | .hbm, ⟨3, _⟩ => ⟨S4x50, .i32⟩
  | .hbm, ⟨4, _⟩ => ⟨S4x50x4, .f32⟩
  | .hbm, ⟨5, _⟩ => ⟨S4x50x117, .f32⟩
  | .hbm, ⟨6, _⟩ => ⟨S4x1x50, .i32⟩
  | .hbm, ⟨7, _⟩ => ⟨S4x4x50, .f32⟩
  | .hbm, ⟨8, _⟩ => ⟨S4x117x50, .f32⟩
  | .hbm, ⟨9, _⟩ => ⟨S4x10000x50, .f32⟩
  | .hbm, ⟨10, _⟩ => ⟨S4x1x50, .i32⟩
  | .hbm, ⟨11, _⟩ => ⟨S4x1x50, .i32⟩
  | .hbm, ⟨12, _⟩ => ⟨S4x50, .i32⟩
  | .hbm, ⟨13, _⟩ => ⟨S4x50, .i32⟩
  | .local _ .vmem, ⟨0, _⟩ => ⟨S1x10000x81, .f32⟩
  | .local _ .vmem, ⟨1, _⟩ => ⟨S1x10000x81, .f32⟩
  | .local _ .vmem, ⟨2, _⟩ => ⟨S1x10000x4, .f32⟩
  | .local _ .vmem, ⟨3, _⟩ => ⟨S1x10000x4, .f32⟩
  | .local _ .vmem, ⟨4, _⟩ => ⟨S1x10000x117, .f32⟩
  | .local _ .vmem, ⟨5, _⟩ => ⟨S1x10000x117, .f32⟩
  | .local _ .vmem, ⟨6, _⟩ => ⟨S1x1x50, .i32⟩
  | .local _ .vmem, ⟨7, _⟩ => ⟨S1x1x50, .i32⟩
  | .local _ .vmem, ⟨8, _⟩ => ⟨S1x4x50, .f32⟩
  | .local _ .vmem, ⟨9, _⟩ => ⟨S1x4x50, .f32⟩
  | .local _ .vmem, ⟨10, _⟩ => ⟨S1x117x50, .f32⟩
  | .local _ .vmem, ⟨11, _⟩ => ⟨S1x117x50, .f32⟩
  | .local _ .vmem, ⟨12, _⟩ => ⟨S1x10000x50, .f32⟩
  | .local _ .vmem, ⟨13, _⟩ => ⟨S1x10000x50, .f32⟩
  | .local _ .vmem, ⟨14, _⟩ => ⟨S1x1x50, .i32⟩
  | .local _ .vmem, ⟨15, _⟩ => ⟨S1x1x50, .i32⟩
  | .local _ .vmem, ⟨16, _⟩ => ⟨S1x1x50, .i32⟩
  | .local _ .vmem, ⟨17, _⟩ => ⟨S1x1x50, .i32⟩
  | _, _ => ⟨S4x10000x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c5_i32 : BitVec 32 := 5#32
  let v32 : BitVec 32 := Scalar.addi c0_i32 c5_i32
  let c1_i32 : BitVec 32 := 1#32
  ⟨c0_i32, v32, c1_i32⟩
def k0_off1 (k0_t1 : Fin k0_t1_loop.trips) : Fin 3 → Nat :=
  let c0_33 : Index := 0#32
  let c0_i32 : BitVec 32 := 0#32
  let c1_i32 : BitVec 32 := 1#32
  let arg10 : BitVec 32 := Scf.iv c0_i32 c1_i32 k0_t1
  let c2000_i32 : BitVec 32 := 2000#32
  let v58 : BitVec 32 := Scalar.muli arg10 c2000_i32
  let v59 : Index := Scalar.indexCast v58
  let c0_34 : Index := 0#32
  ![0, v59.toNat, 0]
def k0_off2 (k0_t1 : Fin k0_t1_loop.trips) : Fin 3 → Nat :=
  let c0_39 : Index := 0#32
  let c0_i32 : BitVec 32 := 0#32
  let c1_i32 : BitVec 32 := 1#32
  let arg10 : BitVec 32 := Scf.iv c0_i32 c1_i32 k0_t1
  let c2000_i32 : BitVec 32 := 2000#32
  let v58 : BitVec 32 := Scalar.muli arg10 c2000_i32
  let v74 : Index := Scalar.indexCast v58
  let c0_40 : Index := 0#32
  ![0, v74.toNat, 0]
def k0_off3 (k0_t1 : Fin k0_t1_loop.trips) : Fin 3 → Nat :=
  let c0_52 : Index := 0#32
  let c0_i32 : BitVec 32 := 0#32
  let c1_i32 : BitVec 32 := 1#32
  let arg10 : BitVec 32 := Scf.iv c0_i32 c1_i32 k0_t1
  let c2000_i32 : BitVec 32 := 2000#32
  let v58 : BitVec 32 := Scalar.muli arg10 c2000_i32
  let v167 : Index := Scalar.indexCast v58
  let c0_53 : Index := 0#32
  ![0, v167.toNat, 0]
def k0_off4 (k0_t1 : Fin k0_t1_loop.trips) : Fin 3 → Nat :=
  let c0_65 : Index := 0#32
  let c0_i32 : BitVec 32 := 0#32
  let c1_i32 : BitVec 32 := 1#32
  let arg10 : BitVec 32 := Scf.iv c0_i32 c1_i32 k0_t1
  let c2000_i32 : BitVec 32 := 2000#32
  let v58 : BitVec 32 := Scalar.muli arg10 c2000_i32
  let v197 : Index := Scalar.indexCast v58
  let c0_66 : Index := 0#32
  ![0, v197.toNat, 0]
@[reducible] def k0_t2_loop : Scf.Loop 32 :=
  let c0_i32_15 : BitVec 32 := 0#32
  let c50_i32 : BitVec 32 := 50#32
  let v38 : BitVec 32 := Scalar.addi c0_i32_15 c50_i32
  let c1_i32_16 : BitVec 32 := 1#32
  ⟨c0_i32_15, v38, c1_i32_16⟩
def k0_off5 (k0_t2 : Fin k0_t2_loop.trips) : Fin 3 → Nat :=
  let c0_33 : Index := 0#32
  let c0_i32_15 : BitVec 32 := 0#32
  let c1_i32_16 : BitVec 32 := 1#32
  let arg10 : BitVec 32 := Scf.iv c0_i32_15 c1_i32_16 k0_t2
  let c200_i32 : BitVec 32 := 200#32
  let v58 : BitVec 32 := Scalar.muli arg10 c200_i32
  let v59 : Index := Scalar.indexCast v58
  let c0_34 : Index := 0#32
  ![0, v59.toNat, 0]
@[reducible] def k0_t3_loop : Scf.Loop 32 :=
  let c0_i32_23 : BitVec 32 := 0#32
  let c50_i32_24 : BitVec 32 := 50#32
  let v50 : BitVec 32 := Scalar.addi c0_i32_23 c50_i32_24
  let c1_i32_25 : BitVec 32 := 1#32
  ⟨c0_i32_23, v50, c1_i32_25⟩
def k0_off6 (v71 : BitVec 32) : Fin 3 → Nat :=
  let c0_50 : Index := 0#32
  let c0_i32_36 : BitVec 32 := 0#32
  let v73 : BitVec 1 := Scalar.cmpi .sgt v71 c0_i32_36
  let v74 : BitVec 32 := Scalar.extui v73
  let c0_i32_37 : BitVec 32 := 0#32
  let v75 : BitVec 1 := Scalar.cmpi .slt v71 c0_i32_37
  let v76 : BitVec 32 := Scalar.extui v75
  let v77 : BitVec 32 := Scalar.subi v74 v76
  let c50_i32_35 : BitVec 32 := 50#32
  let c0_i32_38 : BitVec 32 := 0#32
  let v78 : BitVec 1 := Scalar.cmpi .sgt c50_i32_35 c0_i32_38
  let v79 : BitVec 32 := Scalar.extui v78
  let c0_i32_39 : BitVec 32 := 0#32
  let v80 : BitVec 1 := Scalar.cmpi .slt c50_i32_35 c0_i32_39
  let v81 : BitVec 32 := Scalar.extui v80
  let v82 : BitVec 32 := Scalar.subi v79 v81
  let v83 : BitVec 1 := Scalar.cmpi .ne v77 v82
  let v84 : BitVec 32 := Scalar.remsi v71 c50_i32_35
  let c0_i32_40 : BitVec 32 := 0#32
  let v85 : BitVec 1 := Scalar.cmpi .ne v84 c0_i32_40
  let v86 : BitVec 1 := Scalar.andi v83 v85
  let v72 : BitVec 32 := Scalar.divsi v71 c50_i32_35
  let c1_i32_41 : BitVec 32 := 1#32
  let v87 : BitVec 32 := Scalar.subi v72 c1_i32_41
  let v88 : BitVec 32 := Scalar.select v86 v87 v72
  let c200_i32_49 : BitVec 32 := 200#32
  let v124 : BitVec 32 := Scalar.muli v88 c200_i32_49
  let v125 : Index := Scalar.indexCast v124
  let c0_51 : Index := 0#32
  ![0, v125.toNat, 0]

def k0_chk1 (v71 : BitVec 32) : Prop :=
  (∀ a, (k0_off6 v71) a + S1x200x50.size a ≤ S1x10000x50.size a)
theorem k0_off6_inb : ∀ (v71 : BitVec 32) (k0_hw1 : k0_chk1 v71), ∀ a, (k0_off6 v71) a + S1x200x50.size a ≤ S1x10000x50.size a := fun v71 k0_hw1 => k0_hw1

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x10000x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x10000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x10000x117 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x50 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x50 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x117x50 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x10000x50 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x50 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x50 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4x10000x81 : Shape := ⟨3, ![4, 10000, 81]⟩
abbrev S4x10000x4 : Shape := ⟨3, ![4, 10000, 4]⟩
abbrev S4x10000x117 : Shape := ⟨3, ![4, 10000, 117]⟩
abbrev S4x50 : Shape := ⟨2, ![4, 50]⟩
abbrev S4x50x4 : Shape := ⟨3, ![4, 50, 4]⟩
abbrev S4x50x117 : Shape := ⟨3, ![4, 50, 117]⟩
abbrev S_ : Shape := ⟨0, ![]⟩
abbrev S4x10000 : Shape := ⟨2, ![4, 10000]⟩
abbrev S4x10000x1 : Shape := ⟨3, ![4, 10000, 1]⟩
abbrev S4x50x1 : Shape := ⟨3, ![4, 50, 1]⟩
abbrev S4x10000x50 : Shape := ⟨3, ![4, 10000, 50]⟩
abbrev S4x10000x1x4 : Shape := ⟨4, ![4, 10000, 1, 4]⟩
abbrev S4x1x50x4 : Shape := ⟨4, ![4, 1, 50, 4]⟩
abbrev S4x10000x50x4 : Shape := ⟨4, ![4, 10000, 50, 4]⟩
abbrev S4x10000x2 : Shape := ⟨3, ![4, 10000, 2]⟩
abbrev S4x10000x1x2 : Shape := ⟨4, ![4, 10000, 1, 2]⟩
abbrev S4x50x2 : Shape := ⟨3, ![4, 50, 2]⟩
abbrev S4x1x50x2 : Shape := ⟨4, ![4, 1, 50, 2]⟩
abbrev S4x10000x50x2 : Shape := ⟨4, ![4, 10000, 50, 2]⟩
abbrev S4x10000x50x1 : Shape := ⟨4, ![4, 10000, 50, 1]⟩
abbrev S4x1x50 : Shape := ⟨3, ![4, 1, 50]⟩
abbrev S4x117x50 : Shape := ⟨3, ![4, 117, 50]⟩
abbrev S50x4 : Shape := ⟨2, ![50, 4]⟩
abbrev S4x500000 : Shape := ⟨2, ![4, 500000]⟩
abbrev S4 : Shape := ⟨1, ![4]⟩
abbrev S4x1 : Shape := ⟨2, ![4, 1]⟩
abbrev S10000 : Shape := ⟨1, ![10000]⟩
abbrev S1x10000 : Shape := ⟨2, ![1, 10000]⟩
abbrev S50 : Shape := ⟨1, ![50]⟩
abbrev S1x50 : Shape := ⟨2, ![1, 50]⟩
abbrev S1x4 : Shape := ⟨2, ![1, 4]⟩

abbrev nBuf : Space → Nat
  | .hbm => 319
  | .vmem => 0
  | .smem => 0
  | _ => 0

abbrev hbmTy0_0 (i : Nat) : BufTy := match i % 128 with
  | 0 => ⟨S4x10000x81, .f32⟩
  | 1 => ⟨S4x10000x4, .f32⟩
  | 2 => ⟨S4x10000x117, .f32⟩
  | 3 => ⟨S4x50, .i32⟩
  | 4 => ⟨S4x50x4, .f32⟩
  | 5 => ⟨S4x50x117, .f32⟩
  | 6 => ⟨S_, .f32⟩
  | 7 => ⟨S4x10000, .f32⟩
  | 8 => ⟨S_, .f32⟩
  | 9 => ⟨S4x10000, .f32⟩
  | 10 => ⟨S4x10000, .f32⟩
  | 11 => ⟨S4x10000x1, .f32⟩
  | 12 => ⟨S4x10000x81, .f32⟩
  | 13 => ⟨S4x10000x81, .f32⟩
  | 14 => ⟨S4x10000x81, .f32⟩
  | 15 => ⟨S_, .f32⟩
  | 16 => ⟨S4x10000, .f32⟩
  | 17 => ⟨S4x10000x1, .f32⟩
  | 18 => ⟨S4x10000x81, .f32⟩
  | 19 => ⟨S4x10000x81, .f32⟩
  | 20 => ⟨S_, .i32⟩
  | 21 => ⟨S4x50, .i32⟩
  | 22 => ⟨S4x50, .i1⟩
  | 23 => ⟨S_, .i32⟩
  | 24 => ⟨S4x50, .i32⟩
  | 25 => ⟨S4x50, .i32⟩
  | 26 => ⟨S4x50, .i32⟩
  | 27 => ⟨S4x50x1, .i32⟩
  | 28 => ⟨S4x10000x50, .f32⟩
  | 29 => ⟨S4x10000x50, .f32⟩
  | 30 => ⟨S4x10000x1x4, .f32⟩
  | 31 => ⟨S4x1x50x4, .f32⟩
  | 32 => ⟨S4x10000x50x4, .f32⟩
  | 33 => ⟨S4x10000x50x4, .f32⟩
  | 34 => ⟨S4x10000x50x4, .f32⟩
  | 35 => ⟨S4x10000x50x4, .f32⟩
  | 36 => ⟨S_, .f32⟩
  | 37 => ⟨S4x10000x50, .f32⟩
  | 38 => ⟨S4x10000x1, .f32⟩
  | 39 => ⟨S4x10000, .f32⟩
  | 40 => ⟨S4x10000x1, .f32⟩
  | 41 => ⟨S4x10000, .f32⟩
  | 42 => ⟨S4x10000x1, .f32⟩
  | 43 => ⟨S4x10000, .f32⟩
  | 44 => ⟨S4x10000x1, .f32⟩
  | 45 => ⟨S4x10000, .f32⟩
  | 46 => ⟨S_, .f32⟩
  | 47 => ⟨S4x10000, .f32⟩
  | 48 => ⟨S4x10000, .f32⟩
  | 49 => ⟨S4x10000, .f32⟩
  | 50 => ⟨S_, .f32⟩
  | 51 => ⟨S4x10000, .f32⟩
  | 52 => ⟨S4x10000, .f32⟩
  | 53 => ⟨S4x10000, .f32⟩
  | 54 => ⟨S_, .f32⟩
  | 55 => ⟨S4x10000, .f32⟩
  | 56 => ⟨S4x10000, .f32⟩
  | 57 => ⟨S4x10000, .f32⟩
  | 58 => ⟨S_, .f32⟩
  | 59 => ⟨S4x10000, .f32⟩
  | 60 => ⟨S4x10000, .f32⟩
  | 61 => ⟨S4x10000, .f32⟩
  | 62 => ⟨S4x10000x1, .f32⟩
  | 63 => ⟨S4x10000x1, .f32⟩
  | 64 => ⟨S4x10000x1, .f32⟩
  | 65 => ⟨S4x10000x1, .f32⟩
  | 66 => ⟨S4x10000x4, .f32⟩
  | 67 => ⟨S4x50x1, .f32⟩
  | 68 => ⟨S4x50, .f32⟩
  | 69 => ⟨S4x50x1, .f32⟩
  | 70 => ⟨S4x50, .f32⟩
  | 71 => ⟨S4x50x1, .f32⟩
  | 72 => ⟨S4x50, .f32⟩
  | 73 => ⟨S4x50x1, .f32⟩
  | 74 => ⟨S4x50, .f32⟩
  | 75 => ⟨S_, .f32⟩
  | 76 => ⟨S4x50, .f32⟩
  | 77 => ⟨S4x50, .f32⟩
  | 78 => ⟨S4x50, .f32⟩
  | 79 => ⟨S_, .f32⟩
  | 80 => ⟨S4x50, .f32⟩
  | 81 => ⟨S4x50, .f32⟩
  | 82 => ⟨S4x50, .f32⟩
  | 83 => ⟨S_, .f32⟩
  | 84 => ⟨S4x50, .f32⟩
  | 85 => ⟨S4x50, .f32⟩
  | 86 => ⟨S4x50, .f32⟩
  | 87 => ⟨S_, .f32⟩
  | 88 => ⟨S4x50, .f32⟩
  | 89 => ⟨S4x50, .f32⟩
  | 90 => ⟨S4x50, .f32⟩
  | 91 => ⟨S4x50x1, .f32⟩
  | 92 => ⟨S4x50x1, .f32⟩
  | 93 => ⟨S4x50x1, .f32⟩
  | 94 => ⟨S4x50x1, .f32⟩
  | 95 => ⟨S4x50x4, .f32⟩
  | 96 => ⟨S4x10000x1, .f32⟩
  | 97 => ⟨S4x10000, .f32⟩
  | 98 => ⟨S4x10000x1, .f32⟩
  | 99 => ⟨S4x10000, .f32⟩
  | 100 => ⟨S4x10000, .f32⟩
  | 101 => ⟨S4x10000x1, .f32⟩
  | 102 => ⟨S4x10000, .f32⟩
  | 103 => ⟨S4x10000x1, .f32⟩
  | 104 => ⟨S4x10000, .f32⟩
  | 105 => ⟨S4x10000, .f32⟩
  | 106 => ⟨S4x10000, .f32⟩
  | 107 => ⟨S4x50x1, .f32⟩
  | 108 => ⟨S4x50, .f32⟩
  | 109 => ⟨S4x50x1, .f32⟩
  | 110 => ⟨S4x50, .f32⟩
  | 111 => ⟨S4x50, .f32⟩
  | 112 => ⟨S4x50x1, .f32⟩
  | 113 => ⟨S4x50, .f32⟩
  | 114 => ⟨S4x50x1, .f32⟩
  | 115 => ⟨S4x50, .f32⟩
  | 116 => ⟨S4x50, .f32⟩
  | 117 => ⟨S4x50, .f32⟩
  | 118 => ⟨S4x10000x2, .f32⟩
  | 119 => ⟨S4x10000x1x2, .f32⟩
  | 120 => ⟨S4x50x2, .f32⟩
  | 121 => ⟨S4x1x50x2, .f32⟩
  | 122 => ⟨S4x10000x50x2, .f32⟩
  | 123 => ⟨S4x10000x50x2, .f32⟩
  | 124 => ⟨S4x10000x50x2, .f32⟩
  | 125 => ⟨S4x10000x2, .f32⟩
  | 126 => ⟨S4x10000x1x2, .f32⟩
  | 127 => ⟨S4x50x2, .f32⟩
  | _ => ⟨S4x10000x81, .f32⟩

abbrev hbmTy0_1 (i : Nat) : BufTy := match i % 128 with
  | 0 => ⟨S4x1x50x2, .f32⟩
  | 1 => ⟨S4x10000x50x2, .f32⟩
  | 2 => ⟨S4x10000x50x2, .f32⟩
  | 3 => ⟨S4x10000x50x2, .f32⟩
  | 4 => ⟨S4x10000x50x2, .f32⟩
  | 5 => ⟨S_, .f32⟩
  | 6 => ⟨S_, .f32⟩
  | 7 => ⟨S4x10000x50x2, .f32⟩
  | 8 => ⟨S4x10000x50x2, .f32⟩
  | 9 => ⟨S4x10000x50x1, .f32⟩
  | 10 => ⟨S4x10000x50, .f32⟩
  | 11 => ⟨S4x10000x50x1, .f32⟩
  | 12 => ⟨S4x10000x50, .f32⟩
  | 13 => ⟨S4x10000x50, .f32⟩
  | 14 => ⟨S4x10000x1, .f32⟩
  | 15 => ⟨S4x1x50, .f32⟩
  | 16 => ⟨S4x10000x50, .f32⟩
  | 17 => ⟨S4x10000x50, .f32⟩
  | 18 => ⟨S4x10000x50, .f32⟩
  | 19 => ⟨S4x10000x50, .f32⟩
  | 20 => ⟨S_, .f32⟩
  | 21 => ⟨S4x10000x50, .f32⟩
  | 22 => ⟨S4x10000x50, .f32⟩
  | 23 => ⟨S4x10000x50, .f32⟩
  | 24 => ⟨S4x10000x2, .f32⟩
  | 25 => ⟨S4x10000x1x2, .f32⟩
  | 26 => ⟨S4x50x2, .f32⟩
  | 27 => ⟨S4x1x50x2, .f32⟩
  | 28 => ⟨S4x10000x50x2, .f32⟩
  | 29 => ⟨S4x10000x50x2, .f32⟩
  | 30 => ⟨S4x10000x50x2, .f32⟩
  | 31 => ⟨S4x10000x2, .f32⟩
  | 32 => ⟨S4x10000x1x2, .f32⟩
  | 33 => ⟨S4x50x2, .f32⟩
  | 34 => ⟨S4x1x50x2, .f32⟩
  | 35 => ⟨S4x10000x50x2, .f32⟩
  | 36 => ⟨S4x10000x50x2, .f32⟩
  | 37 => ⟨S4x10000x50x2, .f32⟩
  | 38 => ⟨S4x10000x50x2, .f32⟩
  | 39 => ⟨S_, .f32⟩
  | 40 => ⟨S_, .f32⟩
  | 41 => ⟨S4x10000x50x2, .f32⟩
  | 42 => ⟨S4x10000x50x2, .f32⟩
  | 43 => ⟨S4x10000x50x1, .f32⟩
  | 44 => ⟨S4x10000x50, .f32⟩
  | 45 => ⟨S4x10000x50x1, .f32⟩
  | 46 => ⟨S4x10000x50, .f32⟩
  | 47 => ⟨S4x10000x50, .f32⟩
  | 48 => ⟨S4x10000x50, .f32⟩
  | 49 => ⟨S_, .f32⟩
  | 50 => ⟨S4x10000x50, .f32⟩
  | 51 => ⟨S4x10000x50, .f32⟩
  | 52 => ⟨S4x10000x50, .f32⟩
  | 53 => ⟨S4x10000x50, .f32⟩
  | 54 => ⟨S4x10000x50, .f32⟩
  | 55 => ⟨S4x10000x117, .f32⟩
  | 56 => ⟨S4x10000x117, .f32⟩
  | 57 => ⟨S_, .f32⟩
  | 58 => ⟨S4x10000x117, .f32⟩
  | 59 => ⟨S4x10000x117, .f32⟩
  | 60 => ⟨S_, .f32⟩
  | 61 => ⟨S4x10000x117, .f32⟩
  | 62 => ⟨S4x10000x117, .f32⟩
  | 63 => ⟨S_, .f32⟩
  | 64 => ⟨S4x10000x117, .f32⟩
  | 65 => ⟨S4x10000x117, .f32⟩
  | 66 => ⟨S4x10000x117, .f32⟩
  | 67 => ⟨S4x117x50, .f32⟩
  | 68 => ⟨S4x10000x50, .f32⟩
  | 69 => ⟨S_, .f32⟩
  | 70 => ⟨S4x10000x117, .f32⟩
  | 71 => ⟨S4x10000x117, .f32⟩
  | 72 => ⟨S_, .f32⟩
  | 73 => ⟨S4x10000x117, .f32⟩
  | 74 => ⟨S4x10000x117, .f32⟩
  | 75 => ⟨S4x10000x117, .f32⟩
  | 76 => ⟨S_, .f32⟩
  | 77 => ⟨S4x50x117, .f32⟩
  | 78 => ⟨S4x50x117, .f32⟩
  | 79 => ⟨S4x117x50, .f32⟩
  | 80 => ⟨S4x10000x50, .f32⟩
  | 81 => ⟨S4x10000x50, .f32⟩
  | 82 => ⟨S4x10000x50, .f32⟩
  | 83 => ⟨S_, .f32⟩
  | 84 => ⟨S4x10000x50, .f32⟩
  | 85 => ⟨S4x10000x50, .f32⟩
  | 86 => ⟨S_, .f32⟩
  | 87 => ⟨S4x10000x50, .f32⟩
  | 88 => ⟨S4x10000x50, .f32⟩
  | 89 => ⟨S_, .f32⟩
  | 90 => ⟨S4x10000x50, .f32⟩
  | 91 => ⟨S4x10000x50, .f32⟩
  | 92 => ⟨S4x10000x50, .f32⟩
  | 93 => ⟨S_, .f32⟩
  | 94 => ⟨S4x10000x50, .f32⟩
  | 95 => ⟨S4x10000x50, .f32⟩
  | 96 => ⟨S4x10000x50, .f32⟩
  | 97 => ⟨S_, .f32⟩
  | 98 => ⟨S4x10000x50, .f32⟩
  | 99 => ⟨S4x10000x50, .f32⟩
  | 100 => ⟨S4x10000x50, .f32⟩
  | 101 => ⟨S_, .i32⟩
  | 102 => ⟨S50x4, .i32⟩
  | 103 => ⟨S_, .i32⟩
  | 104 => ⟨S50x4, .i32⟩
  | 105 => ⟨S_, .i32⟩
  | 106 => ⟨S_, .i32⟩
  | 107 => ⟨S4x10000x50, .f32⟩
  | 108 => ⟨S50x4, .i32⟩
  | 109 => ⟨S50x4, .i32⟩
  | 110 => ⟨S_, .i32⟩
  | 111 => ⟨S_, .i1⟩
  | 112 => ⟨S4x500000, .f32⟩
  | 113 => ⟨S4x500000, .i32⟩
  | 114 => ⟨S_, .f32⟩
  | 115 => ⟨S_, .i32⟩
  | 116 => ⟨S4, .f32⟩
  | 117 => ⟨S4, .i32⟩
  | 118 => ⟨S_, .i32⟩
  | 119 => ⟨S_, .i32⟩
  | 120 => ⟨S4, .i32⟩
  | 121 => ⟨S4, .i32⟩
  | 122 => ⟨S4, .i32⟩
  | 123 => ⟨S_, .i32⟩
  | 124 => ⟨S4, .i32⟩
  | 125 => ⟨S4, .i1⟩
  | 126 => ⟨S4, .i32⟩
  | 127 => ⟨S4, .i32⟩
  | _ => ⟨S4x10000x81, .f32⟩

abbrev hbmTy0_2 (i : Nat) : BufTy := match i % 128 with
  | 0 => ⟨S_, .i32⟩
  | 1 => ⟨S4, .i32⟩
  | 2 => ⟨S4, .i1⟩
  | 3 => ⟨S4, .i1⟩
  | 4 => ⟨S_, .i32⟩
  | 5 => ⟨S4, .i32⟩
  | 6 => ⟨S4, .i32⟩
  | 7 => ⟨S4, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S4, .i32⟩
  | 15 => ⟨S4, .i32⟩
  | 16 => ⟨S_, .i32⟩
  | 17 => ⟨S4, .i32⟩
  | 18 => ⟨S4, .i1⟩
  | 19 => ⟨S_, .i32⟩
  | 20 => ⟨S4, .i32⟩
  | 21 => ⟨S4, .i1⟩
  | 22 => ⟨S_, .i32⟩
  | 23 => ⟨S_, .i1⟩
  | 24 => ⟨S4, .i1⟩
  | 25 => ⟨S4, .i1⟩
  | 26 => ⟨S4, .i1⟩
  | 27 => ⟨S4, .i32⟩
  | 28 => ⟨S4, .i32⟩
  | 29 => ⟨S4, .i32⟩
  | 30 => ⟨S4x1, .i32⟩
  | 31 => ⟨S10000, .i32⟩
  | 32 => ⟨S1x10000, .i32⟩
  | 33 => ⟨S4x10000, .i32⟩
  | 34 => ⟨S4x10000, .i32⟩
  | 35 => ⟨S4x10000, .i1⟩
  | 36 => ⟨S4x10000, .f32⟩
  | 37 => ⟨S4x10000x1, .f32⟩
  | 38 => ⟨S4x1, .i32⟩
  | 39 => ⟨S50, .i32⟩
  | 40 => ⟨S1x50, .i32⟩
  | 41 => ⟨S4x50, .i32⟩
  | 42 => ⟨S4x50, .i32⟩
  | 43 => ⟨S4x50, .i1⟩
  | 44 => ⟨S4x50, .f32⟩
  | 45 => ⟨S4x1x50, .f32⟩
  | 46 => ⟨S4x10000x50, .f32⟩
  | 47 => ⟨S4x10000x50, .f32⟩
  | 48 => ⟨S4x10000x50, .f32⟩
  | 49 => ⟨S_, .f32⟩
  | 50 => ⟨S4x10000x50, .f32⟩
  | 51 => ⟨S4x10000x50, .f32⟩
  | 52 => ⟨S4x10000x50, .f32⟩
  | 53 => ⟨S1x4, .i32⟩
  | 54 => ⟨S_, .i32⟩
  | 55 => ⟨S50x4, .i32⟩
  | 56 => ⟨S1x4, .i32⟩
  | 57 => ⟨S_, .i32⟩
  | 58 => ⟨S50x4, .i32⟩
  | 59 => ⟨S_, .i32⟩
  | 60 => ⟨S_, .i32⟩
  | 61 => ⟨S4x50, .i32⟩
  | 62 => ⟨S4x50, .i32⟩
  | _ => ⟨S4x10000x81, .f32⟩

abbrev hbmTy (i : Nat) : BufTy := match i / 128 with
  | 0 => hbmTy0_0 i
  | 1 => hbmTy0_1 i
  | 2 => hbmTy0_2 i
  | _ => ⟨S4x10000x81, .f32⟩

abbrev bufTy : (tb : Table) → Fin (tcTables nBuf tb) → BufTy
  | .hbm, ⟨i, _⟩ => hbmTy i
  | _, _ => ⟨S4x10000x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_9 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_10 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_11 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_cst_12 : Ref sig .tc := ⟨.hbm, 133, rfl⟩
abbrev main_call0_v0 : Ref sig .tc := ⟨.hbm, 134, rfl⟩
abbrev main_call0_v1 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_cst_13 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_cst_14 : Ref sig .tc := ⟨.hbm, 167, rfl⟩
abbrev main_call1_v0 : Ref sig .tc := ⟨.hbm, 168, rfl⟩
abbrev main_call1_v1 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_cst_15 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_cst_16 : Ref sig .tc := ⟨.hbm, 185, rfl⟩
abbrev main_v157 : Ref sig .tc := ⟨.hbm, 186, rfl⟩
abbrev main_v158 : Ref sig .tc := ⟨.hbm, 187, rfl⟩
abbrev main_cst_17 : Ref sig .tc := ⟨.hbm, 188, rfl⟩
abbrev main_v159 : Ref sig .tc := ⟨.hbm, 189, rfl⟩
abbrev main_v160 : Ref sig .tc := ⟨.hbm, 190, rfl⟩
abbrev main_cst_18 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_cst_19 : Ref sig .tc := ⟨.hbm, 197, rfl⟩
abbrev main_v166 : Ref sig .tc := ⟨.hbm, 198, rfl⟩
abbrev main_v167 : Ref sig .tc := ⟨.hbm, 199, rfl⟩
abbrev main_cst_20 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_cst_21 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_cst_22 : Ref sig .tc := ⟨.hbm, 211, rfl⟩
abbrev main_v177 : Ref sig .tc := ⟨.hbm, 212, rfl⟩
abbrev main_v178 : Ref sig .tc := ⟨.hbm, 213, rfl⟩
abbrev main_cst_23 : Ref sig .tc := ⟨.hbm, 214, rfl⟩
abbrev main_v179 : Ref sig .tc := ⟨.hbm, 215, rfl⟩
abbrev main_v180 : Ref sig .tc := ⟨.hbm, 216, rfl⟩
abbrev main_cst_24 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_cst_25 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_cst_26 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_c_27 : Ref sig .tc := ⟨.hbm, 229, rfl⟩
abbrev main_v190 : Ref sig .tc := ⟨.hbm, 230, rfl⟩
abbrev main_c_28 : Ref sig .tc := ⟨.hbm, 231, rfl⟩
abbrev main_v191 : Ref sig .tc := ⟨.hbm, 232, rfl⟩
abbrev main_c_29 : Ref sig .tc := ⟨.hbm, 233, rfl⟩
abbrev main_v192_0 : Ref sig .tc := ⟨.hbm, 234, rfl⟩
abbrev main_v192_1 : Ref sig .tc := ⟨.hbm, 235, rfl⟩
abbrev main_v192_2 : Ref sig .tc := ⟨.hbm, 236, rfl⟩
abbrev main_v192_3 : Ref sig .tc := ⟨.hbm, 237, rfl⟩
abbrev main_while0c_c_33 : Ref sig .tc := ⟨.hbm, 238, rfl⟩
abbrev main_while0c_v195 : Ref sig .tc := ⟨.hbm, 239, rfl⟩
abbrev main_while0b_v195 : Ref sig .tc := ⟨.hbm, 240, rfl⟩
abbrev main_while0b_call2_v0 : Ref sig .tc := ⟨.hbm, 241, rfl⟩
abbrev main_while0b_call2_cst : Ref sig .tc := ⟨.hbm, 242, rfl⟩
abbrev main_while0b_call2_c : Ref sig .tc := ⟨.hbm, 243, rfl⟩
abbrev main_while0b_call2_v1_0 : Ref sig .tc := ⟨.hbm, 244, rfl⟩
abbrev main_while0b_v196 : Ref sig .tc := ⟨.hbm, 245, rfl⟩
abbrev main_while0b_c_33 : Ref sig .tc := ⟨.hbm, 246, rfl⟩
abbrev main_while0b_call3_v0 : Ref sig .tc := ⟨.hbm, 247, rfl⟩
abbrev main_while0b_call3_v1 : Ref sig .tc := ⟨.hbm, 248, rfl⟩
abbrev main_while0b_call3_v2 : Ref sig .tc := ⟨.hbm, 249, rfl⟩
abbrev main_while0b_call3_v3 : Ref sig .tc := ⟨.hbm, 250, rfl⟩
abbrev main_while0b_call3_v4 : Ref sig .tc := ⟨.hbm, 251, rfl⟩
abbrev main_while0b_call3_v5 : Ref sig .tc := ⟨.hbm, 252, rfl⟩
abbrev main_while0b_call3_v6 : Ref sig .tc := ⟨.hbm, 253, rfl⟩
abbrev main_while0b_call3_v7 : Ref sig .tc := ⟨.hbm, 254, rfl⟩
abbrev main_while0b_call3_v8 : Ref sig .tc := ⟨.hbm, 255, rfl⟩
abbrev main_while0b_call3_c : Ref sig .tc := ⟨.hbm, 256, rfl⟩
abbrev main_while0b_call3_v9 : Ref sig .tc := ⟨.hbm, 257, rfl⟩
abbrev main_while0b_call3_v10 : Ref sig .tc := ⟨.hbm, 258, rfl⟩
abbrev main_while0b_call3_v11 : Ref sig .tc := ⟨.hbm, 259, rfl⟩
abbrev main_while0b_call3_c_0 : Ref sig .tc := ⟨.hbm, 260, rfl⟩
abbrev main_while0b_call3_v12 : Ref sig .tc := ⟨.hbm, 261, rfl⟩
abbrev main_while0b_call3_v13 : Ref sig .tc := ⟨.hbm, 262, rfl⟩
abbrev main_while0b_v197 : Ref sig .tc := ⟨.hbm, 263, rfl⟩
abbrev main_while0b_c_34 : Ref sig .tc := ⟨.hbm, 264, rfl⟩
abbrev main_while0b_call4_v0 : Ref sig .tc := ⟨.hbm, 265, rfl⟩
abbrev main_while0b_call4_c : Ref sig .tc := ⟨.hbm, 266, rfl⟩
abbrev main_while0b_call4_v1 : Ref sig .tc := ⟨.hbm, 267, rfl⟩
abbrev main_while0b_call4_c_0 : Ref sig .tc := ⟨.hbm, 268, rfl⟩
abbrev main_while0b_call4_v2 : Ref sig .tc := ⟨.hbm, 269, rfl⟩
abbrev main_while0b_call4_v3 : Ref sig .tc := ⟨.hbm, 270, rfl⟩
abbrev main_while0b_call4_v4 : Ref sig .tc := ⟨.hbm, 271, rfl⟩
abbrev main_while0b_call4_c_1 : Ref sig .tc := ⟨.hbm, 272, rfl⟩
abbrev main_while0b_call4_v5 : Ref sig .tc := ⟨.hbm, 273, rfl⟩
abbrev main_while0b_call4_v6 : Ref sig .tc := ⟨.hbm, 274, rfl⟩
abbrev main_while0b_call4_c_2 : Ref sig .tc := ⟨.hbm, 275, rfl⟩
abbrev main_while0b_call4_v7 : Ref sig .tc := ⟨.hbm, 276, rfl⟩
abbrev main_while0b_call4_v8 : Ref sig .tc := ⟨.hbm, 277, rfl⟩
abbrev main_while0b_call4_c_3 : Ref sig .tc := ⟨.hbm, 278, rfl⟩
abbrev main_while0b_call4_v9 : Ref sig .tc := ⟨.hbm, 279, rfl⟩
abbrev main_while0b_call4_v10 : Ref sig .tc := ⟨.hbm, 280, rfl⟩
abbrev main_while0b_call4_v11 : Ref sig .tc := ⟨.hbm, 281, rfl⟩
abbrev main_while0b_call4_v12 : Ref sig .tc := ⟨.hbm, 282, rfl⟩
abbrev main_while0b_call4_v13 : Ref sig .tc := ⟨.hbm, 283, rfl⟩
abbrev main_while0b_call4_v14 : Ref sig .tc := ⟨.hbm, 284, rfl⟩
abbrev main_while0b_v198 : Ref sig .tc := ⟨.hbm, 285, rfl⟩
abbrev main_while0b_call5_v0 : Ref sig .tc := ⟨.hbm, 286, rfl⟩
abbrev main_while0b_call5_v1 : Ref sig .tc := ⟨.hbm, 287, rfl⟩
abbrev main_while0b_call5_v2 : Ref sig .tc := ⟨.hbm, 288, rfl⟩
abbrev main_while0b_call5_v3 : Ref sig .tc := ⟨.hbm, 289, rfl⟩
abbrev main_while0b_call5_v4 : Ref sig .tc := ⟨.hbm, 290, rfl⟩
abbrev main_while0b_call5_v5 : Ref sig .tc := ⟨.hbm, 291, rfl⟩
abbrev main_while0b_v199 : Ref sig .tc := ⟨.hbm, 292, rfl⟩
abbrev main_while0b_v200 : Ref sig .tc := ⟨.hbm, 293, rfl⟩
abbrev main_while0b_call6_v0 : Ref sig .tc := ⟨.hbm, 294, rfl⟩
abbrev main_while0b_call6_v1 : Ref sig .tc := ⟨.hbm, 295, rfl⟩
abbrev main_while0b_call6_v2 : Ref sig .tc := ⟨.hbm, 296, rfl⟩
abbrev main_while0b_call6_v3 : Ref sig .tc := ⟨.hbm, 297, rfl⟩
abbrev main_while0b_call6_v4 : Ref sig .tc := ⟨.hbm, 298, rfl⟩
abbrev main_while0b_call6_v5 : Ref sig .tc := ⟨.hbm, 299, rfl⟩
abbrev main_while0b_v201 : Ref sig .tc := ⟨.hbm, 300, rfl⟩
abbrev main_while0b_v202 : Ref sig .tc := ⟨.hbm, 301, rfl⟩
abbrev main_while0b_v203 : Ref sig .tc := ⟨.hbm, 302, rfl⟩
abbrev main_while0b_v204 : Ref sig .tc := ⟨.hbm, 303, rfl⟩
abbrev main_while0b_v205 : Ref sig .tc := ⟨.hbm, 304, rfl⟩
abbrev main_while0b_cst_35 : Ref sig .tc := ⟨.hbm, 305, rfl⟩
abbrev main_while0b_v206 : Ref sig .tc := ⟨.hbm, 306, rfl⟩
abbrev main_while0b_v207 : Ref sig .tc := ⟨.hbm, 307, rfl⟩
abbrev main_while0b_v208 : Ref sig .tc := ⟨.hbm, 308, rfl⟩
abbrev main_while0b_call7_v0 : Ref sig .tc := ⟨.hbm, 309, rfl⟩
abbrev main_while0b_call7_c : Ref sig .tc := ⟨.hbm, 310, rfl⟩
abbrev main_while0b_v209 : Ref sig .tc := ⟨.hbm, 311, rfl⟩
abbrev main_while0b_call8_v0 : Ref sig .tc := ⟨.hbm, 312, rfl⟩
abbrev main_while0b_call8_c : Ref sig .tc := ⟨.hbm, 313, rfl⟩
abbrev main_while0b_v210 : Ref sig .tc := ⟨.hbm, 314, rfl⟩
abbrev main_while0b_c_36 : Ref sig .tc := ⟨.hbm, 315, rfl⟩
abbrev main_while0b_v211 : Ref sig .tc := ⟨.hbm, 316, rfl⟩
abbrev main_v193 : Ref sig .tc := ⟨.hbm, 317, rfl⟩
abbrev main_v194 : Ref sig .tc := ⟨.hbm, 318, rfl⟩

abbrev nD : Nat := 1
abbrev τ : Topo := Topo.v7x

variable {F : FTy → Type} [FloatOps F]

abbrev main_while0_count : Scf.Loop 32 := ⟨0#32, 50#32, 1#32⟩
-- ==== Proof.GreedyLoop.lean ====
module

public import proofs.«01_k».proof.Proof.Gen.KernelIdeal.Skeleton
public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 8192
set_option maxHeartbeats 4000000

/-! The greedy loop of the kernel: what one trip yields, what the loop carries before each trip, and the
    invariant by which a run goes through the loop. One trip only reads the cost table. -/

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄G" => MT nD τ sig Unit (Elt F) ℕ (UR sig nD τ) ℕ

/-- What the greedy loop carries: group minima, their rows, column penalties, row penalties, picked rows, picked columns. -/
abbrev Carry (F : FTy → Type) : Type :=
  FVec F S50x50 .f32 × IVec S50x50 32 × FVec F S1x50 .f32 × FVec F S200x50 .f32 × IVec S1x50 32 × IVec S1x50 32

/-- The pick of one trip leads to a load inside the cost table. -/
abbrev PickIn (v34 v35 : IVec S50x50 32) (acc : Carry F) : Prop :=
  k0_chk1 (extractAt ![0, 0, 0] (k0_pay32 (k0_pay6 v34 v35) acc.1 acc.2.2.1) inpos_S1x1x1_p0_0_0)

variable (𝒱 : Variants) (c : Dev nD) (bd : Option 𝒱.V) (i : grid0.Coords)
  (arg1 : Memref sig .tc .vmem S1x10000x81 .f32) (harg1 : arg1.IsWhole) (arg2 : Memref sig .tc .vmem S1x10000x4 .f32) (harg2 : arg2.IsWhole)
  (arg3 : Memref sig .tc .vmem S1x10000x117 .f32) (harg3 : arg3.IsWhole) (arg4 : Memref sig .tc .vmem S1x1x50 .i32) (harg4 : arg4.IsWhole)
  (arg5 : Memref sig .tc .vmem S1x4x50 .f32) (harg5 : arg5.IsWhole) (arg6 : Memref sig .tc .vmem S1x117x50 .f32) (harg6 : arg6.IsWhole)
  (arg7 : Memref sig .tc .vmem S1x10000x50 .f32) (harg7 : arg7.IsWhole) (arg8 : Memref sig .tc .vmem S1x1x50 .i32) (harg8 : arg8.IsWhole)
  (arg9 : Memref sig .tc .vmem S1x1x50 .i32) (harg9 : arg9.IsWhole)
  (v33 : IVec S200x50 32) (v34 v35 : IVec S50x50 32) (v43 : IVec S1x50 32) (v44 v45 : IVec S200x50 32)
  (X : BufTy.Contents (Elt F) arg7.view.ty)

/-- One trip from a carried value, run once: it yields a function of the carried value and gives the cost table back. -/
@[irreducible] def trip (k : Fin k0_t3_loop.trips) :
    { R : (acc : Carry F) → PickIn v34 v35 acc → Carry F // ∀ (E : Set ℕ) (acc : Carry F) (hw : PickIn v34 v35 acc),
      (arg7.view.loc (c : Thread nD τ) ↦[arg7.view.set]{fullShare} X : sProp 𝕄G)
      ⊢ wp frame (wpE (defs₀ (F := F)) 𝒱 (c : Thread nD τ) bd) E
          (k0_t3_body (F := F) i arg1 harg1 arg2 harg2 arg3 harg3 arg4 harg4 arg5 harg5 arg6 harg6 arg7 harg7 arg8 harg8 arg9 harg9 v33 v34 v35 v43 v44 v45 k acc)
          (fun yld => iprop(⌜yld = R acc hw⌝ ∗ (arg7.view.loc (c : Thread nD τ) ↦[arg7.view.set]{fullShare} X))) } := by
  have hk : k.val < 50 := Nat.lt_of_lt_of_le k.isLt k0_t3_abs.2.1
  refine ⟨?_, fun E acc hw => ?run⟩
  case run =>
    unfold k0_t3_body
    iintro HR
    sl_exec
    sl_step
    sl_close

variable (hok : ∀ acc : Carry F, PickIn v34 v35 acc)

/-- What one trip yields; past the last trip, the carried value itself. -/
@[irreducible] def next (k : ℕ) (acc : Carry F) : Carry F :=
  if h : k < k0_t3_loop.trips then
    (trip 𝒱 c bd i arg1 harg1 arg2 harg2 arg3 harg3 arg4 harg4 arg5 harg5 arg6 harg6 arg7 harg7 arg8 harg8 arg9 harg9 v33 v34 v35 v43 v44 v45 X ⟨k, h⟩).1 acc (hok acc)
  else acc

/-- The carried value before trip `k`. -/
def carried (init : Carry F) : ℕ → Carry F
  | 0 => init
  | k + 1 => next 𝒱 c bd i arg1 harg1 arg2 harg2 arg3 harg3 arg4 harg4 arg5 harg5 arg6 harg6 arg7 harg7 arg8 harg8 arg9 harg9 v33 v34 v35 v43 v44 v45 X hok k (carried init k)

set_option warn.classDefReducibility false in
/-- The greedy loop by its invariant: the cost table at its contents and the carried value before the trip. -/
@[sl_loop] def greedyInv (E : Set ℕ) (init : Carry F) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 v33 v34 v35 v43 v44 v45 init where
  inv k acc := iprop((arg7.view.loc (c : Thread nD τ) ↦[arg7.view.set]{fullShare} X) ∗
    ⌜acc = carried 𝒱 c bd i arg1 harg1 arg2 harg2 arg3 harg3 arg4 harg4 arg5 harg5 arg6 harg6 arg7 harg7 arg8 harg8 arg9 harg9 v33 v34 v35 v43 v44 v45 X hok init k⌝)
  step k acc := by
    iintro ⟨HR, %h_acc⟩
    subst h_acc
    iapply (wp_wand_r Idealize.ShloMosaic.frame (wpE (defs₀ (F := F)) 𝒱 (c : Thread nD τ) bd) E)
    isplitl [HR]
    · iapply ((trip 𝒱 c bd i arg1 harg1 arg2 harg2 arg3 harg3 arg4 harg4 arg5 harg5 arg6 harg6 arg7 harg7 arg8 harg8 arg9 harg9 v33 v34 v35 v43 v44 v45 X k).2 E _ (hok _))
      iexact HR
    · iintro %yld ⟨%h_res, HR⟩
      isplitl [HR]; · iexact HR
      ipureintro
      rw [h_res, carried]
      unfold next
      rw [dif_pos k.isLt]

end Cert.Proof
-- ==== Proof.BodyRun.lean ====
module

public import proofs.«01_k».proof.Proof.Gen.KernelIdeal.Frame
public import proofs.«01_k».proof.Proof.Gen.KernelIdeal.Points
public import proofs.«01_k».proof.Proof.GreedyLoop
public import Idealize.ShloMosaic.Lib.Pipeline.FrameBody
public import Idealize.ShloMosaic.Lib.Ring
public import Idealize.ShloMosaic.Lib.Tactic

@[expose] public section

set_option maxRecDepth 16384

/-! The body of the kernel run once: what its stores leave in the three output blocks. -/

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the run. -/
local notation "𝕄" => MT nD τ sig Unit (Elt F) ℕ (UR sig nD τ) ℕ

/-- Every pick of the greedy loop, from any carried value, leads to a load inside the cost table. -/
abbrev PicksIn (F : FTy → Type) [FloatOps F] : Prop :=
  ∀ acc : Carry F, PickIn (iota .tc S50x50 32 [0] iota_S50x50_d0_w32) (iota .tc S50x50 32 [1] iota_S50x50_d1_w32) acc

variable (hok : PicksIn F) (c : Dev nD) (i : grid0.Coords)
  (arg1 : Memref sig .tc .vmem S1x10000x81 .f32) (harg1 : arg1.IsWhole) (arg2 : Memref sig .tc .vmem S1x10000x4 .f32) (harg2 : arg2.IsWhole)
  (arg3 : Memref sig .tc .vmem S1x10000x117 .f32) (harg3 : arg3.IsWhole) (arg4 : Memref sig .tc .vmem S1x1x50 .i32) (harg4 : arg4.IsWhole)
  (arg5 : Memref sig .tc .vmem S1x4x50 .f32) (harg5 : arg5.IsWhole) (arg6 : Memref sig .tc .vmem S1x117x50 .f32) (harg6 : arg6.IsWhole)
  (arg7 : Memref sig .tc .vmem S1x10000x50 .f32) (harg7 : arg7.IsWhole) (arg8 : Memref sig .tc .vmem S1x1x50 .i32) (harg8 : arg8.IsWhole)
  (arg9 : Memref sig .tc .vmem S1x1x50 .i32) (harg9 : arg9.IsWhole)
  (x0 : Vec F S1x10000x81 .f32) (x1 : Vec F S1x10000x4 .f32) (x2 : Vec F S1x10000x117 .f32) (x3 : Vec F S1x1x50 .i32)
  (x4 : Vec F S1x4x50 .f32) (x5 : Vec F S1x117x50 .f32)

/-- The stores of the cost loop into the cost table (last first). -/
abbrev costPieces : List (View.Piece (Elt F) S1x10000x50 .f32) :=
  pb_k0_t1 Variants.none c none i arg1 harg1 arg2 harg2 arg3 harg3 arg4 harg4 arg5 harg5 arg6 harg6 arg7 harg7 arg8 harg8 arg9 harg9
    (View.readAt (Elt F) arg4.view (Rect.unit ![0, 0, 0] S1x1x50.size inb_S1x1x50_S1x1x50_0_0_0).toLoadRect (harg4.unread x3))
    (View.readAt (Elt F) arg5.view (Rect.unit ![0, 0, 0] S1x4x50.size inb_S1x4x50_S1x4x50_0_0_0).toLoadRect (harg5.unread x4))
    (View.readAt (Elt F) arg6.view (Rect.unit ![0, 0, 0] S1x117x50.size inb_S1x117x50_S1x117x50_0_0_0).toLoadRect (harg6.unread x5))
    (harg1.unread x0) (harg2.unread x1) (harg3.unread x2) (Scf.trips k0_t1_loop.lb k0_t1_loop.ub k0_t1_loop.st)

/-- The group minima and their rows that the second loop yields from the cost table's contents. -/
abbrev groupMins (X : BufTy.Contents (Elt F) arg7.view.ty) : FVec F S50x50 .f32 × IVec S50x50 32 :=
  st_k0_t2 Variants.none c none i arg1 harg1 arg2 harg2 arg3 harg3 arg4 harg4 arg5 harg5 arg6 harg6 arg7 harg7 arg8 harg8 arg9 harg9
    (iota .tc S200x50 32 [0] iota_S200x50_d0_w32) (iota .tc S50x50 32 [0] iota_S50x50_d0_w32) X (k0_pay55, k0_pay56) (Scf.trips k0_t2_loop.lb k0_t2_loop.ub k0_t2_loop.st)

/-- What the greedy loop yields from the cost table's contents. -/
abbrev greedyEnd (X : BufTy.Contents (Elt F) arg7.view.ty) : Carry F :=
  carried Variants.none c none i arg1 harg1 arg2 harg2 arg3 harg3 arg4 harg4 arg5 harg5 arg6 harg6 arg7 harg7 arg8 harg8 arg9 harg9
    (iota .tc S200x50 32 [0] iota_S200x50_d0_w32) (iota .tc S50x50 32 [0] iota_S50x50_d0_w32) (iota .tc S50x50 32 [1] iota_S50x50_d1_w32)
    (iota .tc S1x50 32 [1] iota_S1x50_d1_w32) (iota .tc S200x50 32 [0] iota_S200x50_d0_w32) (iota .tc S200x50 32 [1] iota_S200x50_d1_w32)
    X hok ((groupMins c i arg1 harg1 arg2 harg2 arg3 harg3 arg4 harg4 arg5 harg5 arg6 harg6 arg7 harg7 arg8 harg8 arg9 harg9 X).1, (groupMins c i arg1 harg1 arg2 harg2 arg3 harg3 arg4 harg4 arg5 harg5 arg6 harg6 arg7 harg7 arg8 harg8 arg9 harg9 X).2, k0_pay7, k0_pay8, k0_pay9, k0_pay10)
    (Scf.trips k0_t3_loop.lb k0_t3_loop.ub k0_t3_loop.st)

/-- The input blocks of one point, held at their contents. -/
abbrev inputs : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare x5)

set_option maxHeartbeats 2000000 in
/-- From the input blocks at their contents and the output blocks at anything, the body runs to the input blocks
    as they were, the cost table overwritten by the cost loop's stores and the picked rows and columns stored whole. -/
theorem body_run (E : Set ℕ) (K : PUnit → sProp 𝕄) (f6 : BufTy.Contents (Elt F) arg7.view.ty) (f7 : BufTy.Contents (Elt F) arg8.view.ty)
    (f8 : BufTy.Contents (Elt F) arg9.view.ty) :
    iprop(inputs c arg1 arg2 arg3 arg4 arg5 arg6 x0 x1 x2 x3 x4 x5
      ∗ (arg7.view.loc (c : Thread nD τ) ↦[arg7.view.set]{fullShare} f6) ∗ (arg8.view.loc (c : Thread nD τ) ↦[arg8.view.set]{fullShare} f7)
      ∗ (arg9.view.loc (c : Thread nD τ) ↦[arg9.view.set]{fullShare} f8)
      ∗ (iprop(inputs c arg1 arg2 arg3 arg4 arg5 arg6 x0 x1 x2 x3 x4 x5
          ∗ (arg7.view.loc (c : Thread nD τ) ↦[arg7.view.set]{fullShare} arg7.view.writes (Elt F) f6 (costPieces c i arg1 harg1 arg2 harg2 arg3 harg3 arg4 harg4 arg5 harg5 arg6 harg6 arg7 harg7 arg8 harg8 arg9 harg9 x0 x1 x2 x3 x4 x5))
          ∗ (arg8.view.loc (c : Thread nD τ) ↦[arg8.view.set]{fullShare} arg8.view.writes (Elt F) f7
              [⟨Rect.unit ![0, 0, 0] S1x1x50.size inb_S1x1x50_S1x1x50_0_0_0, k0_pay13 (greedyEnd hok c i arg1 harg1 arg2 harg2 arg3 harg3 arg4 harg4 arg5 harg5 arg6 harg6 arg7 harg7 arg8 harg8 arg9 harg9
                (arg7.view.writes (Elt F) f6 (costPieces c i arg1 harg1 arg2 harg2 arg3 harg3 arg4 harg4 arg5 harg5 arg6 harg6 arg7 harg7 arg8 harg8 arg9 harg9 x0 x1 x2 x3 x4 x5))).2.2.2.2.1⟩])
          ∗ (arg9.view.loc (c : Thread nD τ) ↦[arg9.view.set]{fullShare} arg9.view.writes (Elt F) f8
              [⟨Rect.unit ![0, 0, 0] S1x1x50.size inb_S1x1x50_S1x1x50_0_0_0, k0_pay14 (greedyEnd hok c i arg1 harg1 arg2 harg2 arg3 harg3 arg4 harg4 arg5 harg5 arg6 harg6 arg7 harg7 arg8 harg8 arg9 harg9
                (arg7.view.writes (Elt F) f6 (costPieces c i arg1 harg1 arg2 harg2 arg3 harg3 arg4 harg4 arg5 harg5 arg6 harg6 arg7 harg7 arg8 harg8 arg9 harg9 x0 x1 x2 x3 x4 x5))).2.2.2.2.2⟩])) -∗ K ⟨⟩))
    ⊢ wp frame (wpE (defs₀ (F := F)) Variants.none c none) E (cc0__matcher_kernel i arg1 harg1 arg2 harg2 arg3 harg3 arg4 harg4 arg5 harg5 arg6 harg6 arg7 harg7 arg8 harg8 arg9 harg9) K := by
  have hpick := hok
  simp only [cc0__matcher_kernel_eq_skeleton]; unfold cc0__matcher_kernel_skel
  simp only [k0_part6_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, H6, H7, H8, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec
  sl_step
  iapply Hk
  isplitl [H0 H1 H2 H3 H4 H5]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; isplitr; · ipureintro; exact harg6.read_unread _
    iexact H5
  isplitl [H6]; · iexact H6
  isplitl [H7]; · iexact H7
  iexact H8

end Cert.Proof
-- ==== Proof.KernelFrame.lean ====
module

public import proofs.«01_k».proof.Proof.BodyRun
public import Idealize.ShloMosaic.Lib.Pipeline.Value
public import Idealize.ShloMosaic.Lib.Claim

@[expose] public section

set_option maxRecDepth 16384

/-! The launch of the kernel: what each grid point leaves in the three output blocks, the run of the whole program, and
the claim that its argument arrays end as they began. -/

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the run. -/
local notation "𝕄" => MT nD τ sig Unit (Elt F) ℕ (UR sig nD τ) ℕ

variable (hok : PicksIn F) (m : (ℓ : Loc nD τ sig) → Buf (Elt F) ℓ) (ρ : Dev nD → PrngReg)

/-- The staging block of window 0 at a point, and that it is a whole one. -/
abbrev ms0_0 (t : Fin cfg0.N) : Memref sig .tc .vmem S1x10000x81 .f32 := win0_0.stage (cfg0.slots t 0)
/-- It is a whole one. -/
abbrev hs0_0 (t : Fin cfg0.N) : (ms0_0 t).IsWhole := hstage0_0 ((cfg0.slots t 0).cast nbuf0_0)
/-- The staging block of window 1 at a point, and that it is a whole one. -/
abbrev ms0_1 (t : Fin cfg0.N) : Memref sig .tc .vmem S1x10000x4 .f32 := win0_1.stage (cfg0.slots t 1)
/-- It is a whole one. -/
abbrev hs0_1 (t : Fin cfg0.N) : (ms0_1 t).IsWhole := hstage0_1 ((cfg0.slots t 1).cast nbuf0_1)
/-- The staging block of window 2 at a point, and that it is a whole one. -/
abbrev ms0_2 (t : Fin cfg0.N) : Memref sig .tc .vmem S1x10000x117 .f32 := win0_2.stage (cfg0.slots t 2)
/-- It is a whole one. -/
abbrev hs0_2 (t : Fin cfg0.N) : (ms0_2 t).IsWhole := hstage0_2 ((cfg0.slots t 2).cast nbuf0_2)
/-- The staging block of window 3 at a point, and that it is a whole one. -/
abbrev ms0_3 (t : Fin cfg0.N) : Memref sig .tc .vmem S1x1x50 .i32 := win0_3.stage (cfg0.slots t 3)
/-- It is a whole one. -/
abbrev hs0_3 (t : Fin cfg0.N) : (ms0_3 t).IsWhole := hstage0_3 ((cfg0.slots t 3).cast nbuf0_3)
/-- The staging block of window 4 at a point, and that it is a whole one. -/
abbrev ms0_4 (t : Fin cfg0.N) : Memref sig .tc .vmem S1x4x50 .f32 := win0_4.stage (cfg0.slots t 4)
/-- It is a whole one. -/
abbrev hs0_4 (t : Fin cfg0.N) : (ms0_4 t).IsWhole := hstage0_4 ((cfg0.slots t 4).cast nbuf0_4)
/-- The staging block of window 5 at a point, and that it is a whole one. -/
abbrev ms0_5 (t : Fin cfg0.N) : Memref sig .tc .vmem S1x117x50 .f32 := win0_5.stage (cfg0.slots t 5)
/-- It is a whole one. -/
abbrev hs0_5 (t : Fin cfg0.N) : (ms0_5 t).IsWhole := hstage0_5 ((cfg0.slots t 5).cast nbuf0_5)
/-- The staging block of window 6 at a point, and that it is a whole one. -/
abbrev ms0_6 (t : Fin cfg0.N) : Memref sig .tc .vmem S1x10000x50 .f32 := win0_6.stage (cfg0.slots t 6)
/-- It is a whole one. -/
abbrev hs0_6 (t : Fin cfg0.N) : (ms0_6 t).IsWhole := hstage0_6 ((cfg0.slots t 6).cast nbuf0_6)
/-- The staging block of window 7 at a point, and that it is a whole one. -/
abbrev ms0_7 (t : Fin cfg0.N) : Memref sig .tc .vmem S1x1x50 .i32 := win0_7.stage (cfg0.slots t 7)
/-- It is a whole one. -/
abbrev hs0_7 (t : Fin cfg0.N) : (ms0_7 t).IsWhole := hstage0_7 ((cfg0.slots t 7).cast nbuf0_7)
/-- The staging block of window 8 at a point, and that it is a whole one. -/
abbrev ms0_8 (t : Fin cfg0.N) : Memref sig .tc .vmem S1x1x50 .i32 := win0_8.stage (cfg0.slots t 8)
/-- It is a whole one. -/
abbrev hs0_8 (t : Fin cfg0.N) : (ms0_8 t).IsWhole := hstage0_8 ((cfg0.slots t 8).cast nbuf0_8)

/-- The cost loop's stores at point `t`. -/
abbrev ptPieces (c : Dev nD) (t : Fin cfg0.N) : List (View.Piece (Elt F) S1x10000x50 .f32) :=
  costPieces c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (iblk m c 0 t) (iblk m c 1 t) (iblk m c 2 t) (iblk m c 3 t) (iblk m c 4 t) (iblk m c 5 t)

/-- The stores of one point cover the cost table. -/
theorem cost_cover (c : Dev nD) (t : Fin cfg0.N) (y : S1x10000x50.Idx) : ∃ pc ∈ ptPieces m c t, y ∈ pc.1.set :=
  View.cover_of_tiledL (ptPieces m c t) S1x2000x50.size (by sl_kernel_rfl) y

/-- The cost table of point `t`. -/
def ptCost (c : Dev nD) (t : Fin cfg0.N) : Vec F S1x10000x50 .f32 :=
  View.read (Elt F) (ms0_6 t).view ((ms0_6 t).view.writes (Elt F) (ms0_6 t).view.junk (ptPieces m c t))

/-- What the greedy loop of point `t` yields from its cost table. -/
def ptEnd (c : Dev nD) (t : Fin cfg0.N) : Carry F :=
  greedyEnd hok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hs0_6 t).unread (ptCost m c t))

/-- Whatever the block held before, after the cost loop's stores it holds the cost table. -/
theorem cost_read (c : Dev nD) (t : Fin cfg0.N) (f : BufTy.Contents (Elt F) (ms0_6 t).view.ty) :
    View.read (Elt F) (ms0_6 t).view ((ms0_6 t).view.writes (Elt F) f (ptPieces m c t)) = ptCost m c t :=
  View.read_writes_of_cover _ _ _ _ _ (cost_cover m c t)

/-- A block stored whole holds what was stored. -/
theorem whole_read (v : View sig .tc .vmem S1x1x50 .i32) (f : BufTy.Contents (Elt F) v.ty) (x : Vec F S1x1x50 .i32) :
    View.read (Elt F) v (v.writes (Elt F) f [⟨Rect.unit ![0, 0, 0] S1x1x50.size inb_S1x1x50_S1x1x50_0_0_0, x⟩]) = x := by
  rw [View.read_writes_eq_canon v f _ (fun y => View.cover_of_tiledL [⟨Rect.unit ![0, 0, 0] S1x1x50.size inb_S1x1x50_S1x1x50_0_0_0, x⟩] S1x1x50.size (by sl_kernel_rfl) y)]
  exact Idealize.ShloMosaic.View.canon_unit_zero (by funext a; fin_cases a <;> rfl) _ _

/-- What the three output blocks hold after point `t`. -/
def outsAt (c : Dev nD) (t : Fin cfg0.N) : Vec F S1x10000x50 .f32 × Vec F S1x1x50 .i32 × Vec F S1x1x50 .i32 :=
  (ptCost m c t, k0_pay13 (ptEnd hok m c t).2.2.2.2.1, k0_pay14 (ptEnd hok m c t).2.2.2.2.2)

/-- The proof data of the launch: inputs stay, outputs hold `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt hok m c t).1
    | ⟨7, _⟩ => (outsAt hok m c t).2.1
    | ⟨8, _⟩ => (outsAt hok m c t).2.2
  Φ _ := Pipeline.ΦA spec0 c
  q _ := fullShare
  owed _ := 0

/-- The arrays start as the region finds them. -/
theorem A_eq (c : Dev nD) (w : Fin cfg0.W) : (dats hok m 0 c).A w = V m c (Pipeline.arrRef spec0 w) := by
  dsimp only [dats]

/-- What window 0 holds after the body. -/
theorem after0_0 (c : Dev nD) (t : Fin cfg0.N) : (dats hok m 0 c).after 0 t = iblk m c 0 t := by dsimp only [dats]
/-- What window 1 holds after the body. -/
theorem after0_1 (c : Dev nD) (t : Fin cfg0.N) : (dats hok m 0 c).after 1 t = iblk m c 1 t := by dsimp only [dats]
/-- What window 2 holds after the body. -/
theorem after0_2 (c : Dev nD) (t : Fin cfg0.N) : (dats hok m 0 c).after 2 t = iblk m c 2 t := by dsimp only [dats]
/-- What window 3 holds after the body. -/
theorem after0_3 (c : Dev nD) (t : Fin cfg0.N) : (dats hok m 0 c).after 3 t = iblk m c 3 t := by dsimp only [dats]
/-- What window 4 holds after the body. -/
theorem after0_4 (c : Dev nD) (t : Fin cfg0.N) : (dats hok m 0 c).after 4 t = iblk m c 4 t := by dsimp only [dats]
/-- What window 5 holds after the body. -/
theorem after0_5 (c : Dev nD) (t : Fin cfg0.N) : (dats hok m 0 c).after 5 t = iblk m c 5 t := by dsimp only [dats]
/-- What window 6 holds after the body. -/
theorem after0_6 (c : Dev nD) (t : Fin cfg0.N) : (dats hok m 0 c).after 6 t = (outsAt hok m c t).1 := by dsimp only [dats]
/-- What window 7 holds after the body. -/
theorem after0_7 (c : Dev nD) (t : Fin cfg0.N) : (dats hok m 0 c).after 7 t = (outsAt hok m c t).2.1 := by dsimp only [dats]
/-- What window 8 holds after the body. -/
theorem after0_8 (c : Dev nD) (t : Fin cfg0.N) : (dats hok m 0 c).after 8 t = (outsAt hok m c t).2.2 := by dsimp only [dats]
/-- What window 0 holds before the body. -/
theorem before0_0 (c : Dev nD) (t : Fin cfg0.N) (d) : (dats hok m 0 c).before 0 t d = iblk m c 0 t :=
  before0_0_of m (dats hok m 0 c) (A_eq hok m c 0) (after0_0 hok m c) t d
/-- What window 1 holds before the body. -/
theorem before0_1 (c : Dev nD) (t : Fin cfg0.N) (d) : (dats hok m 0 c).before 1 t d = iblk m c 1 t :=
  before0_1_of m (dats hok m 0 c) (A_eq hok m c 1) (after0_1 hok m c) t d
/-- What window 2 holds before the body. -/
theorem before0_2 (c : Dev nD) (t : Fin cfg0.N) (d) : (dats hok m 0 c).before 2 t d = iblk m c 2 t :=
  before0_2_of m (dats hok m 0 c) (A_eq hok m c 2) (after0_2 hok m c) t d
/-- What window 3 holds before the body. -/
theorem before0_3 (c : Dev nD) (t : Fin cfg0.N) (d) : (dats hok m 0 c).before 3 t d = iblk m c 3 t :=
  before0_3_of m (dats hok m 0 c) (A_eq hok m c 3) (after0_3 hok m c) t d
/-- What window 4 holds before the body. -/
theorem before0_4 (c : Dev nD) (t : Fin cfg0.N) (d) : (dats hok m 0 c).before 4 t d = iblk m c 4 t :=
  before0_4_of m (dats hok m 0 c) (A_eq hok m c 4) (after0_4 hok m c) t d
/-- What window 5 holds before the body. -/
theorem before0_5 (c : Dev nD) (t : Fin cfg0.N) (d) : (dats hok m 0 c).before 5 t d = iblk m c 5 t :=
  before0_5_of m (dats hok m 0 c) (A_eq hok m c 5) (after0_5 hok m c) t d

/-- What the body is called with at point `t`. -/
def bodyPre (c : Dev nD) (t : Fin cfg0.N) : sProp 𝕄 :=
  iprop((dats hok m 0 c).Φ t.castSucc ∗ (dats hok m 0 c).owesAt () t.castSucc
    ∗ (∃ d, owns (c : Thread nD τ) (ms0_0 t) fullShare ((dats hok m 0 c).before 0 t d))
    ∗ (∃ d, owns (c : Thread nD τ) (ms0_1 t) fullShare ((dats hok m 0 c).before 1 t d))
    ∗ (∃ d, owns (c : Thread nD τ) (ms0_2 t) fullShare ((dats hok m 0 c).before 2 t d))
    ∗ (∃ d, owns (c : Thread nD τ) (ms0_3 t) fullShare ((dats hok m 0 c).before 3 t d))
    ∗ (∃ d, owns (c : Thread nD τ) (ms0_4 t) fullShare ((dats hok m 0 c).before 4 t d))
    ∗ (∃ d, owns (c : Thread nD τ) (ms0_5 t) fullShare ((dats hok m 0 c).before 5 t d))
    ∗ (∃ d, owns (c : Thread nD τ) (ms0_6 t) fullShare ((dats hok m 0 c).before 6 t d))
    ∗ (∃ d, owns (c : Thread nD τ) (ms0_7 t) fullShare ((dats hok m 0 c).before 7 t d))
    ∗ (∃ d, owns (c : Thread nD τ) (ms0_8 t) fullShare ((dats hok m 0 c).before 8 t d)))

/-- What the body returns at point `t`. -/
def bodyPost (c : Dev nD) (t : Fin cfg0.N) : sProp 𝕄 :=
  iprop((dats hok m 0 c).Φ t.succ ∗ (dats hok m 0 c).owesAt () t.succ
    ∗ owns (c : Thread nD τ) (ms0_0 t) fullShare ((dats hok m 0 c).after 0 t)
    ∗ owns (c : Thread nD τ) (ms0_1 t) fullShare ((dats hok m 0 c).after 1 t)
    ∗ owns (c : Thread nD τ) (ms0_2 t) fullShare ((dats hok m 0 c).after 2 t)
    ∗ owns (c : Thread nD τ) (ms0_3 t) fullShare ((dats hok m 0 c).after 3 t)
    ∗ owns (c : Thread nD τ) (ms0_4 t) fullShare ((dats hok m 0 c).after 4 t)
    ∗ owns (c : Thread nD τ) (ms0_5 t) fullShare ((dats hok m 0 c).after 5 t)
    ∗ owns (c : Thread nD τ) (ms0_6 t) fullShare ((dats hok m 0 c).after 6 t)
    ∗ owns (c : Thread nD τ) (ms0_7 t) fullShare ((dats hok m 0 c).after 7 t)
    ∗ owns (c : Thread nD τ) (ms0_8 t) fullShare ((dats hok m 0 c).after 8 t))

set_option maxHeartbeats 2000000 in
/-- The body at any point, from the blocks the launch hands it. -/
theorem sound_body (c : Dev nD) (t : Fin cfg0.N) :
    bodyPre hok m c t ⊢ wp frame (wpE (defs₀ (F := F)) Variants.none c none) Set.univ (bodyAt0 t) (fun _ => bodyPost hok m c t) := by
  unfold bodyPre bodyPost bodyAt0
  simp only [before0_0, before0_1, before0_2, before0_3, before0_4, before0_5]
  rw [show (dats hok m 0 c).Φ t.succ = (dats hok m 0 c).Φ t.castSucc from rfl,
    show (dats hok m 0 c).owesAt () t.succ = (dats hok m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave H6 : iprop(∃ f, ((ms0_6 t).view.loc (c : Thread nD τ) ↦[(ms0_6 t).view.set]{fullShare} f)) $$ [H6]
  · unfold owns; icases H6 with ⟨%f, _, H6⟩; iexists f; iexact H6
  ihave H7 : iprop(∃ f, ((ms0_7 t).view.loc (c : Thread nD τ) ↦[(ms0_7 t).view.set]{fullShare} f)) $$ [H7]
  · unfold owns; icases H7 with ⟨%f, _, H7⟩; iexists f; iexact H7
  ihave H8 : iprop(∃ f, ((ms0_8 t).view.loc (c : Thread nD τ) ↦[(ms0_8 t).view.set]{fullShare} f)) $$ [H8]
  · unfold owns; icases H8 with ⟨%f, _, H8⟩; iexists f; iexact H8
  icases H6 with ⟨%f6, H6⟩; icases H7 with ⟨%f7, H7⟩; icases H8 with ⟨%f8, H8⟩
  have hX := (hs0_6 t).eq_unread (cost_read m c t f6)
  iapply (body_run hok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (iblk m c 0 t) (iblk m c 1 t) (iblk m c 2 t) (iblk m c 3 t) (iblk m c 4 t) (iblk m c 5 t) Set.univ _ f6 f7 f8)
  unfold inputs
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  isplitl [H7]; · iexact H7
  isplitl [H8]; · iexact H8
  iintro ⟨⟨H0, H1, H2, H3, H4, H5⟩, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact cost_read m c t f6
  isplitl [H7]
  · unfold owns; iexists _; isplitr
    swap; · iexact H7
    ipureintro; exact (whole_read _ _ _).trans (congrArg (fun X => k0_pay13 (greedyEnd hok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) X).2.2.2.2.1) hX)
  unfold owns; iexists _; isplitr
  swap; · iexact H8
  ipureintro; exact (whole_read _ _ _).trans (congrArg (fun X => k0_pay14 (greedyEnd hok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) X).2.2.2.2.2) hX)

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The launch's obligation on the body, at every point. -/
theorem body_obligation (c : Dev nD) : BodyObligation (dats hok m 0 c) (defs₀ (F := F)) Variants.none () Set.univ := fun t => by
  rw [bigSep_W0, bigSep_W0, defs₀_row]
  exact triple_restated (sound_body hok m c t) rfl .rfl fun _ => .rfl

set_option backward.isDefEq.respectTransparency.types false in
set_option maxHeartbeats 800000 in
/-- Every weakly fair execution of the program ends with the arrays at what the points left and all counters at zero. -/
theorem run_main_quiescent : θ_run defs (onTc (τ := τ) (main (F := F))) (s₀ m ρ) (fun r => (Pipeline.FramePost cfgs (dats hok m) 0 (Pipeline.afterTail₀ cfgs (dats hok m) 0 (V0 m) [hostOps1])) r ∧ r.2.sem = fun _ => 0) :=
  Pipeline.θ_run_frame_around (Q' := _) cfgs (dats hok m) (0 : Fin 1) launch0 defs₀ Variants.none m ρ main
    (hbody := fun c => (body_obligation hok m c).loose) (hshare := fun c => (dats hok m 0 c).share_full fun _ => rfl)
    (howed := fun _ _ => rfl) (V₀ := V0 m) (opss := [hostOps1]) (hsub := sfx_sub) (hfresh := sfx_fresh) (hkeep := sfx_keeps)
    (hmain := hmain m Variants.none) (hA := A_eq hok m) (hΦ := fun _ _ => rfl)

/-- The same without the counters. -/
theorem run_main : θ_run defs (onTc (τ := τ) (main (F := F))) (s₀ m ρ) (Pipeline.FramePost cfgs (dats hok m) 0 (Pipeline.afterTail₀ cfgs (dats hok m) 0 (V0 m) [hostOps1])) :=
  (θ_run defs _ _).mono (fun _ h => h.1) (run_main_quiescent hok m ρ)

include hok in
/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats hok m) (A_eq hok m) (run_main hok m ρ)

include hok in
/-- The argument arrays end unchanged and all counters are zero. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged hok m ρ) ((θ_run defs _ _).mono (fun _ h => h.2) (run_main_quiescent hok m ρ))

end Cert.Proof
-- ==== Proof.CostSpec.lean ====
module

public import Idealize.ShloMosaic.Lib.Pointwise.Tactic
public import Idealize.ShloMosaic.PureOps.Reduce
public import Idealize.ShloMosaic.PureOps.Ideal.Laws

@[expose] public section

/-! The matching cost of one query against one target, as a formula on extended reals. -/

noncomputable section

namespace Cert.Proof

open Idealize.ShloMosaic

/-- The literal one half. -/
def half : EReal := Ideal.ofBits FTy.f32 1056964608#32
/-- The literal 1e-8. -/
def eps : EReal := Ideal.ofBits FTy.f32 841731191#32
/-- The literal five. -/
def five : EReal := Ideal.ofBits FTy.f32 1084227584#32
/-- The literal two. -/
def two : EReal := Ideal.ofBits FTy.f32 1073741824#32
/-- The literal 117. -/
def actions : EReal := Ideal.ofBits FTy.f32 1122631680#32

/-- The low edge of an interval given by centre and width. -/
def lo (c w : EReal) : EReal := c - half * w
/-- The high edge of an interval given by centre and width. -/
def hi (c w : EReal) : EReal := c + half * w
/-- The area of a box given by centre and size. -/
def area (b : Fin 4 → EReal) : EReal := (hi (b 0) (b 2) - lo (b 0) (b 2)) * (hi (b 1) (b 3) - lo (b 1) (b 3))
/-- The length common to two intervals. -/
def common (c w c' w' : EReal) : EReal := max (min (hi c w) (hi c' w') - max (lo c w) (lo c' w')) 0
/-- The length of the interval spanned by two intervals. -/
def spanned (c w c' w' : EReal) : EReal := max (max (hi c w) (hi c' w') - min (lo c w) (lo c' w')) 0
/-- The area of the intersection of two boxes. -/
def inter (q t : Fin 4 → EReal) : EReal := common (q 0) (q 2) (t 0) (t 2) * common (q 1) (q 3) (t 1) (t 3)
/-- The area of the union of two boxes. -/
def union (q t : Fin 4 → EReal) : EReal := area q + area t - inter q t
/-- The area of the box spanned by two boxes. -/
def enclosing (q t : Fin 4 → EReal) : EReal := spanned (q 0) (q 2) (t 0) (t 2) * spanned (q 1) (q 3) (t 1) (t 3)
/-- The generalized overlap of two boxes. -/
def giou (q t : Fin 4 → EReal) : EReal :=
  Ideal.div (inter q t) (union q t + eps) - Ideal.div (enclosing q t - union q t) (enclosing q t + eps)
/-- The largest of 81 logits. -/
def top (l : Fin 81 → EReal) : EReal := Finset.fold max (Ideal.ofBits FTy.f32 4286578688#32) l Finset.univ
/-- The softmax probability of class `k`. -/
def prob (l : Fin 81 → EReal) (k : Fin 81) : EReal :=
  Ideal.div (Ideal.exp (l k - top l)) (∑ x, Ideal.exp (l x - top l))
/-- The sum of the four absolute differences of two boxes. -/
def boxDist (q t : Fin 4 → EReal) : EReal :=
  FloatOps.absf (F := Ideal) (φ := .f32) (q 0 - t 0) + FloatOps.absf (F := Ideal) (φ := .f32) (q 1 - t 1)
    + FloatOps.absf (F := Ideal) (φ := .f32) (q 2 - t 2) + FloatOps.absf (F := Ideal) (φ := .f32) (q 3 - t 3)
/-- The log likelihood of the target actions `u` under the action logits `a`. -/
def likelihood (a u : Fin 117 → EReal) : EReal :=
  (∑ x, Ideal.log (Ideal.logistic (a x) + eps) * u x) + ∑ x, Ideal.log (1 - Ideal.logistic (a x) + eps) * (1 - u x)
/-- The matching cost from class logits `l`, boxes `q` and `t`, action logits `a`, target class `k` and actions `u`. -/
def cost (l : Fin 81 → EReal) (q : Fin 4 → EReal) (a : Fin 117 → EReal) (k : Fin 81) (t : Fin 4 → EReal) (u : Fin 117 → EReal) : EReal :=
  five * boxDist q t + (0 - prob l k) + two * (0 - giou q t) + Ideal.div (0 - likelihood a u) actions

end Cert.Proof
-- ==== Proof.CostTile.lean ====
module

public import proofs.«01_k».proof.Proof.Gen.KernelIdeal.Skeleton
public import proofs.«01_k».proof.Proof.CostSpec
public import Idealize.ShloMosaic.Lib.Pointwise.Tactic
public import Idealize.ShloMosaic.Lib.Pointwise.Reduce
public import Idealize.ShloMosaic.Lib.Pointwise.Contract
public import Idealize.ShloMosaic.Lib.Pointwise.Reshape
public import Idealize.ShloMosaic.PureOps.Reduce
public import Idealize.ShloMosaic.PureOps.Ideal.Laws

@[expose] public section
noncomputable section
namespace Cert.Proof
open Cert.KernelIdeal Cert.KernelIdeal.Gen
open Idealize.ShloMosaic

/-- The tile of costs the kernel stores, from what it loads. -/
abbrev tile (v0 : Vec Ideal S1x1x50 .i32) (v2 : Vec Ideal S1x4x50 .f32) (v4 : Vec Ideal S1x117x50 .f32) (v60 : Vec Ideal S1x2000x81 .f32)
    (v75 : Vec Ideal S1x2000x4 .f32) (v168 : Vec Ideal S1x2000x117 .f32) : FVec Ideal S1x2000x50 .f32 :=
  k0_pay31 (k0_pay43 v4) (k0_pay54 v4) (k0_pay15 (k0_pay53 v0) v60)
    (k0_pay21 (k0_pay44 v2) (k0_pay45 v2) (k0_pay46 v2) (k0_pay47 v2) v75)
    (k0_pay27 (k0_pay48 v2) (k0_pay49 v2) (k0_pay50 v2) (k0_pay51 v2) (k0_pay52 v2) (k0_pay17 v75) (k0_pay18 v75) (k0_pay19 v75) (k0_pay20 v75) (k0_pay22 v75) (k0_pay23 v75))
    (k0_pay28 (k0_pay48 v2) (k0_pay49 v2) (k0_pay50 v2) (k0_pay51 v2) (k0_pay52 v2) (k0_pay17 v75) (k0_pay18 v75) (k0_pay19 v75) (k0_pay20 v75) (k0_pay22 v75) (k0_pay23 v75))
    (k0_pay29 (k0_pay48 v2) (k0_pay50 v2) (k0_pay17 v75) (k0_pay19 v75) (k0_pay22 v75))
    (k0_pay30 (k0_pay49 v2) (k0_pay51 v2) (k0_pay18 v75) (k0_pay20 v75) (k0_pay23 v75)) v168

variable (v0 : Vec Ideal S1x1x50 .i32) (v2 : Vec Ideal S1x4x50 .f32) (v4 : Vec Ideal S1x117x50 .f32) (v60 : Vec Ideal S1x2000x81 .f32)
    (v75 : Vec Ideal S1x2000x4 .f32) (v168 : Vec Ideal S1x2000x117 .f32) (q : Fin 2000) (c : Fin 50)

theorem box_tile : k0_pay21 (k0_pay44 v2) (k0_pay45 v2) (k0_pay46 v2) (k0_pay47 v2) v75 (ix2 q c)
    = boxDist (fun j => v75 (ix3 0 q j)) (fun j => v2 (ix3 0 j c)) := by
  unfold k0_pay21 k0_pay44 k0_pay45 k0_pay46 k0_pay47 k0_pay17 k0_pay18 k0_pay19 k0_pay20 k0_pay16 k0_pay42
  pointwise
  unfold boxDist
  rfl

theorem inter_tile : k0_pay26 (k0_pay48 v2) (k0_pay49 v2) (k0_pay50 v2) (k0_pay51 v2) (k0_pay17 v75) (k0_pay18 v75) (k0_pay19 v75) (k0_pay20 v75) (k0_pay22 v75) (k0_pay23 v75) (ix2 q c)
    = inter (fun j => v75 (ix3 0 q j)) (fun j => v2 (ix3 0 j c)) := by
  unfold k0_pay26 k0_pay48 k0_pay49 k0_pay50 k0_pay51 k0_pay25 k0_pay24 k0_pay23 k0_pay22 k0_pay44 k0_pay45 k0_pay46 k0_pay47 k0_pay17 k0_pay18 k0_pay19 k0_pay20 k0_pay16 k0_pay42
  pointwise
  unfold inter common lo hi
  rfl

theorem enc_tile : k0_pay29 (k0_pay48 v2) (k0_pay50 v2) (k0_pay17 v75) (k0_pay19 v75) (k0_pay22 v75) (ix2 q c) * k0_pay30 (k0_pay49 v2) (k0_pay51 v2) (k0_pay18 v75) (k0_pay20 v75) (k0_pay23 v75) (ix2 q c)
    = enclosing (fun j => v75 (ix3 0 q j)) (fun j => v2 (ix3 0 j c)) := by
  unfold k0_pay29 k0_pay30 k0_pay48 k0_pay49 k0_pay50 k0_pay51 k0_pay25 k0_pay24 k0_pay23 k0_pay22 k0_pay44 k0_pay45 k0_pay46 k0_pay47 k0_pay17 k0_pay18 k0_pay19 k0_pay20 k0_pay16 k0_pay42
  pointwise
  unfold enclosing spanned lo hi
  rfl

theorem union_tile : k0_pay27 (k0_pay48 v2) (k0_pay49 v2) (k0_pay50 v2) (k0_pay51 v2) (k0_pay52 v2) (k0_pay17 v75) (k0_pay18 v75) (k0_pay19 v75) (k0_pay20 v75) (k0_pay22 v75) (k0_pay23 v75) (ix2 q c)
    = union (fun j => v75 (ix3 0 q j)) (fun j => v2 (ix3 0 j c)) := by
  unfold k0_pay27 union
  rw [← inter_tile v2 v75 q c]
  generalize k0_pay26 (F := Ideal) _ _ _ _ _ _ _ _ _ _ = z
  unfold k0_pay52 k0_pay48 k0_pay49 k0_pay50 k0_pay51 k0_pay25 k0_pay24 k0_pay23 k0_pay22 k0_pay44 k0_pay45 k0_pay46 k0_pay47 k0_pay17 k0_pay18 k0_pay19 k0_pay20 k0_pay16 k0_pay42
  pointwise
  unfold area lo hi
  rfl

theorem iou_tile : k0_pay28 (k0_pay48 v2) (k0_pay49 v2) (k0_pay50 v2) (k0_pay51 v2) (k0_pay52 v2) (k0_pay17 v75) (k0_pay18 v75) (k0_pay19 v75) (k0_pay20 v75) (k0_pay22 v75) (k0_pay23 v75) (ix2 q c)
    = Ideal.div (inter (fun j => v75 (ix3 0 q j)) (fun j => v2 (ix3 0 j c))) (union (fun j => v75 (ix3 0 q j)) (fun j => v2 (ix3 0 j c)) + eps) := by
  unfold k0_pay28
  rw [← inter_tile v2 v75 q c, ← union_tile v2 v75 q c]
  generalize k0_pay26 (F := Ideal) _ _ _ _ _ _ _ _ _ _ = z
  generalize k0_pay27 (F := Ideal) _ _ _ _ _ _ _ _ _ _ _ = z'
  pointwise
  rfl

theorem prob_tile (k : Fin 81) (hk : v0 (ix3 0 0 c) = BitVec.ofNat 32 k) : k0_pay15 (F := Ideal) (k0_pay53 v0) v60 (ix2 q c) = 0 - prob (fun j => v60 (ix3 0 q j)) k := by
  unfold k0_pay15 k0_pay53
  simp only [multiReduction_maximumf_eq_fold]
  pointwise
  rw [hk, Finset.sum_eq_single k]
  · have h : FloatOps.sitofp (F := Ideal) FTy.f32 (BitVec.setWidth 32 (IntOp.cmpi CmpIPredicate.eq (BitVec.ofNat 32 (k : ℕ)) (BitVec.ofNat 32 (k : ℕ)))) = (1 : EReal) := by
      rw [show IntOp.cmpi CmpIPredicate.eq (BitVec.ofNat 32 (k : ℕ)) (BitVec.ofNat 32 (k : ℕ)) = 1#1 by simp [IntOp.cmpi]]
      change (((BitVec.setWidth 32 1#1).toInt : ℝ) : EReal) = _
      rw [show (BitVec.setWidth 32 1#1).toInt = 1 by decide]; simp
    rw [h, mul_one]; rfl
  · intro x _ hx
    have hne : BitVec.ofNat 32 (x : ℕ) ≠ BitVec.ofNat 32 (k : ℕ) := fun e => hx (Fin.ext (by
      have := congrArg BitVec.toNat e
      simp only [BitVec.toNat_ofNat] at this
      omega))
    have h : FloatOps.sitofp (F := Ideal) FTy.f32 (BitVec.setWidth 32 (IntOp.cmpi CmpIPredicate.eq (BitVec.ofNat 32 (x : ℕ)) (BitVec.ofNat 32 (k : ℕ)))) = (0 : EReal) := by
      rw [show IntOp.cmpi CmpIPredicate.eq (BitVec.ofNat 32 (x : ℕ)) (BitVec.ofNat 32 (k : ℕ)) = 0#1 by simp only [IntOp.cmpi, beq_eq_false_iff_ne.mpr hne]; rfl]
      change (((BitVec.setWidth 32 0#1).toInt : ℝ) : EReal) = _
      rw [show (BitVec.setWidth 32 0#1).toInt = 0 by decide]; simp
    rw [h, mul_zero]
  · simp

theorem last_tile (z1 z2 z3 z4 z5 z6 : FVec Ideal S2000x50 .f32) : k0_pay31 (k0_pay43 v4) (k0_pay54 v4) z1 z2 z3 z4 z5 z6 v168 (ix3 0 q c)
    = five * z2 (ix2 q c) + z1 (ix2 q c) + two * (0 - (z4 (ix2 q c) - Ideal.div (z5 (ix2 q c) * z6 (ix2 q c) - z3 (ix2 q c)) (z5 (ix2 q c) * z6 (ix2 q c) + eps)))
      + Ideal.div (0 - likelihood (fun j => v168 (ix3 0 q j)) (fun j => v4 (ix3 0 j c))) actions := by
  unfold k0_pay31 k0_pay54 k0_pay43
  pointwise
  rfl

theorem cost_tile (k : Fin 81) (hk : v0 (ix3 0 0 c) = BitVec.ofNat 32 k) : tile v0 v2 v4 v60 v75 v168 (ix3 0 q c)
    = cost (fun j => v60 (ix3 0 q j)) (fun j => v75 (ix3 0 q j)) (fun j => v168 (ix3 0 q j)) k (fun j => v2 (ix3 0 j c)) (fun j => v4 (ix3 0 j c)) := by
  rw [tile, last_tile, prob_tile v0 v60 q c k hk, iou_tile, union_tile, enc_tile, box_tile]
  rfl

end Cert.Proof
-- ==== Proof.CostTable.lean ====
module

public import proofs.«01_k».proof.Proof.KernelFrame
public import proofs.«01_k».proof.Proof.CostTile
public import Idealize.ShloMosaic.Lib.Pipeline.ValueKit.Tiles

@[expose] public section
set_option maxRecDepth 16384
/-! The cost table a grid point leaves, read at an index. -/

noncomputable section
namespace Cert.Proof
open Cert.KernelIdeal Cert.KernelIdeal.Gen
open Idealize.ShloMosaic Idealize.ShloMosaic.TcCoe

variable {F : FTy → Type} [FloatOps F]
variable (c : Dev nD) (i : grid0.Coords)
  (arg1 : Memref sig .tc .vmem S1x10000x81 .f32) (harg1 : arg1.IsWhole) (arg2 : Memref sig .tc .vmem S1x10000x4 .f32) (harg2 : arg2.IsWhole)
  (arg3 : Memref sig .tc .vmem S1x10000x117 .f32) (harg3 : arg3.IsWhole) (arg4 : Memref sig .tc .vmem S1x1x50 .i32) (harg4 : arg4.IsWhole)
  (arg5 : Memref sig .tc .vmem S1x4x50 .f32) (harg5 : arg5.IsWhole) (arg6 : Memref sig .tc .vmem S1x117x50 .f32) (harg6 : arg6.IsWhole)
  (arg7 : Memref sig .tc .vmem S1x10000x50 .f32) (harg7 : arg7.IsWhole) (arg8 : Memref sig .tc .vmem S1x1x50 .i32) (harg8 : arg8.IsWhole)
  (arg9 : Memref sig .tc .vmem S1x1x50 .i32) (harg9 : arg9.IsWhole)

/-- The tile stored, from what is loaded. -/
abbrev tileOf (v0 : Vec F S1x1x50 .i32) (v2 : Vec F S1x4x50 .f32) (v4 : Vec F S1x117x50 .f32) (v60 : Vec F S1x2000x81 .f32)
    (v75 : Vec F S1x2000x4 .f32) (v168 : Vec F S1x2000x117 .f32) : FVec F S1x2000x50 .f32 :=
  k0_pay31 (k0_pay43 v4) (k0_pay54 v4) (k0_pay15 (k0_pay53 v0) v60)
    (k0_pay21 (k0_pay44 v2) (k0_pay45 v2) (k0_pay46 v2) (k0_pay47 v2) v75)
    (k0_pay27 (k0_pay48 v2) (k0_pay49 v2) (k0_pay50 v2) (k0_pay51 v2) (k0_pay52 v2) (k0_pay17 v75) (k0_pay18 v75) (k0_pay19 v75) (k0_pay20 v75) (k0_pay22 v75) (k0_pay23 v75))
    (k0_pay28 (k0_pay48 v2) (k0_pay49 v2) (k0_pay50 v2) (k0_pay51 v2) (k0_pay52 v2) (k0_pay17 v75) (k0_pay18 v75) (k0_pay19 v75) (k0_pay20 v75) (k0_pay22 v75) (k0_pay23 v75))
    (k0_pay29 (k0_pay48 v2) (k0_pay50 v2) (k0_pay17 v75) (k0_pay19 v75) (k0_pay22 v75))
    (k0_pay30 (k0_pay49 v2) (k0_pay51 v2) (k0_pay18 v75) (k0_pay20 v75) (k0_pay23 v75)) v168

theorem trip_pieces (v0 : Vec F S1x1x50 .i32) (v2 : Vec F S1x4x50 .f32) (v4 : Vec F S1x117x50 .f32)
    (X1 : BufTy.Contents (Elt F) arg1.view.ty) (X2 : BufTy.Contents (Elt F) arg2.view.ty) (X3 : BufTy.Contents (Elt F) arg3.view.ty) (k : Fin k0_t1_loop.trips) :
    tripL_k0_t1 Variants.none c none i arg1 harg1 arg2 harg2 arg3 harg3 arg4 harg4 arg5 harg5 arg6 harg6 arg7 harg7 arg8 harg8 arg9 harg9 v0 v2 v4 X1 X2 X3 k
    = [⟨Rect.unit (k0_off4 k) S1x2000x50.size (k0_off4_inb k), tileOf v0 v2 v4
        (View.readAt (Elt F) arg1.view (Rect.unit (s := S1x10000x81) (k0_off1 k) S1x2000x81.size (k0_off1_inb k)).toLoadRect X1)
        (View.readAt (Elt F) arg2.view (Rect.unit (s := S1x10000x4) (k0_off2 k) S1x2000x4.size (k0_off2_inb k)).toLoadRect X2)
        (View.readAt (Elt F) arg3.view (Rect.unit (s := S1x10000x117) (k0_off3 k) S1x2000x117.size (k0_off3_inb k)).toLoadRect X3)⟩] := by
  unfold tripL_k0_t1 trip_k0_t1
  rfl

include c i arg1 harg1 arg2 harg2 arg3 harg3 arg4 harg4 arg5 harg5 arg6 harg6 arg7 harg7 arg8 harg8 arg9 harg9 in
/-- If every piece of every trip has the value `v` where it holds `y`, so has every piece of the loop's list. -/
theorem pieces_allAt (v0 : Vec F S1x1x50 .i32) (v2 : Vec F S1x4x50 .f32) (v4 : Vec F S1x117x50 .f32)
    (X1 : BufTy.Contents (Elt F) arg1.view.ty) (X2 : BufTy.Contents (Elt F) arg2.view.ty) (X3 : BufTy.Contents (Elt F) arg3.view.ty)
    (y : S1x10000x50.Idx) (v : Elt F .f32)
    (h : ∀ k, View.AllAt (tripL_k0_t1 Variants.none c none i arg1 harg1 arg2 harg2 arg3 harg3 arg4 harg4 arg5 harg5 arg6 harg6 arg7 harg7 arg8 harg8 arg9 harg9 v0 v2 v4 X1 X2 X3 k) y v) :
    ∀ n, n ≤ k0_t1_loop.trips → View.AllAt (pb_k0_t1 Variants.none c none i arg1 harg1 arg2 harg2 arg3 harg3 arg4 harg4 arg5 harg5 arg6 harg6 arg7 harg7 arg8 harg8 arg9 harg9 v0 v2 v4 X1 X2 X3 n) y v
  | 0, _ => fun p hp => absurd hp List.not_mem_nil
  | n + 1, hn => by
    rw [pb_k0_t1_succ Variants.none c none i arg1 harg1 arg2 harg2 arg3 harg3 arg4 harg4 arg5 harg5 arg6 harg6 arg7 harg7 arg8 harg8 arg9 harg9 v0 v2 v4 X1 X2 X3 ⟨n, hn⟩]
    intro p hp
    rcases List.mem_append.mp hp with hp | hp
    · exact h ⟨n, hn⟩ p hp
    · exact pieces_allAt v0 v2 v4 X1 X2 X3 y v h n (by omega) p hp

/-- The tile stored by trip `k`, at its row `q`, is the cost of the loaded row `2000 k + q`. -/
theorem tile_at (v0 : Vec Ideal S1x1x50 .i32) (v2 : Vec Ideal S1x4x50 .f32) (v4 : Vec Ideal S1x117x50 .f32)
    (x0 : Vec Ideal S1x10000x81 .f32) (x1 : Vec Ideal S1x10000x4 .f32) (x2 : Vec Ideal S1x10000x117 .f32) (r : Fin 10000) (t : Fin 50) (l : Fin 81)
    (hl : v0 (ix3 0 0 t) = BitVec.ofNat 32 l) (k : Fin k0_t1_loop.trips) (q : Fin 2000) (hr : (r : ℕ) = 2000 * k.val + q) :
    tileOf v0 v2 v4
        (View.readAt (Elt Ideal) arg1.view (Rect.unit (s := S1x10000x81) (k0_off1 k) S1x2000x81.size (k0_off1_inb k)).toLoadRect (harg1.unread x0))
        (View.readAt (Elt Ideal) arg2.view (Rect.unit (s := S1x10000x4) (k0_off2 k) S1x2000x4.size (k0_off2_inb k)).toLoadRect (harg2.unread x1))
        (View.readAt (Elt Ideal) arg3.view (Rect.unit (s := S1x10000x117) (k0_off3 k) S1x2000x117.size (k0_off3_inb k)).toLoadRect (harg3.unread x2)) (ix3 0 q t)
      = cost (fun j => x0 (ix3 0 r j)) (fun j => x1 (ix3 0 r j)) (fun j => x2 (ix3 0 r j)) l (fun j => v2 (ix3 0 j t)) (fun j => v4 (ix3 0 j t)) := by
  refine (cost_tile _ _ _ _ _ _ _ _ l hl).trans ?_
  have h1 : ∀ j : Fin 81, View.readAt (Elt Ideal) arg1.view (Rect.unit (s := S1x10000x81) (k0_off1 k) S1x2000x81.size (k0_off1_inb k)).toLoadRect (harg1.unread x0) (ix3 0 q j) = x0 (ix3 0 r j) := fun j => by
    rw [View.readAt_eq_ld, harg1.read_unread]
    refine View.ld_unit_apply_of _ _ _ _ _ _ fun a => ?_
    refine Eq.trans ?_ (congrArg (· + _) (congrFun (k0_off1_eq k) a).symm)
    fin_cases a
    · rfl
    · exact hr
    · exact (Nat.zero_add _).symm
  have h2 : ∀ j : Fin 4, View.readAt (Elt Ideal) arg2.view (Rect.unit (s := S1x10000x4) (k0_off2 k) S1x2000x4.size (k0_off2_inb k)).toLoadRect (harg2.unread x1) (ix3 0 q j) = x1 (ix3 0 r j) := fun j => by
    rw [View.readAt_eq_ld, harg2.read_unread]
    refine View.ld_unit_apply_of _ _ _ _ _ _ fun a => ?_
    refine Eq.trans ?_ (congrArg (· + _) (congrFun (k0_off2_eq k) a).symm)
    fin_cases a
    · rfl
    · exact hr
    · exact (Nat.zero_add _).symm
  have h3 : ∀ j : Fin 117, View.readAt (Elt Ideal) arg3.view (Rect.unit (s := S1x10000x117) (k0_off3 k) S1x2000x117.size (k0_off3_inb k)).toLoadRect (harg3.unread x2) (ix3 0 q j) = x2 (ix3 0 r j) := fun j => by
    rw [View.readAt_eq_ld, harg3.read_unread]
    refine View.ld_unit_apply_of _ _ _ _ _ _ fun a => ?_
    refine Eq.trans ?_ (congrArg (· + _) (congrFun (k0_off3_eq k) a).symm)
    fin_cases a
    · rfl
    · exact hr
    · exact (Nat.zero_add _).symm
  simp only [h1, h2, h3]

include c i harg4 harg5 harg6 harg7 harg8 harg9 in
/-- One trip's tile has, at row `r` and column `t`, the cost of the loaded row and column. -/
theorem trip_allAt (v0 : Vec Ideal S1x1x50 .i32) (v2 : Vec Ideal S1x4x50 .f32) (v4 : Vec Ideal S1x117x50 .f32)
    (x0 : Vec Ideal S1x10000x81 .f32) (x1 : Vec Ideal S1x10000x4 .f32) (x2 : Vec Ideal S1x10000x117 .f32) (r : Fin 10000) (t : Fin 50) (l : Fin 81)
    (hl : v0 (ix3 0 0 t) = BitVec.ofNat 32 l) (k : Fin k0_t1_loop.trips) :
    View.AllAt (tripL_k0_t1 Variants.none c none i arg1 harg1 arg2 harg2 arg3 harg3 arg4 harg4 arg5 harg5 arg6 harg6 arg7 harg7 arg8 harg8 arg9 harg9 v0 v2 v4 (harg1.unread x0) (harg2.unread x1) (harg3.unread x2) k)
      (ix3 0 r t) (cost (fun j => x0 (ix3 0 r j)) (fun j => x1 (ix3 0 r j)) (fun j => x2 (ix3 0 r j)) l (fun j => v2 (ix3 0 j t)) (fun j => v4 (ix3 0 j t))) := by
  rw [trip_pieces]
  intro p hp
  obtain rfl := List.mem_singleton.mp hp
  intro x hx
  have e : ∀ a, ((ix3 0 r t : S1x10000x50.Idx) a : ℕ) = k0_off4 k a + 1 * (x a : ℕ) := fun a => by
    rw [← hx, Rect.emb_apply]; rfl
  have k1 : k0_off4 k 1 = 2000 * k.val := by rw [k0_off4_eq]; rfl
  have k2 : k0_off4 k 2 = 0 := by rw [k0_off4_eq]; rfl
  have hr : (r : ℕ) = 2000 * k.val + (x 1 : ℕ) := (e 1).trans (by rw [k1, one_mul])
  have ht : (t : ℕ) = (x 2 : ℕ) := (e 2).trans (by rw [k2, one_mul, zero_add])
  have hx' : x = ix3 0 ⟨x 1, (x 1).isLt⟩ t := by
    funext a; fin_cases a
    · exact Subsingleton.elim (α := Fin 1) _ _
    · rfl
    · exact Fin.ext ht.symm
  exact (congrArg _ hx').trans (tile_at _ harg1 _ harg2 _ harg3 v0 v2 v4 x0 x1 x2 r t l hl k ⟨x 1, (x 1).isLt⟩ hr)

/-- The cost table of a point has, at row `r` and column `t`, the cost of that query against that target. -/
theorem ptCost_at (m : (ℓ : Loc nD τ sig) → Buf (Elt Ideal) ℓ) (n : Fin cfg0.N) (r : Fin 10000) (t : Fin 50) (l : Fin 81)
    (hl : iblk m c 3 n (ix3 0 0 t) = BitVec.ofNat 32 l) :
    ptCost m c n (ix3 0 r t) = cost (fun j => iblk m c 0 n (ix3 0 r j)) (fun j => iblk m c 1 n (ix3 0 r j)) (fun j => iblk m c 2 n (ix3 0 r j)) l
      (fun j => iblk m c 4 n (ix3 0 j t)) (fun j => iblk m c 5 n (ix3 0 j t)) := by
  have z3 : (![0, 0, 0] : Fin 3 → ℕ) = fun _ => 0 := by funext a; fin_cases a <;> rfl
  unfold ptCost
  rw [View.read_writes_eq_canon _ _ _ (cost_cover m c n)]
  refine View.canon_eq_of_allAt _ _ _ (cost_cover m c n _) ?_
  unfold ptPieces costPieces
  have e3 : View.readAt (Elt Ideal) (ms0_3 n).view (Rect.unit ![0, 0, 0] S1x1x50.size inb_S1x1x50_S1x1x50_0_0_0).toLoadRect ((hs0_3 n).unread (iblk m c 3 n)) = iblk m c 3 n := by
    rw [View.readAt_eq_ld, (hs0_3 n).read_unread]; exact View.ld_unit_zero z3 _ _
  have e4 : View.readAt (Elt Ideal) (ms0_4 n).view (Rect.unit ![0, 0, 0] S1x4x50.size inb_S1x4x50_S1x4x50_0_0_0).toLoadRect ((hs0_4 n).unread (iblk m c 4 n)) = iblk m c 4 n := by
    rw [View.readAt_eq_ld, (hs0_4 n).read_unread]; exact View.ld_unit_zero z3 _ _
  have e5 : View.readAt (Elt Ideal) (ms0_5 n).view (Rect.unit ![0, 0, 0] S1x117x50.size inb_S1x117x50_S1x117x50_0_0_0).toLoadRect ((hs0_5 n).unread (iblk m c 5 n)) = iblk m c 5 n := by
    rw [View.readAt_eq_ld, (hs0_5 n).read_unread]; exact View.ld_unit_zero z3 _ _
  rw [e3, e4, e5]
  exact pieces_allAt _ _ _ _ _ _ _ _ _ _ _ _ _ _ _ _ _ _ _ _ _ _ _ _ _ _ _ _ (fun k => trip_allAt _ _ _ _ _ _ _ _ _ _ _ _ _ _ _ _ _ _ _ _ _ _ _ _ _ _ _ _ _ hl k) _ le_rfl

end Cert.Proof
-- ==== Proof.KernelValue.lean ====
module

public import proofs.«01_k».proof.Proof.CostTable
public import Idealize.ShloMosaic.Lib.Pipeline.ValueKit
public import Idealize.ShloMosaic.Lib.Claim
public import Idealize.ShloMosaic.Lib.StableHlo.ReadAt
public import Idealize.ShloMosaic.Lib.Pointwise.Tactic
public import Idealize.ShloMosaic.Lib.Pointwise.Reshape

@[expose] public section
set_option maxRecDepth 16384

/-! The arrays after the kernel's run: the cost array and the two arrays of picks, block by block. -/

noncomputable section
namespace Cert.Proof
open Cert.KernelIdeal Cert.KernelIdeal.Gen
open Idealize.ShloMosaic Idealize.ShloMosaic.TcCoe Idealize.SL.Sem
open Idealize.ShloMosaic.Pipeline (Dat)

variable {F : FTy → Type} [FloatOps F]
variable (hok : PicksIn F) (m : (ℓ : Loc nD τ sig) → Buf (Elt F) ℓ) (ρ : Dev nD → PrngReg) (c : Dev nD)

/-- Every window's block at point `n` is block `n` along the first axis. -/
theorem idx : ∀ n : Fin cfg0.N, win0_0.index n = ![n.val, 0, 0] ∧ win0_1.index n = ![n.val, 0, 0] ∧ win0_2.index n = ![n.val, 0, 0]
    ∧ win0_3.index n = ![n.val, 0, 0] ∧ win0_4.index n = ![n.val, 0, 0] ∧ win0_5.index n = ![n.val, 0, 0]
    ∧ win0_6.index n = ![n.val, 0, 0] ∧ win0_7.index n = ![n.val, 0, 0] ∧ win0_8.index n = ![n.val, 0, 0] :=
  (by decide +kernel : ∀ n : Fin grid0.N, _)

/-- The grid's points are the four batch entries. -/
abbrev pt (b : Fin 4) : Fin cfg0.N := ⟨b.val, b.isLt⟩

/-- Window 0's block. -/
theorem iblk0 (b : Fin 4) (r : Fin 10000) (j : Fin 81) : iblk m c 0 (pt b) (ix3 0 r j) = m ((c.tc : Thread nD τ).loc main_arg0) (ix3 b r j) := by
  rw [← V_main_arg0 m c]; blk_ext [iblk, V, idx (pt b)]
/-- Window 1's block. -/
theorem iblk1 (b : Fin 4) (r : Fin 10000) (j : Fin 4) : iblk m c 1 (pt b) (ix3 0 r j) = m ((c.tc : Thread nD τ).loc main_arg1) (ix3 b r j) := by
  rw [← V_main_arg1 m c]; blk_ext [iblk, V, idx (pt b)]
/-- Window 2's block. -/
theorem iblk2 (b : Fin 4) (r : Fin 10000) (j : Fin 117) : iblk m c 2 (pt b) (ix3 0 r j) = m ((c.tc : Thread nD τ).loc main_arg2) (ix3 b r j) := by
  rw [← V_main_arg2 m c]; blk_ext [iblk, V, idx (pt b)]
/-- Window 3's block: the labels. -/
theorem iblk3 (b : Fin 4) (t : Fin 50) : iblk m c 3 (pt b) (ix3 0 0 t) = m ((c.tc : Thread nD τ).loc main_arg3) (ix2 b t) := by
  have e : iblk m c 3 (pt b) (ix3 0 0 t) = V m c main_v0 (ix3 b 0 t) := by blk_ext [iblk, V, idx (pt b)]
  rw [e]
  change StableHlo.after hostOps0 (fun b => m (c, b)) (Proc.tc.devRef main_v0) (ix3 b 0 t) = _
  after_reads_at
/-- Window 4's block: the boxes, transposed. -/
theorem iblk4 (b : Fin 4) (j : Fin 4) (t : Fin 50) : iblk m c 4 (pt b) (ix3 0 j t) = m ((c.tc : Thread nD τ).loc main_arg4) (ix3 b t j) := by
  have e : iblk m c 4 (pt b) (ix3 0 j t) = V m c main_v1 (ix3 b j t) := by blk_ext [iblk, V, idx (pt b)]
  rw [e]
  change StableHlo.after hostOps0 (fun b => m (c, b)) (Proc.tc.devRef main_v1) (ix3 b j t) = _
  after_reads_at
/-- Window 5's block: the actions, transposed. -/
theorem iblk5 (b : Fin 4) (j : Fin 117) (t : Fin 50) : iblk m c 5 (pt b) (ix3 0 j t) = m ((c.tc : Thread nD τ).loc main_arg5) (ix3 b t j) := by
  have e : iblk m c 5 (pt b) (ix3 0 j t) = V m c main_v2 (ix3 b j t) := by blk_ext [iblk, V, idx (pt b)]
  rw [e]
  change StableHlo.after hostOps0 (fun b => m (c, b)) (Proc.tc.devRef main_v2) (ix3 b j t) = _
  after_reads_at

/-- The cost array after the run. -/
def costArr : Vec F S4x10000x50 .f32 := fun i => ptCost m c (pt (i 0)) (ix3 0 (i 1) (i 2))
/-- The array of picked rows after the run. -/
def rowArr : Vec F S4x1x50 .i32 := fun i => k0_pay13 (ptEnd hok m c (pt (i 0))).2.2.2.2.1 (ix3 0 0 (i 2))
/-- The array of picked columns after the run. -/
def colArr : Vec F S4x1x50 .i32 := fun i => k0_pay14 (ptEnd hok m c (pt (i 0))).2.2.2.2.2 (ix3 0 0 (i 2))

/-- The cost array read at a place of block `n`. -/
theorem costArr_of (n : Fin cfg0.N) (y : S1x10000x50.Idx) (i : S4x10000x50.Idx) (h0 : (i 0 : ℕ) = n) (h1 : (i 1 : ℕ) = y 1) (h2 : (i 2 : ℕ) = y 2) :
    ptCost m c n y = costArr m c i := by
  have e0 : pt (i 0) = n := Fin.ext h0
  have e1 : (ix3 0 (i 1) (i 2) : S1x10000x50.Idx) = y := by
    funext a; fin_cases a
    · exact Subsingleton.elim (α := Fin 1) _ _
    · exact Fin.ext h1
    · exact Fin.ext h2
  unfold costArr
  rw [e0, e1]

/-- The array of picked rows read at a place of block `n`. -/
theorem rowArr_of (n : Fin cfg0.N) (y : S1x1x50.Idx) (i : S4x1x50.Idx) (h0 : (i 0 : ℕ) = n) (h2 : (i 2 : ℕ) = y 2) :
    k0_pay13 (ptEnd hok m c n).2.2.2.2.1 y = rowArr hok m c i := by
  have e0 : pt (i 0) = n := Fin.ext h0
  have e1 : (ix3 0 0 (i 2) : S1x1x50.Idx) = y := by
    funext a; fin_cases a
    · exact Subsingleton.elim (α := Fin 1) _ _
    · exact Subsingleton.elim (α := Fin 1) _ _
    · exact Fin.ext h2
  unfold rowArr
  rw [e0, e1]

/-- The array of picked columns read at a place of block `n`. -/
theorem colArr_of (n : Fin cfg0.N) (y : S1x1x50.Idx) (i : S4x1x50.Idx) (h0 : (i 0 : ℕ) = n) (h2 : (i 2 : ℕ) = y 2) :
    k0_pay14 (ptEnd hok m c n).2.2.2.2.2 y = colArr hok m c i := by
  have e0 : pt (i 0) = n := Fin.ext h0
  have e1 : (ix3 0 0 (i 2) : S1x1x50.Idx) = y := by
    funext a; fin_cases a
    · exact Subsingleton.elim (α := Fin 1) _ _
    · exact Subsingleton.elim (α := Fin 1) _ _
    · exact Fin.ext h2
  unfold colArr
  rw [e0, e1]

/-- Window 6's array after the run is the cost array. -/
theorem arr6 : (dats hok m 0 c).arrAt 6 cfg0.N = costArr m c := by
  refine (dats hok m 0 c).arrAt_eq_of_covers 6 _ (by decide +kernel) fun t hf y => ?_
  blk_simp
  rw [after0_6]
  have hy : (y 0 : ℕ) = 0 := Nat.lt_one_iff.mp (y 0).isLt
  refine costArr_of m c t y _ ?_ ?_ ?_
  · blk_simp [idx t]
  · blk_simp [idx t]
  · blk_simp [idx t]

/-- Window 7's array after the run is the array of picked rows. -/
theorem arr7 : (dats hok m 0 c).arrAt 7 cfg0.N = rowArr hok m c := by
  refine (dats hok m 0 c).arrAt_eq_of_covers 7 _ (by decide +kernel) fun t hf y => ?_
  blk_simp
  rw [after0_7]
  have hy : (y 0 : ℕ) = 0 := Nat.lt_one_iff.mp (y 0).isLt
  refine rowArr_of hok m c t y _ ?_ ?_
  · blk_simp [idx t]
  · blk_simp [idx t]

/-- Window 8's array after the run is the array of picked columns. -/
theorem arr8 : (dats hok m 0 c).arrAt 8 cfg0.N = colArr hok m c := by
  refine (dats hok m 0 c).arrAt_eq_of_covers 8 _ (by decide +kernel) fun t hf y => ?_
  blk_simp
  rw [after0_8]
  have hy : (y 0 : ℕ) = 0 := Nat.lt_one_iff.mp (y 0).isLt
  refine colArr_of hok m c t y _ ?_ ?_
  · blk_simp [idx t]
  · blk_simp [idx t]

/-- The rows as returned: the middle axis dropped. -/
theorem tail_rows (b : Fin 4) (t : Fin 50) :
    Pipeline.afterTail₀ cfgs (dats hok m) 0 (V0 m) [hostOps1] c main_v4 (ix2 b t) = rowArr hok m c (ix3 b 0 t) := by
  unfold Pipeline.afterTail₀
  rw [← arr7 hok m c]
  have e := Pipeline.withArrays_arr spec0 (by decide +kernel) c (V0 m c) (fun w => (dats hok m 0 c).arrAt w (cfgs 0).N) 7
  generalize (Pipeline.withArrays (cfgs 0).spec c (V0 m c) fun w => (dats hok m 0 c).arrAt w (cfgs 0).N) = W at e ⊢
  change StableHlo.after hostOps1 W (Proc.devRef .tc main_v4) (ix2 b t) = _
  after_reads_at
  exact congrFun e _

/-- The columns as returned: the middle axis dropped. -/
theorem tail_cols (b : Fin 4) (t : Fin 50) :
    Pipeline.afterTail₀ cfgs (dats hok m) 0 (V0 m) [hostOps1] c main_v5 (ix2 b t) = colArr hok m c (ix3 b 0 t) := by
  unfold Pipeline.afterTail₀
  rw [← arr8 hok m c]
  have e := Pipeline.withArrays_arr spec0 (by decide +kernel) c (V0 m c) (fun w => (dats hok m 0 c).arrAt w (cfgs 0).N) 8
  generalize (Pipeline.withArrays (cfgs 0).spec c (V0 m c) fun w => (dats hok m 0 c).arrAt w (cfgs 0).N) = W at e ⊢
  change StableHlo.after hostOps1 W (Proc.devRef .tc main_v5) (ix2 b t) = _
  after_reads_at
  exact congrFun e _

include hok in
/-- The kernel runs: its first result is the cost array, its second and third the picked rows and columns. -/
theorem run_values : θ_run defs (onTc (τ := τ) (main (F := F))) ⟨m, fun _ => 0, ρ⟩ (fun r => ∀ c : Dev nD,
      r.2.mem ((c.tc : Thread nD τ).loc main_v3_0) = costArr m c
      ∧ r.2.mem ((c.tc : Thread nD τ).loc main_v4) = (fun i : S4x50.Idx => rowArr hok m c (ix3 (i 0) 0 (i 1)))
      ∧ r.2.mem ((c.tc : Thread nD τ).loc main_v5) = (fun i : S4x50.Idx => colArr hok m c (ix3 (i 0) 0 (i 1)))) :=
  (θ_run defs _ _).mono (fun r h c => ⟨((h c).1 6).trans (arr6 hok m c),
    ((h c).2 main_v4 (Pipeline.mem_restRefs_of main_v4 (by decide) (by decide))).trans (funext fun i => by
      have := tail_rows hok m c (i 0) (i 1)
      rwa [show (ix2 (i 0) (i 1) : S4x50.Idx) = i by funext a; fin_cases a <;> rfl] at this),
    ((h c).2 main_v5 (Pipeline.mem_restRefs_of main_v5 (by decide) (by decide))).trans (funext fun i => by
      have := tail_cols hok m c (i 0) (i 1)
      rwa [show (ix2 (i 0) (i 1) : S4x50.Idx) = i by funext a; fin_cases a <;> rfl] at this)⟩) (run_main hok m ρ)

/-- The cost array holds, for each batch entry, query and target, the matching cost of the arguments, given the target's label. -/
theorem costArr_at (m : (ℓ : Loc nD τ sig) → Buf (Elt Ideal) ℓ) (c : Dev nD) (b : Fin 4) (r : Fin 10000) (t : Fin 50) (l : Fin 81)
    (hl : m ((c.tc : Thread nD τ).loc main_arg3) (ix2 b t) = BitVec.ofNat 32 l) :
    costArr m c (ix3 b r t) = cost (fun j => m ((c.tc : Thread nD τ).loc main_arg0) (ix3 b r j)) (fun j => m ((c.tc : Thread nD τ).loc main_arg1) (ix3 b r j))
      (fun j => m ((c.tc : Thread nD τ).loc main_arg2) (ix3 b r j)) l (fun j => m ((c.tc : Thread nD τ).loc main_arg4) (ix3 b t j))
      (fun j => m ((c.tc : Thread nD τ).loc main_arg5) (ix3 b t j)) := by
  refine (ptCost_at c m (pt b) r t l ((iblk3 m c b t).trans hl)).trans ?_
  simp only [iblk0, iblk1, iblk2, iblk4, iblk5]

end Cert.Proof
-- ==== Proof.CostRef.lean ====
module

public import proofs.«01_k».proof.Proof.Gen.ReferenceIdeal.Run
public import proofs.«01_k».proof.Proof.CostSpec
public import Idealize.ShloMosaic.Lib.Pointwise.Tactic
public import Idealize.ShloMosaic.Lib.Pointwise.Reduce
public import Idealize.ShloMosaic.Lib.Pointwise.Contract
public import Idealize.ShloMosaic.Lib.Pointwise.Reshape
public import Idealize.ShloMosaic.Lib.StableHlo.ReadAt
public import Idealize.ShloMosaic.PureOps.Reduce
public import Idealize.ShloMosaic.PureOps.Ideal.Laws

@[expose] public section

/-! The reference's cost table, entry by entry. -/

noncomputable section
namespace Cert.Proof
open Cert.ReferenceIdeal Cert.ReferenceIdeal.Gen Cert.ReferenceIdeal.Value
open Idealize.ShloMosaic Idealize.ShloMosaic.StableHlo

/-- The class gather of the reference picks, for batch `b`, query `q` and target `t`, the entry of class `l`, where `l` is the start index of target `t`. -/
theorem gather_at {α : Type} (x : S4x10000x81.Idx → α) (idx : IVec S4x50x1 32) (b : Fin 4) (q : Fin 10000) (t : Fin 50) (l : Fin 81)
    (h : idx (ix3 b t 0) = BitVec.ofNat 32 l) :
    Host.gather gather_S4x10000x81_S4x50x1_S4x10000x50_1_2_0_0_2_2_1100001 x idx (ix3 b q t) = x (ix3 b q l) := by
  unfold Host.gather
  congr 1
  have h0 : GatherDims.start gather_S4x10000x81_S4x50x1_S4x10000x50_1_2_0_0_2_2_1100001 (ix3 b q t) idx 0 = 0 := by
    unfold GatherDims.start; rw [dif_neg (by decide)]
  have h1 : GatherDims.start gather_S4x10000x81_S4x50x1_S4x10000x50_1_2_0_0_2_2_1100001 (ix3 b q t) idx 1 = 0 := by
    unfold GatherDims.start; rw [dif_neg (by decide)]
  have e : ∀ p, GatherDims.siIdx gather_S4x10000x81_S4x50x1_S4x10000x50_1_2_0_0_2_2_1100001 (ix3 b q t) p = ix3 b t 0 := by
    intro p
    funext a
    apply Fin.ext
    have ha : a = 0 ∨ a = 1 ∨ a = 2 := by
      revert a; decide
    rcases ha with rfl | rfl | rfl
    · rfl
    · rfl
    · exact Nat.lt_one_iff.1 (Fin.isLt (n := 1) _)
  have h2 : GatherDims.start gather_S4x10000x81_S4x50x1_S4x10000x50_1_2_0_0_2_2_1100001 (ix3 b q t) idx 2 = min (idx (ix3 b t 0)).toInt.toNat 80 := by
    unfold GatherDims.start
    rw [dif_pos (by decide), e]
    rfl
  have hl : (BitVec.ofNat 32 l.val).toInt = (l.val : Int) := by
    rw [BitVec.toInt_ofNat']
    have := l.isLt
    simp only [Int.bmod_def]; omega
  have h2' : GatherDims.start gather_S4x10000x81_S4x50x1_S4x10000x50_1_2_0_0_2_2_1100001 (ix3 b q t) idx 2 = l.val := by
    rw [h2, h, hl]
    have := l.isLt
    simp only [Int.toNat_natCast]; omega
  funext a
  apply Fin.ext
  have ha : a = 0 ∨ a = 1 ∨ a = 2 := by
    revert a; decide
  rcases ha with rfl | rfl | rfl
  · show GatherDims.start gather_S4x10000x81_S4x50x1_S4x10000x50_1_2_0_0_2_2_1100001 (ix3 b q t) idx 0 + GatherDims.batchCoord gather_S4x10000x81_S4x50x1_S4x10000x50_1_2_0_0_2_2_1100001 (ix3 b q t) 0 + GatherDims.offCoord gather_S4x10000x81_S4x50x1_S4x10000x50_1_2_0_0_2_2_1100001 (ix3 b q t) 0 = b.val
    rw [h0, GatherDims.offCoord_eq_zero _ _ _ (by decide)]
    exact (Nat.zero_add _).trans rfl
  · show GatherDims.start gather_S4x10000x81_S4x50x1_S4x10000x50_1_2_0_0_2_2_1100001 (ix3 b q t) idx 1 + GatherDims.batchCoord gather_S4x10000x81_S4x50x1_S4x10000x50_1_2_0_0_2_2_1100001 (ix3 b q t) 1 + GatherDims.offCoord gather_S4x10000x81_S4x50x1_S4x10000x50_1_2_0_0_2_2_1100001 (ix3 b q t) 1 = q.val
    rw [h1, GatherDims.batchCoord_eq_zero _ _ _ (by decide)]
    exact (Nat.zero_add _).trans rfl
  · show GatherDims.start gather_S4x10000x81_S4x50x1_S4x10000x50_1_2_0_0_2_2_1100001 (ix3 b q t) idx 2 + GatherDims.batchCoord gather_S4x10000x81_S4x50x1_S4x10000x50_1_2_0_0_2_2_1100001 (ix3 b q t) 2 + GatherDims.offCoord gather_S4x10000x81_S4x50x1_S4x10000x50_1_2_0_0_2_2_1100001 (ix3 b q t) 2 = l.val
    rw [h2', GatherDims.batchCoord_eq_zero _ _ _ (by decide), GatherDims.offCoord_eq_zero _ _ _ (by decide)]
    rfl

/-- The largest logit of each query, as the reference computes it. -/
def tops (x : FVec Ideal S4x10000x81 .f32) : FVec Ideal S4x10000 .f32 :=
  Host.reduce FloatOps.maximumf x (constant S_ FTy.f32 4286578688#32) reducesTo_S4x10000x81_S4x10000_d2 h_S_

/-- The exponentials of the logits less a number of each query. -/
def exps (x : FVec Ideal S4x10000x81 .f32) (m : FVec Ideal S4x10000 .f32) : FVec Ideal S4x10000x81 .f32 :=
  Host.exp (subf x (broadcastInDim S4x10000x81 ![0, 1, 2] bcast_S4x10000x1_S4x10000x81_0_1_2
    (broadcastInDim S4x10000x1 ![0, 1] bcast_S4x10000_S4x10000x1_0_1
      (maximumf (broadcastInDim S4x10000 ![] bcast_S_S4x10000 (constant S_ FTy.f32 4286578688#32)) m))))

/-- The sums along the classes. -/
def sums (y : FVec Ideal S4x10000x81 .f32) : FVec Ideal S4x10000 .f32 :=
  Host.reduceAdd y (constant S_ FTy.f32 0#32) reducesTo_S4x10000x81_S4x10000_d2 h_S_

/-- The softmax of the class logits, as the reference computes it. -/
def soft (x : FVec Ideal S4x10000x81 .f32) : FVec Ideal S4x10000x81 .f32 :=
  Host.divf (exps x (tops x))
    (broadcastInDim S4x10000x81 ![0, 1, 2] bcast_S4x10000x1_S4x10000x81_0_1_2
      (broadcastInDim S4x10000x1 ![0, 1] bcast_S4x10000_S4x10000x1_0_1 (sums (exps x (tops x)))))

theorem tops_at (x : FVec Ideal S4x10000x81 .f32) (b : Fin 4) (q : Fin 10000) : tops x (ix2 b q) = top (fun j => x (ix3 b q j)) := by
  unfold tops
  pointwise
  rfl

theorem sums_at (x : FVec Ideal S4x10000x81 .f32) (b : Fin 4) (q : Fin 10000) : sums x (ix2 b q) = ∑ j, x (ix3 b q j) := by
  unfold sums
  pointwise

theorem exps_at (x : FVec Ideal S4x10000x81 .f32) (m : FVec Ideal S4x10000 .f32) (b : Fin 4) (q : Fin 10000) (j : Fin 81) :
    exps x m (ix3 b q j) = Ideal.exp (x (ix3 b q j) - max (Ideal.ofBits FTy.f32 4286578688#32) (m (ix2 b q))) := by
  unfold exps
  pointwise

theorem div_at (x : FVec Ideal S4x10000x81 .f32) (m : FVec Ideal S4x10000 .f32) (b : Fin 4) (q : Fin 10000) (j : Fin 81) :
    Host.divf x (broadcastInDim S4x10000x81 ![0, 1, 2] bcast_S4x10000x1_S4x10000x81_0_1_2
      (broadcastInDim S4x10000x1 ![0, 1] bcast_S4x10000_S4x10000x1_0_1 m)) (ix3 b q j) = Ideal.div (x (ix3 b q j)) (m (ix2 b q)) := by
  pointwise

/-- One entry of the softmax is the softmax probability of its class. -/
theorem soft_at (x : FVec Ideal S4x10000x81 .f32) (b : Fin 4) (q : Fin 10000) (l : Fin 81) :
    soft x (ix3 b q l) = prob (fun j => x (ix3 b q j)) l := by
  have ht : max (Ideal.ofBits FTy.f32 4286578688#32) (top (fun j => x (ix3 b q j))) = top (fun j => x (ix3 b q j)) :=
    max_eq_right ((Finset.le_fold_max _).2 (.inl le_rfl))
  unfold soft prob
  rw [div_at, sums_at]
  simp only [exps_at, tops_at, ht]

/-- The start indices of the class gather: the labels, a negative one counted from the end. -/
def starts (a : IVec S4x50 32) : IVec S4x50x1 32 :=
  broadcastInDim S4x50x1 ![0, 1] bcast_S4x50_S4x50x1_0_1
    (select (cmpi CmpIPredicate.slt a (broadcastInDim S4x50 ![] bcast_S_S4x50 (constantI S_ 32 0#32)))
      (addi a (broadcastInDim S4x50 ![] bcast_S_S4x50 (constantI S_ 32 81#32))) a)

/-- A label of a class is its own start index. -/
theorem starts_at (a : IVec S4x50 32) (b : Fin 4) (t : Fin 50) (l : Fin 81) (hl : a (ix2 b t) = BitVec.ofNat 32 l) :
    starts a (ix3 b t 0) = BitVec.ofNat 32 l := by
  unfold starts
  pointwise
  rw [hl]
  clear hl
  revert l
  decide

set_option maxRecDepth 100000
set_option maxHeartbeats 2000000

variable (V : Valuation τ sig (Elt Ideal)) (b : Fin 4) (q : Fin 10000) (t : Fin 50)

theorem a18 (l : Fin 81) (hl : V (Proc.devRef .tc main_arg3) (ix2 b t) = BitVec.ofNat 32 l) :
    after hostOps0 V (Proc.devRef .tc main_v18) (ix3 b q t) = 0 - prob (fun j => V (Proc.devRef .tc main_arg0) (ix3 b q j)) l := by
  after_reads_at
  change -Host.gather gather_S4x10000x81_S4x50x1_S4x10000x50_1_2_0_0_2_2_1100001 (soft (V (Proc.devRef .tc main_arg0))) (starts (V (Proc.devRef .tc main_arg3))) (ix3 b q t) = _
  rw [gather_at _ _ b q t l (starts_at _ b t l hl), soft_at, zero_sub]
end Cert.Proof
-- ==== Proof.CostRefBox.lean ====
module

public import proofs.«01_k».proof.Proof.Gen.ReferenceIdeal.Run
public import proofs.«01_k».proof.Proof.CostSpec
public import Idealize.ShloMosaic.Lib.Pointwise.Tactic
public import Idealize.ShloMosaic.Lib.Pointwise.Reduce
public import Idealize.ShloMosaic.Lib.Pointwise.Contract
public import Idealize.ShloMosaic.Lib.Pointwise.Reshape
public import Idealize.ShloMosaic.Lib.StableHlo.ReadAt
public import Idealize.ShloMosaic.PureOps.Reduce
public import Idealize.ShloMosaic.PureOps.Ideal.Laws

@[expose] public section

/-! The boxes in the reference's cost table. -/

noncomputable section
namespace Cert.Proof
open Cert.ReferenceIdeal Cert.ReferenceIdeal.Gen Cert.ReferenceIdeal.Value
open Idealize.ShloMosaic Idealize.ShloMosaic.StableHlo

set_option maxRecDepth 100000
set_option maxHeartbeats 2000000

variable (V : Valuation τ sig (Elt Ideal)) (b : Fin 4) (q : Fin 10000) (t : Fin 50)

theorem e46 : upto hostOps0 V 60 (Proc.devRef .tc main_v46) (ix3 b q 0) = lo (V (Proc.devRef .tc main_arg1) (ix3 b q 0)) (V (Proc.devRef .tc main_arg1) (ix3 b q 2)) := by
  after_reads_at
  rfl
theorem e47 : upto hostOps0 V 60 (Proc.devRef .tc main_v47) (ix3 b q 0) = lo (V (Proc.devRef .tc main_arg1) (ix3 b q 1)) (V (Proc.devRef .tc main_arg1) (ix3 b q 3)) := by
  after_reads_at
  rfl
theorem e48 : upto hostOps0 V 60 (Proc.devRef .tc main_v48) (ix3 b q 0) = hi (V (Proc.devRef .tc main_arg1) (ix3 b q 0)) (V (Proc.devRef .tc main_arg1) (ix3 b q 2)) := by
  after_reads_at
  rfl
theorem e49 : upto hostOps0 V 60 (Proc.devRef .tc main_v49) (ix3 b q 0) = hi (V (Proc.devRef .tc main_arg1) (ix3 b q 1)) (V (Proc.devRef .tc main_arg1) (ix3 b q 3)) := by
  after_reads_at
  rfl
theorem e71 : upto hostOps0 V 89 (Proc.devRef .tc main_v71) (ix3 b t 0) = lo (V (Proc.devRef .tc main_arg4) (ix3 b t 0)) (V (Proc.devRef .tc main_arg4) (ix3 b t 2)) := by
  after_reads_at
  rfl
theorem e72 : upto hostOps0 V 89 (Proc.devRef .tc main_v72) (ix3 b t 0) = lo (V (Proc.devRef .tc main_arg4) (ix3 b t 1)) (V (Proc.devRef .tc main_arg4) (ix3 b t 3)) := by
  after_reads_at
  rfl
theorem e73 : upto hostOps0 V 89 (Proc.devRef .tc main_v73) (ix3 b t 0) = hi (V (Proc.devRef .tc main_arg4) (ix3 b t 0)) (V (Proc.devRef .tc main_arg4) (ix3 b t 2)) := by
  after_reads_at
  rfl
theorem e74 : upto hostOps0 V 89 (Proc.devRef .tc main_v74) (ix3 b t 0) = hi (V (Proc.devRef .tc main_arg4) (ix3 b t 1)) (V (Proc.devRef .tc main_arg4) (ix3 b t 3)) := by
  after_reads_at
  rfl

/-- The area of a query's box. -/
theorem a86 : after hostOps0 V (Proc.devRef .tc main_v86) (ix2 b q) = area (fun j => V (Proc.devRef .tc main_arg1) (ix3 b q j)) := by
  after_reads_at
  rw [e46, e47, e48, e49]
  rfl
/-- The area of a target's box. -/
theorem a97 : after hostOps0 V (Proc.devRef .tc main_v97) (ix2 b t) = area (fun j => V (Proc.devRef .tc main_arg4) (ix3 b t j)) := by
  after_reads_at
  rw [e71, e72, e73, e74]
  rfl
theorem a112_0 : max (0 : EReal) (after hostOps0 V (Proc.devRef .tc main_v112) (ix4 b q t 0) : EReal) = common (V (Proc.devRef .tc main_arg1) (ix3 b q 0)) (V (Proc.devRef .tc main_arg1) (ix3 b q 2)) (V (Proc.devRef .tc main_arg4) (ix3 b t 0)) (V (Proc.devRef .tc main_arg4) (ix3 b t 2)) := by
  unfold common
  rw [max_comm]
  after_reads_at
  rw [e46, e48, e71, e73]
theorem a112_1 : max (0 : EReal) (after hostOps0 V (Proc.devRef .tc main_v112) (ix4 b q t 1) : EReal) = common (V (Proc.devRef .tc main_arg1) (ix3 b q 1)) (V (Proc.devRef .tc main_arg1) (ix3 b q 3)) (V (Proc.devRef .tc main_arg4) (ix3 b t 1)) (V (Proc.devRef .tc main_arg4) (ix3 b t 3)) := by
  unfold common
  rw [max_comm]
  after_reads_at
  rw [e47, e49, e72, e74]
theorem a50_0 : after hostOps0 V (Proc.devRef .tc main_v50) (ix3 b q 0) = lo (V (Proc.devRef .tc main_arg1) (ix3 b q 0)) (V (Proc.devRef .tc main_arg1) (ix3 b q 2)) := by
  after_reads_at
  exact e46 V b q
theorem a50_1 : after hostOps0 V (Proc.devRef .tc main_v50) (ix3 b q 1) = lo (V (Proc.devRef .tc main_arg1) (ix3 b q 1)) (V (Proc.devRef .tc main_arg1) (ix3 b q 3)) := by
  after_reads_at
  exact e47 V b q
theorem a50_2 : after hostOps0 V (Proc.devRef .tc main_v50) (ix3 b q 2) = hi (V (Proc.devRef .tc main_arg1) (ix3 b q 0)) (V (Proc.devRef .tc main_arg1) (ix3 b q 2)) := by
  after_reads_at
  exact e48 V b q
theorem a50_3 : after hostOps0 V (Proc.devRef .tc main_v50) (ix3 b q 3) = hi (V (Proc.devRef .tc main_arg1) (ix3 b q 1)) (V (Proc.devRef .tc main_arg1) (ix3 b q 3)) := by
  after_reads_at
  exact e49 V b q
theorem a75_0 : after hostOps0 V (Proc.devRef .tc main_v75) (ix3 b t 0) = lo (V (Proc.devRef .tc main_arg4) (ix3 b t 0)) (V (Proc.devRef .tc main_arg4) (ix3 b t 2)) := by
  after_reads_at
  exact e71 V b t
theorem a75_1 : after hostOps0 V (Proc.devRef .tc main_v75) (ix3 b t 1) = lo (V (Proc.devRef .tc main_arg4) (ix3 b t 1)) (V (Proc.devRef .tc main_arg4) (ix3 b t 3)) := by
  after_reads_at
  exact e72 V b t
theorem a75_2 : after hostOps0 V (Proc.devRef .tc main_v75) (ix3 b t 2) = hi (V (Proc.devRef .tc main_arg4) (ix3 b t 0)) (V (Proc.devRef .tc main_arg4) (ix3 b t 2)) := by
  after_reads_at
  exact e73 V b t
theorem a75_3 : after hostOps0 V (Proc.devRef .tc main_v75) (ix3 b t 3) = hi (V (Proc.devRef .tc main_arg4) (ix3 b t 1)) (V (Proc.devRef .tc main_arg4) (ix3 b t 3)) := by
  after_reads_at
  exact e74 V b t
/-- The box distance of a query and a target. -/
theorem a25 : after hostOps0 V (Proc.devRef .tc main_v25) (ix3 b q t) = boxDist (fun j => V (Proc.devRef .tc main_arg1) (ix3 b q j)) (fun j => V (Proc.devRef .tc main_arg4) (ix3 b t j)) := by
  after_reads_at
  rw [Fin.sum_univ_four]
  rfl
end Cert.Proof
-- ==== Proof.CostRefTable.lean ====
module

public import proofs.«01_k».proof.Proof.CostRef
public import proofs.«01_k».proof.Proof.CostRefBox

@[expose] public section

/-! The reference's cost table, entry by entry: the stretches of its program put together. -/

noncomputable section
namespace Cert.Proof
open Cert.ReferenceIdeal Cert.ReferenceIdeal.Gen Cert.ReferenceIdeal.Value
open Idealize.ShloMosaic Idealize.ShloMosaic.StableHlo

set_option maxRecDepth 100000
set_option maxHeartbeats 2000000

variable (V : Valuation τ sig (Elt Ideal)) (b : Fin 4) (q : Fin 10000) (t : Fin 50)

theorem c12 : id (after hostOps0 V (Proc.devRef .tc main_cst_12)) ix0 = (0 : EReal) := by
  after_reads_at
  exact Ideal.ofBits_zero .f32
theorem c14 : id (after hostOps0_2 V (Proc.devRef .tc main_cst_14)) ix0 = (0 : EReal) := by
  after_reads_at
  exact Ideal.ofBits_zero .f32
theorem p113_0 : (after hostOps0_1 V (Proc.devRef .tc main_v113) (ix4 b q t 0) : EReal) = @max EReal _ (id (V (Proc.devRef .tc main_cst_12)) ix0) (V (Proc.devRef .tc main_v112) (ix4 b q t 0) : EReal) := by
  after_reads_at
theorem p143_0 : (after hostOps0_3 V (Proc.devRef .tc main_v143) (ix4 b q t 0) : EReal) = @max EReal _ (id (V (Proc.devRef .tc main_cst_14)) ix0) (V (Proc.devRef .tc main_v142) (ix4 b q t 0) : EReal) := by
  after_reads_at
theorem p142_0 : (after hostOps0_2 V (Proc.devRef .tc main_v142) (ix4 b q t 0) : EReal) = @HSub.hSub EReal EReal EReal _ (@max EReal _ (V (Proc.devRef .tc main_v50) (ix3 b q 2) : EReal) (V (Proc.devRef .tc main_v75) (ix3 b t 2) : EReal)) (@min EReal _ (V (Proc.devRef .tc main_v50) (ix3 b q 0) : EReal) (V (Proc.devRef .tc main_v75) (ix3 b t 0) : EReal)) := by
  after_reads_at
theorem p113_1 : (after hostOps0_1 V (Proc.devRef .tc main_v113) (ix4 b q t 1) : EReal) = @max EReal _ (id (V (Proc.devRef .tc main_cst_12)) ix0) (V (Proc.devRef .tc main_v112) (ix4 b q t 1) : EReal) := by
  after_reads_at
theorem p143_1 : (after hostOps0_3 V (Proc.devRef .tc main_v143) (ix4 b q t 1) : EReal) = @max EReal _ (id (V (Proc.devRef .tc main_cst_14)) ix0) (V (Proc.devRef .tc main_v142) (ix4 b q t 1) : EReal) := by
  after_reads_at
theorem p142_1 : (after hostOps0_2 V (Proc.devRef .tc main_v142) (ix4 b q t 1) : EReal) = @HSub.hSub EReal EReal EReal _ (@max EReal _ (V (Proc.devRef .tc main_v50) (ix3 b q 3) : EReal) (V (Proc.devRef .tc main_v75) (ix3 b t 3) : EReal)) (@min EReal _ (V (Proc.devRef .tc main_v50) (ix3 b q 1) : EReal) (V (Proc.devRef .tc main_v75) (ix3 b t 1) : EReal)) := by
  after_reads_at
theorem p124 : (after hostOps0_2 V (Proc.devRef .tc main_v124) (ix3 b q t) : EReal) = @HSub.hSub EReal EReal EReal _ (@HAdd.hAdd EReal EReal EReal _ (V (Proc.devRef .tc main_v86) (ix2 b q) : EReal) (V (Proc.devRef .tc main_v97) (ix2 b t) : EReal)) (@HMul.hMul EReal EReal EReal _ (V (Proc.devRef .tc main_v113) (ix4 b q t 0) : EReal) (V (Proc.devRef .tc main_v113) (ix4 b q t 1) : EReal)) := by
  after_reads_at
theorem p127 : (after hostOps0_2 V (Proc.devRef .tc main_v127) (ix3 b q t) : EReal) = Ideal.div (@HMul.hMul EReal EReal EReal _ (V (Proc.devRef .tc main_v113) (ix4 b q t 0) : EReal) (V (Proc.devRef .tc main_v113) (ix4 b q t 1) : EReal)) (@HSub.hSub EReal EReal EReal _ (@HAdd.hAdd EReal EReal EReal _ (V (Proc.devRef .tc main_v86) (ix2 b q) : EReal) (V (Proc.devRef .tc main_v97) (ix2 b t) : EReal)) (@HMul.hMul EReal EReal EReal _ (V (Proc.devRef .tc main_v113) (ix4 b q t 0) : EReal) (V (Proc.devRef .tc main_v113) (ix4 b q t 1) : EReal)) + eps) := by
  after_reads_at
  rfl
theorem p189 : (after hostOps0_4 V (Proc.devRef .tc main_v189) (ix3 b q t) : EReal) =
    @HAdd.hAdd EReal EReal EReal _ (@HMul.hMul EReal EReal EReal _ five (V (Proc.devRef .tc main_v25) (ix3 b q t) : EReal)) (V (Proc.devRef .tc main_v18) (ix3 b q t) : EReal)
      + two * (0 - (@HSub.hSub EReal EReal EReal _ (V (Proc.devRef .tc main_v127) (ix3 b q t) : EReal) (Ideal.div (@HSub.hSub EReal EReal EReal _ (@HMul.hMul EReal EReal EReal _ (V (Proc.devRef .tc main_v143) (ix4 b q t 0) : EReal) (V (Proc.devRef .tc main_v143) (ix4 b q t 1) : EReal)) (V (Proc.devRef .tc main_v124) (ix3 b q t) : EReal)) (@HMul.hMul EReal EReal EReal _ (V (Proc.devRef .tc main_v143) (ix4 b q t 0) : EReal) (V (Proc.devRef .tc main_v143) (ix4 b q t 1) : EReal) + eps))))
      + Ideal.div (0 - likelihood (fun j => V (Proc.devRef .tc main_arg2) (ix3 b q j)) (fun j => V (Proc.devRef .tc main_arg5) (ix3 b t j))) actions := by
  rw [zero_sub, zero_sub]
  after_reads_at
  rfl
theorem k_arg2 : after hostOps0 V (Proc.devRef .tc main_arg2) = V (Proc.devRef .tc main_arg2) :=
  after_of_writes_sub hostOps0 V hostOps0_writes (by decide +kernel)
theorem k_arg5 : after hostOps0 V (Proc.devRef .tc main_arg5) = V (Proc.devRef .tc main_arg5) :=
  after_of_writes_sub hostOps0 V hostOps0_writes (by decide +kernel)
theorem k_1_arg2 : after hostOps0_1 V (Proc.devRef .tc main_arg2) = V (Proc.devRef .tc main_arg2) :=
  after_of_writes_sub hostOps0_1 V hostOps0_1_writes (by decide +kernel)
theorem k_1_arg5 : after hostOps0_1 V (Proc.devRef .tc main_arg5) = V (Proc.devRef .tc main_arg5) :=
  after_of_writes_sub hostOps0_1 V hostOps0_1_writes (by decide +kernel)
theorem k_1_v25 : after hostOps0_1 V (Proc.devRef .tc main_v25) = V (Proc.devRef .tc main_v25) :=
  after_of_writes_sub hostOps0_1 V hostOps0_1_writes (by decide +kernel)
theorem k_1_v18 : after hostOps0_1 V (Proc.devRef .tc main_v18) = V (Proc.devRef .tc main_v18) :=
  after_of_writes_sub hostOps0_1 V hostOps0_1_writes (by decide +kernel)
theorem k_1_v86 : after hostOps0_1 V (Proc.devRef .tc main_v86) = V (Proc.devRef .tc main_v86) :=
  after_of_writes_sub hostOps0_1 V hostOps0_1_writes (by decide +kernel)
theorem k_1_v97 : after hostOps0_1 V (Proc.devRef .tc main_v97) = V (Proc.devRef .tc main_v97) :=
  after_of_writes_sub hostOps0_1 V hostOps0_1_writes (by decide +kernel)
theorem k_1_v50 : after hostOps0_1 V (Proc.devRef .tc main_v50) = V (Proc.devRef .tc main_v50) :=
  after_of_writes_sub hostOps0_1 V hostOps0_1_writes (by decide +kernel)
theorem k_1_v75 : after hostOps0_1 V (Proc.devRef .tc main_v75) = V (Proc.devRef .tc main_v75) :=
  after_of_writes_sub hostOps0_1 V hostOps0_1_writes (by decide +kernel)
theorem k_2_arg2 : after hostOps0_2 V (Proc.devRef .tc main_arg2) = V (Proc.devRef .tc main_arg2) :=
  after_of_writes_sub hostOps0_2 V hostOps0_2_writes (by decide +kernel)
theorem k_2_arg5 : after hostOps0_2 V (Proc.devRef .tc main_arg5) = V (Proc.devRef .tc main_arg5) :=
  after_of_writes_sub hostOps0_2 V hostOps0_2_writes (by decide +kernel)
theorem k_2_v25 : after hostOps0_2 V (Proc.devRef .tc main_v25) = V (Proc.devRef .tc main_v25) :=
  after_of_writes_sub hostOps0_2 V hostOps0_2_writes (by decide +kernel)
theorem k_2_v18 : after hostOps0_2 V (Proc.devRef .tc main_v18) = V (Proc.devRef .tc main_v18) :=
  after_of_writes_sub hostOps0_2 V hostOps0_2_writes (by decide +kernel)
theorem k_3_arg2 : after hostOps0_3 V (Proc.devRef .tc main_arg2) = V (Proc.devRef .tc main_arg2) :=
  after_of_writes_sub hostOps0_3 V hostOps0_3_writes (by decide +kernel)
theorem k_3_arg5 : after hostOps0_3 V (Proc.devRef .tc main_arg5) = V (Proc.devRef .tc main_arg5) :=
  after_of_writes_sub hostOps0_3 V hostOps0_3_writes (by decide +kernel)
theorem k_3_v25 : after hostOps0_3 V (Proc.devRef .tc main_v25) = V (Proc.devRef .tc main_v25) :=
  after_of_writes_sub hostOps0_3 V hostOps0_3_writes (by decide +kernel)
theorem k_3_v18 : after hostOps0_3 V (Proc.devRef .tc main_v18) = V (Proc.devRef .tc main_v18) :=
  after_of_writes_sub hostOps0_3 V hostOps0_3_writes (by decide +kernel)
theorem k_3_v127 : after hostOps0_3 V (Proc.devRef .tc main_v127) = V (Proc.devRef .tc main_v127) :=
  after_of_writes_sub hostOps0_3 V hostOps0_3_writes (by decide +kernel)
theorem k_3_v124 : after hostOps0_3 V (Proc.devRef .tc main_v124) = V (Proc.devRef .tc main_v124) :=
  after_of_writes_sub hostOps0_3 V hostOps0_3_writes (by decide +kernel)

/-- The matching cost, as the reference computes it. -/
theorem table_at (l : Fin 81) (hl : V (Proc.devRef .tc main_arg3) (ix2 b t) = BitVec.ofNat 32 l) :
    (after hostOps0_4 (after hostOps0_3 (after hostOps0_2 (after hostOps0_1 (after hostOps0 V)))) (Proc.devRef .tc main_v189) (ix3 b q t) : EReal) =
      cost (fun j => V (Proc.devRef .tc main_arg0) (ix3 b q j)) (fun j => V (Proc.devRef .tc main_arg1) (ix3 b q j)) (fun j => V (Proc.devRef .tc main_arg2) (ix3 b q j)) l
        (fun j => V (Proc.devRef .tc main_arg4) (ix3 b t j)) (fun j => V (Proc.devRef .tc main_arg5) (ix3 b t j)) := by
  rw [p189]
  rw [k_3_arg2, k_3_arg5, k_3_v25, k_3_v18, k_3_v127, k_3_v124, k_2_arg2, k_2_arg5, k_2_v25, k_2_v18,
    k_1_arg2, k_1_arg5, k_1_v25, k_1_v18, k_arg2, k_arg5]
  rw [p143_0, p143_1, c14, p142_0, p142_1, p127, p124]
  rw [k_1_v86, k_1_v97, k_1_v50, k_1_v75, p113_0, p113_1, c12]
  rw [a112_0, a112_1, a86, a97, a50_0, a50_1, a50_2, a50_3, a75_0, a75_1, a75_2, a75_3, a25, a18 V b q t l hl]
  unfold cost giou union enclosing spanned inter
  rw [max_comm (0 : EReal), max_comm (0 : EReal)]
end Cert.Proof
-- ==== Proof.RefRun.lean ====
module

public import proofs.«01_k».proof.Proof.CostRefTable
public import Idealize.ShloMosaic.Lib.Quiescent

@[expose] public section

/-! The run of the reference: it leaves its arguments unchanged and its first result is the cost table. -/

noncomputable section
namespace Cert.Proof.Ref
open Cert.Proof Cert.ReferenceIdeal Cert.ReferenceIdeal.Gen Cert.ReferenceIdeal.Value
open Idealize.ShloMosaic Idealize.ShloMosaic.StableHlo

set_option maxRecDepth 100000
set_option maxHeartbeats 2000000

/-- Buffer `b` is not among those listed in `W`. -/
abbrev Spared (b : Ref sig .tc) (W : List (Ref sig .tc)) : Prop := b ∉ W

/-- Buffer `b` is not written by the loop. -/
abbrev LoopSpares (b : Ref sig .tc) : Prop :=
  Spared b condOps_W ∧ Spared b while0Ops0_W ∧ Spared b while0Ops0_1_W ∧ Spared b while0Ops0_2_W ∧ Spared b while0Ops0_3_W ∧ Spared b while0Ops0_4_W ∧ Spared b while0Ops0_5_W ∧ Spared b while0Ops0_6_W ∧ Spared b while0Ops0_7_W ∧ Spared b while0Ops0_8_W ∧ Spared b while0Ops0_9_W ∧ Spared b while0Ops0_10_W ∧ Spared b while0Ops0_11_W ∧ Spared b while0Ops0_12_W

/-- Buffer `b` is not written before the loop. -/
abbrev PreSpares (b : Ref sig .tc) : Prop := Spared b hostOps0_W ∧ Spared b hostOps0_1_W ∧ Spared b hostOps0_2_W ∧ Spared b hostOps0_3_W ∧ Spared b hostOps0_4_W

/-- One trip of the loop keeps a buffer that the loop does not write. -/
theorem trip_keep (b : Ref sig .tc) (h : LoopSpares b) (X : Valuation τ sig (Elt Ideal)) :
    afterL bodyI (after condOps X) (Proc.devRef .tc b) = X (Proc.devRef .tc b) := by
  obtain ⟨hc, h0, h1, h2, h3, h4, h5, h6, h7, h8, h9, h10, h11, h12⟩ := h
  simp only [afterL_cons, afterL_nil]
  rw [after_of_writes_sub while0Ops0_12 _ while0Ops0_12_writes h12]
  rw [after_of_writes_sub while0Ops0_11 _ while0Ops0_11_writes h11]
  rw [after_of_writes_sub while0Ops0_10 _ while0Ops0_10_writes h10]
  rw [after_of_writes_sub while0Ops0_9 _ while0Ops0_9_writes h9]
  rw [after_of_writes_sub while0Ops0_8 _ while0Ops0_8_writes h8]
  rw [after_of_writes_sub while0Ops0_7 _ while0Ops0_7_writes h7]
  rw [after_of_writes_sub while0Ops0_6 _ while0Ops0_6_writes h6]
  rw [after_of_writes_sub while0Ops0_5 _ while0Ops0_5_writes h5]
  rw [after_of_writes_sub while0Ops0_4 _ while0Ops0_4_writes h4]
  rw [after_of_writes_sub while0Ops0_3 _ while0Ops0_3_writes h3]
  rw [after_of_writes_sub while0Ops0_2 _ while0Ops0_2_writes h2]
  rw [after_of_writes_sub while0Ops0_1 _ while0Ops0_1_writes h1]
  rw [after_of_writes_sub while0Ops0 _ while0Ops0_writes h0]
  exact after_of_writes_sub condOps _ condOps_writes hc

/-- The loop keeps a buffer that it does not write. -/
theorem trips_keep (b : Ref sig .tc) (h : LoopSpares b) (m : (ℓ : Loc nD τ sig) → Buf (Elt Ideal) ℓ) (c : Dev nD) :
    ∀ k, atK m k c (Proc.devRef .tc b) = entryContents preI m c (Proc.devRef .tc b)
  | 0 => rfl
  | k + 1 => (congrFun (atTrip_succ ..) _).trans ((trip_keep b h _).trans (trips_keep b h m c k))

/-- The program ends with a buffer that neither the loop nor the stretch after it writes as it was before the loop. -/
theorem final_keep (b : Ref sig .tc) (h : LoopSpares b) (h5 : Spared b hostOps0_5_W) (m : (ℓ : Loc nD τ sig) → Buf (Elt Ideal) ℓ) (c : Dev nD) :
    finalContents condOps preI bodyI postI 50 m c (Proc.devRef .tc b) = entryContents preI m c (Proc.devRef .tc b) := by
  unfold finalContents
  simp only [afterL_cons, afterL_nil]
  rw [after_of_writes_sub hostOps0_5 _ hostOps0_5_writes h5, after_of_writes_sub condOps _ condOps_writes h.1]
  exact trips_keep b h m c 50

/-- The stretches before the loop, one after the other. -/
theorem entry_eq (m : (ℓ : Loc nD τ sig) → Buf (Elt Ideal) ℓ) (c : Dev nD) : entryContents preI m c
    = after hostOps0_4 (after hostOps0_3 (after hostOps0_2 (after hostOps0_1 (after hostOps0 (launchContents m c))))) := rfl

/-- An argument ends unchanged. -/
theorem arg_keep (b : Ref sig .tc) (h : LoopSpares b) (h5 : Spared b hostOps0_5_W) (hp : PreSpares b) (m : (ℓ : Loc nD τ sig) → Buf (Elt Ideal) ℓ) (c : Dev nD) :
    finalContents condOps preI bodyI postI 50 m c (Proc.devRef .tc b) = m ((c.tc : Thread nD τ).loc b) := by
  obtain ⟨h0, h1, h2, h3, h4⟩ := hp
  rw [final_keep b h h5, entry_eq, after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- The arguments are unchanged in memory `s`. -/
abbrev Kept (m : (ℓ : Loc nD τ sig) → Buf (Elt Ideal) ℓ) (s : MemSt nD τ sig (Elt Ideal)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)

theorem kept {m : (ℓ : Loc nD τ sig) → Buf (Elt Ideal) ℓ} {s : MemSt nD τ sig (Elt Ideal)}
    (h : ∀ (c : Dev nD) (b : Ref sig .tc), (Proc.devRef .tc b : DevRef τ sig).isScoped = false →
      s.mem ((c.tc : Thread nD τ).loc b) = finalContents condOps preI bodyI postI 50 m c (Proc.devRef .tc b)) (c : Dev nD) : Kept m s c :=
  ⟨(h c main_arg0 rfl).trans (arg_keep main_arg0 (by decide +kernel) (by decide +kernel) (by decide +kernel) m c),
   (h c main_arg1 rfl).trans (arg_keep main_arg1 (by decide +kernel) (by decide +kernel) (by decide +kernel) m c),
   (h c main_arg2 rfl).trans (arg_keep main_arg2 (by decide +kernel) (by decide +kernel) (by decide +kernel) m c),
   (h c main_arg3 rfl).trans (arg_keep main_arg3 (by decide +kernel) (by decide +kernel) (by decide +kernel) m c),
   (h c main_arg4 rfl).trans (arg_keep main_arg4 (by decide +kernel) (by decide +kernel) (by decide +kernel) m c),
   (h c main_arg5 rfl).trans (arg_keep main_arg5 (by decide +kernel) (by decide +kernel) (by decide +kernel) m c)⟩

/-- The reference runs, leaves its arguments unchanged and every counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD, Kept m r.2 c) ∧ r.2.sem = fun _ => 0) :=
  (θ_run (defs (F := Ideal)) _ _).mono (fun r h => ⟨kept h, sem_eq_zero_of_no_sems (by decide) _⟩) (run_fold m ρ)

/-- The cost table, the matched queries and the matched targets at the end of the reference. -/
abbrev out (b : Ref sig .tc) (m : (ℓ : Loc nD τ sig) → Buf (Elt Ideal) ℓ) (c : Dev nD) : Buf (Elt Ideal) ((c.tc : Thread nD τ).loc b) :=
  finalContents condOps preI bodyI postI 50 m c (Proc.devRef .tc b)

/-- The reference's results, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v189) = out main_v189 m c ∧ r.2.mem ((c.tc : Thread nD τ).loc main_v193) = out main_v193 m c
        ∧ r.2.mem ((c.tc : Thread nD τ).loc main_v194) = out main_v194 m c) ∧ Kept m r.2 c) :=
  (θ_run (defs (F := Ideal)) _ _).mono (fun r h c => ⟨⟨h c _ rfl, h c _ rfl, h c _ rfl⟩, kept h c⟩) (run_fold m ρ)

/-- An entry of the reference's first result is the matching cost. -/
theorem out_cost (m : (ℓ : Loc nD τ sig) → Buf (Elt Ideal) ℓ) (c : Dev nD) (b : Fin 4) (q : Fin 10000) (t : Fin 50) (l : Fin 81)
    (hl : m ((c.tc : Thread nD τ).loc main_arg3) (ix2 b t) = BitVec.ofNat 32 l) :
    (out main_v189 m c (ix3 b q t) : EReal) =
      cost (fun j => m ((c.tc : Thread nD τ).loc main_arg0) (ix3 b q j)) (fun j => m ((c.tc : Thread nD τ).loc main_arg1) (ix3 b q j))
        (fun j => m ((c.tc : Thread nD τ).loc main_arg2) (ix3 b q j)) l
        (fun j => m ((c.tc : Thread nD τ).loc main_arg4) (ix3 b t j)) (fun j => m ((c.tc : Thread nD τ).loc main_arg5) (ix3 b t j)) :=
  (congrFun (final_keep main_v189 (by decide +kernel) (by decide +kernel) m c) (ix3 b q t)).trans
    ((congrFun (congrFun (entry_eq m c) _) _).trans (table_at (launchContents m c) b q t l hl))
end Cert.Proof.Ref
-- ==== Proof.MinRed.lean ====
module

public import Idealize.ShloMosaic.PureOps.Ideal
public import Idealize.ShloMosaic.PureOps.Ideal.Laws
public import Idealize.ShloMosaic.PureOps.Reduce
public import Idealize.ShloMosaic.Lib.SortNet.Extract
public import Idealize.ShloMosaic.Lib.Pointwise.Tactic

@[expose] public section

/-! Minimum reductions: the result is below every element that reduces into it, and is one of them. -/

namespace Cert.Proof

open Idealize.ShloMosaic

/-- A fold by `min` from a start that is above everything is one of the folded values, when there is one. -/
theorem fold_min_mem {ι β : Type*} [LinearOrder β] (s : Finset ι) (b : β) (f : ι → β) (hb : ∀ x, x ≤ b) (hs : s.Nonempty) :
    ∃ i ∈ s, s.fold min b f = f i := by
  have h : s.fold min b f ≤ s.fold min b f := le_refl _
  rcases Finset.fold_min_le (s.fold min b f) |>.1 h with h | ⟨i, hi, h⟩
  · obtain ⟨i, hi⟩ := hs
    exact ⟨i, hi, le_antisymm (Finset.le_fold_min _ |>.1 le_rfl |>.2 i hi) ((hb _).trans h)⟩
  · exact ⟨i, hi, le_antisymm (Finset.le_fold_min _ |>.1 le_rfl |>.2 i hi) h⟩

/-- The pattern of plus infinity denotes the top extended real. -/
theorem ofBits_inf : (FloatOps.ofBits (F := Ideal) .f32 0x7F800000#32 : EReal) = ⊤ := by
  rw [Ideal.ofBits_def]
  simp [Ideal.ofBits, Ideal.ieee]

/-- A float minimum is below every element that reduces into it. -/
theorem minF_le {s t : Shape} {axes : List (Fin s.rank)} (x : FVec Ideal s .f32) (h : s.Reduces axes t) (hφ hacc) (j : t.Idx)
    (i : s.Idx) (hi : h.drop i = j) : multiReduction .minimumf axes t x 0x7F800000#32 h hφ hacc j ≤ x i := by
  rw [multiReduction_minimumf_eq_fold]
  exact (Finset.le_fold_min (β := EReal) _ |>.1 le_rfl).2 i (by simp [hi])

/-- A float minimum is one of the elements that reduce into it. -/
theorem minF_mem {s t : Shape} {axes : List (Fin s.rank)} (x : FVec Ideal s .f32) (h : s.Reduces axes t) (hφ hacc) (j : t.Idx)
    (i₀ : s.Idx) (h₀ : h.drop i₀ = j) :
    ∃ i, h.drop i = j ∧ multiReduction .minimumf axes t x 0x7F800000#32 h hφ hacc j = x i := by
  rw [multiReduction_minimumf_eq_fold]
  obtain ⟨i, hi, e⟩ := fold_min_mem (β := EReal) (Finset.univ.filter fun i => h.drop i = j) (FloatOps.ofBits (F := Ideal) .f32 0x7F800000#32) x
    (fun y => by rw [ofBits_inf]; exact le_top) ⟨i₀, by simp [h₀]⟩
  exact ⟨i, by simpa using hi, e⟩

/-- An integer minimum, read as an integer, is the fold of the integers' minimum. -/
theorem minI_toInt {s t : Shape} {axes : List (Fin s.rank)} (x : IVec s 32) (h : s.Reduces axes t) (hacc) (j : t.Idx) :
    (multiReductionI .minsi axes t x 2147483647#32 h hacc j).toInt
      = (Finset.univ.filter fun i => h.drop i = j).fold min 2147483647 fun i => (x i).toInt := by
  rw [multiReductionI_eq_fold]
  exact Finset.fold_hom (fun a b => SortNet.toInt_minsi a b) |>.symm

/-- An integer minimum is below every element that reduces into it. -/
theorem minI_le {s t : Shape} {axes : List (Fin s.rank)} (x : IVec s 32) (h : s.Reduces axes t) (hacc) (j : t.Idx)
    (i : s.Idx) (hi : h.drop i = j) : (multiReductionI .minsi axes t x 2147483647#32 h hacc j).toInt ≤ (x i).toInt := by
  rw [minI_toInt]
  exact (Finset.le_fold_min _ |>.1 le_rfl).2 i (by simp [hi])

/-- An integer minimum is one of the elements that reduce into it. -/
theorem minI_mem {s t : Shape} {axes : List (Fin s.rank)} (x : IVec s 32) (h : s.Reduces axes t) (hacc) (j : t.Idx)
    (i₀ : s.Idx) (h₀ : h.drop i₀ = j) :
    ∃ i, h.drop i = j ∧ multiReductionI .minsi axes t x 2147483647#32 h hacc j = x i := by
  suffices H : ∃ i, h.drop i = j ∧ (multiReductionI .minsi axes t x 2147483647#32 h hacc j).toInt = (x i).toInt by
    obtain ⟨i, hi, e⟩ := H
    exact ⟨i, hi, BitVec.eq_of_toInt_eq e⟩
  rw [minI_toInt]
  have hle : ∀ i, (x i).toInt ≤ 2147483647 := fun i => by have := BitVec.toInt_lt (x := x i); omega
  rcases Finset.fold_min_le (s := Finset.univ.filter fun i => h.drop i = j) (b := 2147483647) (f := fun i => (x i).toInt) _ |>.1 le_rfl with e | ⟨i, hi, e⟩
  · exact ⟨i₀, h₀, le_antisymm ((Finset.le_fold_min _ |>.1 le_rfl).2 i₀ (by simp [h₀])) ((hle _).trans e)⟩
  · exact ⟨i, by simpa using hi, le_antisymm ((Finset.le_fold_min _ |>.1 le_rfl).2 i hi) e⟩

/-- An integer minimum is the given value when one element has it and no other element is below it. -/
theorem minI_eq {s t : Shape} {axes : List (Fin s.rank)} (x : IVec s 32) (h : s.Reduces axes t) (hacc) (j : t.Idx)
    (i₀ : s.Idx) (h₀ : h.drop i₀ = j) (hx : ∀ i, h.drop i = j → (x i₀).toInt ≤ (x i).toInt) :
    multiReductionI .minsi axes t x 2147483647#32 h hacc j = x i₀ := by
  obtain ⟨i, hi, e⟩ := minI_mem x h hacc j i₀ h₀
  exact BitVec.eq_of_toInt_eq (le_antisymm (minI_le x h hacc j i₀ h₀) (e ▸ hx i hi))

end Cert.Proof
-- ==== Proof.Pick.lean ====
module

public import proofs.«01_k».proof.Proof.Gen.KernelIdeal.Skeleton
public import proofs.«01_k».proof.Proof.MinRed
public import Idealize.ShloMosaic.Lib.ValueLayout

@[expose] public section

/-! The pick of one greedy step: the flat position of the smallest entry of the group table. -/

namespace Cert.Proof

open Idealize.ShloMosaic Cert.KernelIdeal Cert.KernelIdeal.Gen

/-- The table of flat positions: `50 g + t` at row `g`, column `t`. -/
noncomputable abbrev flat : IVec S50x50 32 :=
  k0_pay6 (iota .tc S50x50 32 [0] iota_S50x50_d0_w32) (iota .tc S50x50 32 [1] iota_S50x50_d1_w32)

/-- The entry of the table of flat positions. -/
theorem flat_apply (i : S50x50.Idx) : flat i = BitVec.ofNat 32 (50 * (i 0).val + (i 1).val) := by
  show BitVec.ofNat 32 (0 * 50 + (i 0).val) * 50#32 + BitVec.ofNat 32 (0 * 50 + (i 1).val) = _
  have h0 : (i 0).val < 50 := (i 0).isLt
  have h1 : (i 1).val < 50 := (i 1).isLt
  apply BitVec.eq_of_toNat_eq
  simp only [BitVec.toNat_add, BitVec.toNat_mul, BitVec.toNat_ofNat]
  omega

/-- A word below 2500 reads back as itself. -/
theorem small_toInt {n : ℕ} (h : n < 2 ^ 31) : (BitVec.ofNat 32 n).toInt = n := by
  rw [BitVec.toInt_eq_toNat_cond, BitVec.toNat_ofNat]; omega

/-- Every index of `[1, 50, 50]` reduces into the one index of `[1]`. -/
theorem drop_one (i : S1x50x50.Idx) (j : S1.Idx) : reduces_S1x50x50_S1.drop i = j := by
  funext a
  match a with
  | ⟨0, _⟩ => exact Subsingleton.elim (α := Fin 1) _ _

/-- A two-dimensional index seen in `[1, 50, 50]`, read back through the cast. -/
theorem cast_apply {α : Type} (x : S50x50.Idx → α) (i : S1x50x50.Idx) :
    shapeCast S1x50x50 x shapeCasts_S50x50_S1x50x50 i = x (ix2 (i 1) (i 2)) := by
  rw [eq_ix3 i]
  have h : i 0 = (0 : Fin 1) := Subsingleton.elim (α := Fin 1) _ _
  rw [h]
  exact ValueIdx.shapeCast_ab_1ab_apply x shapeCasts_S50x50_S1x50x50 0 (i 1) (i 2)

/-- The group table with the column penalties added, an entry. -/
theorem shifted_apply (a : FVec Ideal S50x50 .f32) (b : FVec Ideal S1x50 .f32) (g t : Fin 50) :
    addf a (broadcastTo S50x50 b broadcasts_S1x50_S50x50) (ix2 g t) = a (ix2 g t) + b (ix2 0 t) := by
  show a _ + broadcastTo S50x50 b _ _ = _
  exact congrArg (a (ix2 g t) + ·) (ValueIdx.broadcastTo_1b_ab_apply b broadcasts_S1x50_S50x50 g t)

/-- The smallest position among those where `M` holds `m`, when `m` is one of the values of `M`. -/
theorem argpos (M : FVec Ideal S50x50 .f32) (m : EReal) (i₀ : S50x50.Idx) (h₀ : M i₀ = m) (j : S1.Idx) :
    ∃ i : S50x50.Idx, M i = m ∧
      multiReductionI .minsi [1, 2] S1 (shapeCast S1x50x50 (select (cmpf .oeq M (broadcast S50x50 m)) flat (broadcast S50x50 1073741824#32))
        shapeCasts_S50x50_S1x50x50) 2147483647#32 reduces_S1x50x50_S1 rfl j = flat i := by
  generalize hK : select (cmpf .oeq M (broadcast S50x50 m)) flat (broadcast S50x50 1073741824#32) = K
  have hKa : ∀ i, K i = if M i = m then flat i else 1073741824#32 := fun i => by
    rw [← hK]
    show Scalar.select (BitVec.ofBool (decide (M i = m))) _ _ = _
    by_cases h : M i = m <;> simp [h, Scalar.select, broadcast]
  obtain ⟨i, -, hi⟩ := minI_mem (shapeCast S1x50x50 K shapeCasts_S50x50_S1x50x50) reduces_S1x50x50_S1 rfl j (ix3 0 0 0) (drop_one _ _)
  have hle := minI_le (shapeCast S1x50x50 K shapeCasts_S50x50_S1x50x50) reduces_S1x50x50_S1 rfl j (ix3 0 (i₀ 0) (i₀ 1)) (drop_one _ _)
  have e : (ix2 (i₀ 0) (i₀ 1) : S50x50.Idx) = i₀ := (eq_ix2 i₀).symm
  rw [hi, cast_apply, cast_apply] at hle
  rw [hi, cast_apply]
  generalize (ix2 (i 1) (i 2) : S50x50.Idx) = q at *
  rw [show (ix2 ((ix3 0 (i₀ 0) (i₀ 1) : S1x50x50.Idx) 1) ((ix3 0 (i₀ 0) (i₀ 1) : S1x50x50.Idx) 2) : S50x50.Idx) = i₀ from e, hKa i₀, if_pos h₀, flat_apply] at hle
  by_cases h : M q = m
  · exact ⟨q, h, by rw [hKa, if_pos h]⟩
  · exfalso
    have h1 : (i₀ 0).val < 50 := (i₀ 0).isLt
    have h2 : (i₀ 1).val < 50 := (i₀ 1).isLt
    rw [hKa, if_neg h, small_toInt (n := 50 * (i₀ 0).val + (i₀ 1).val) (by omega), show (1073741824#32 : BitVec 32).toInt = 1073741824 by decide] at hle
    omega

/-- The minimum over a whole table is below every entry. -/
theorem minAll_le (M : FVec Ideal S50x50 .f32) (j : S1.Idx) (g t : Fin 50) :
    multiReduction .minimumf [1, 2] S1 (shapeCast S1x50x50 M shapeCasts_S50x50_S1x50x50) 0x7F800000#32 reduces_S1x50x50_S1 (.inl rfl) rfl j ≤ M (ix2 g t) :=
  (minF_le (shapeCast S1x50x50 M shapeCasts_S50x50_S1x50x50) reduces_S1x50x50_S1 (.inl rfl) rfl j (ix3 0 g t) (drop_one _ _)).trans
    (le_of_eq (cast_apply M (ix3 0 g t)))

/-- The minimum over a whole table is one of its entries. -/
theorem minAll_mem (M : FVec Ideal S50x50 .f32) (j : S1.Idx) : ∃ i : S50x50.Idx,
    M i = multiReduction .minimumf [1, 2] S1 (shapeCast S1x50x50 M shapeCasts_S50x50_S1x50x50) 0x7F800000#32 reduces_S1x50x50_S1 (.inl rfl) rfl j := by
  obtain ⟨i, -, hi⟩ := minF_mem (shapeCast S1x50x50 M shapeCasts_S50x50_S1x50x50) reduces_S1x50x50_S1 (.inl rfl) rfl j (ix3 0 0 0) (drop_one _ _)
  exact ⟨_, ((cast_apply M i).symm.trans hi.symm)⟩

/-- The one index of `[1]` behind the extracted entry. -/
abbrev j₁ : S1.Idx := Shape.reshapeEquiv shapeCasts_S1_S1x1x1 (Shape.Idx.norm fun a => ⟨![0, 0, 0] a, inpos_S1x1x1_p0_0_0 a⟩)

/-- The pick of one step, as the two reductions it is made of. -/
theorem pick_eq (a : FVec Ideal S50x50 .f32) (b : FVec Ideal S1x50 .f32) :
    extractAt ![0, 0, 0] (k0_pay32 flat a b) inpos_S1x1x1_p0_0_0
      = multiReductionI .minsi [1, 2] S1 (shapeCast S1x50x50 (select (cmpf .oeq (addf a (broadcastTo S50x50 b broadcasts_S1x50_S50x50))
          (broadcast S50x50 (multiReduction .minimumf [1, 2] S1 (shapeCast S1x50x50 (addf a (broadcastTo S50x50 b broadcasts_S1x50_S50x50))
            shapeCasts_S50x50_S1x50x50) 0x7F800000#32 reduces_S1x50x50_S1 (.inl rfl) rfl j₁))) flat (broadcast S50x50 1073741824#32))
        shapeCasts_S50x50_S1x50x50) 2147483647#32 reduces_S1x50x50_S1 rfl j₁ := by
  unfold k0_pay32
  rfl

/-- The pick of one step is the flat position of an entry that no entry of the group table is below. -/
theorem pick_spec (a : FVec Ideal S50x50 .f32) (b : FVec Ideal S1x50 .f32) :
    ∃ g t : Fin 50, extractAt ![0, 0, 0] (k0_pay32 flat a b) inpos_S1x1x1_p0_0_0 = BitVec.ofNat 32 (50 * g.val + t.val) ∧
      ∀ g' t' : Fin 50, a (ix2 g t) + b (ix2 0 t) ≤ a (ix2 g' t') + b (ix2 0 t') := by
  rw [pick_eq]
  obtain ⟨i₀, h₀⟩ := minAll_mem (addf a (broadcastTo S50x50 b broadcasts_S1x50_S50x50)) j₁
  have hle := minAll_le (addf a (broadcastTo S50x50 b broadcasts_S1x50_S50x50)) j₁
  generalize multiReduction .minimumf [1, 2] S1 (shapeCast S1x50x50 (addf a (broadcastTo S50x50 b broadcasts_S1x50_S50x50))
            shapeCasts_S50x50_S1x50x50) 0x7F800000#32 reduces_S1x50x50_S1 (.inl rfl) rfl j₁ = m at *
  obtain ⟨i, hi, e⟩ := argpos _ m i₀ h₀ j₁
  refine ⟨i 0, i 1, e.trans (flat_apply i), fun g' t' => ?_⟩
  exact le_trans (le_of_eq ((shifted_apply a b (i 0) (i 1)).symm.trans ((congrArg _ (eq_ix2 i).symm).trans hi)))
    ((hle g' t').trans_eq (shifted_apply a b g' t'))

/-- The offsets of the load of the picked group's rows, at every position the pick can give. -/
theorem off_eq (n : Fin 2500) : k0_off6 (BitVec.ofNat 32 n.val) = ![0, n.val / 50 * 200, 0] := by
  have h : ∀ n : Fin 2500, k0_off6 (BitVec.ofNat 32 n.val) 1 = n.val / 50 * 200 := by decide +kernel
  funext a
  match a with
  | ⟨0, _⟩ => rfl
  | ⟨1, _⟩ => exact h n
  | ⟨2, _⟩ => rfl

/-- The load the pick leads to is inside the cost table, whatever the tables hold. -/
theorem chk (a : FVec Ideal S50x50 .f32) (b : FVec Ideal S1x50 .f32) :
    k0_chk1 (extractAt ![0, 0, 0] (k0_pay32 flat a b) inpos_S1x1x1_p0_0_0) := by
  obtain ⟨g, t, h, -⟩ := pick_spec a b
  have hg := g.isLt; have ht := t.isLt
  rw [h, k0_chk1, off_eq ⟨50 * g.val + t.val, by omega⟩]
  intro x
  match x with
  | ⟨0, _⟩ => simp [S1x200x50, S1x10000x50]
  | ⟨1, _⟩ => simp [S1x200x50, S1x10000x50]; omega
  | ⟨2, _⟩ => simp [S1x200x50, S1x10000x50]

end Cert.Proof
-- ==== Proof.Labels.lean ====
module

public import proofs.«01_k».proof.Pre_labels_in_range
public import proofs.«01_k».proof.On_costs_only
public import Idealize.ShloMosaic.Lib.Pointwise.Tactic

@[expose] public section

/-! What the precondition says of a label, and what the mask leaves out. -/

noncomputable section
namespace Cert.Proof
open Idealize.ShloMosaic

/-- A word whose signed value is between 0 and 80 is the word of one of 81 classes. -/
theorem word_of_range (x : BitVec 32) (h : IntOp.andi (IntOp.cmpi .sge x 0#32) (IntOp.cmpi .sle x 80#32) = 1#1) : ∃ l : Fin 81, x = BitVec.ofNat 32 l := by
  have h' : BitVec.sle 0#32 x = true ∧ BitVec.sle x 80#32 = true := by
    revert h
    simp only [IntOp.andi, IntOp.cmpi, BitVec.ofBool]
    cases BitVec.sle 0#32 x <;> cases BitVec.sle x 80#32 <;> decide
  have h0 : (0 : Int) ≤ x.toInt := by simpa [BitVec.sle] using h'.1
  have h1 : x.toInt ≤ 80 := by simpa [BitVec.sle] using h'.2
  have hn : x.toNat < 81 := by
    have := BitVec.toInt_eq_toNat_cond x
    have := x.isLt
    split at * <;> omega
  exact ⟨⟨x.toNat, hn⟩, by simp⟩

/-- Under the precondition every label is the word of one of 81 classes. -/
theorem label_of [Cert.Pre_labels_in_range.Facts] (a0 : FVec Ideal Pre_labels_in_range.S4x10000x81 .f32) (a1 : FVec Ideal Pre_labels_in_range.S4x10000x4 .f32)
    (a2 : FVec Ideal Pre_labels_in_range.S4x10000x117 .f32) (a3 : IVec Pre_labels_in_range.S4x50 32) (a4 : FVec Ideal Pre_labels_in_range.S4x50x4 .f32)
    (a5 : FVec Ideal Pre_labels_in_range.S4x50x117 .f32) (h : Pre_labels_in_range.fn (F := Ideal) a0 a1 a2 a3 a4 a5 = fun _ => 1#1)
    (b : Fin 4) (t : Fin 50) : ∃ l : Fin 81, a3 (ix2 b t) = BitVec.ofNat 32 l :=
  word_of_range _ (congrFun h (ix2 b t))

/-- The mask leaves out the second and third results. -/
theorem mask_off [Cert.On_costs_only.Facts] (a0 : FVec Ideal On_costs_only.S4x10000x81 .f32) (a1 : FVec Ideal On_costs_only.S4x10000x4 .f32)
    (a2 : FVec Ideal On_costs_only.S4x10000x117 .f32) (a3 : IVec On_costs_only.S4x50 32) (a4 : FVec Ideal On_costs_only.S4x50x4 .f32)
    (a5 : FVec Ideal On_costs_only.S4x50x117 .f32) (i : On_costs_only.S4x50.Idx) :
    (On_costs_only.fn (F := Ideal) a0 a1 a2 a3 a4 a5).2.1 i ≠ 1#1 ∧ (On_costs_only.fn (F := Ideal) a0 a1 a2 a3 a4 a5).2.2 i ≠ 1#1 :=
  ⟨(by decide : (0#1 : BitVec 1) ≠ 1#1), (by decide : (0#1 : BitVec 1) ≠ 1#1)⟩

end Cert.Proof
-- ==== Proof.CostClaim.lean ====
module

public import proofs.«01_k».proof.Defs
public import proofs.«01_k».proof.Proof.KernelValue
public import proofs.«01_k».proof.Proof.RefRun
public import proofs.«01_k».proof.Proof.Pick
public import proofs.«01_k».proof.Proof.Labels
public import proofs.«01_k».proof.Proof.Gen.Pre_labels_in_range
public import proofs.«01_k».proof.Proof.Gen.On_costs_only

@[expose] public section

/-! The claims on the frames and on the cost matrix. -/

noncomputable section
namespace Cert.Proof
open Idealize.ShloMosaic

/-- No step of the greedy loop reads outside its arrays, on extended reals. -/
theorem picks : PicksIn Ideal := fun acc => chk acc.1 acc.2.2.1

/-- An index of a three-axis array by its coordinates. -/
theorem ix3_of {n0 n1 n2 : Nat} (i : (⟨3, ![n0, n1, n2]⟩ : Shape).Idx) : ix3 (i 0) (i 1) (i 2) = i := by
  funext a; fin_cases a <;> rfl

/-- The kernel ends with its arguments unchanged and all counters at zero. -/
theorem frame_kernel : Cert.quiescent_KernelIdeal := fun m g _ => kernel_frame picks m g

/-- The reference ends with its arguments unchanged and all counters at zero. -/
theorem frame_reference : Cert.quiescent_ReferenceIdeal := fun m g _ => Ref.frame m g

/-- The two first results agree entry by entry, given that every label names a class. -/
theorem costs_agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (hlab : ∀ (b : Fin 4) (t : Fin 50), ∃ l : Fin 81, m ((c.tc : Thread KernelIdeal.nD KernelIdeal.τ).loc KernelIdeal.main_arg3) (ix2 b t) = BitVec.ofNat 32 l)
    (h : m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)) :
    Ref.out ReferenceIdeal.main_v189 m' c = costArr m c := by
  obtain ⟨h0, h1, h2, h3, h4, h5⟩ := h
  funext i
  obtain ⟨l, hl⟩ := hlab (i 0) (i 2)
  have e := Ref.out_cost m' c (i 0) (i 1) (i 2) l ((congrFun h3 _).trans hl)
  rw [h0, h1, h2, h4, h5] at e
  have e' := costArr_at m c (i 0) (i 1) (i 2) l hl
  rw [show (ix3 (i 0) (i 1) (i 2) : ReferenceIdeal.S4x10000x50.Idx) = i from ix3_of i] at e
  rw [show (ix3 (i 0) (i 1) (i 2) : KernelIdeal.S4x10000x50.Idx) = i from ix3_of i] at e'
  exact e.trans e'.symm

/-- The cost matrices of the kernel and the reference are equal. -/
theorem costs : Cert.algebraic_KernelIdeal_ReferenceIdeal_on_costs_only_pre_labels_in_range := by
  intro m g m' g' hp hm
  have hlab : ∀ (c : Dev KernelIdeal.nD) (b : Fin 4) (t : Fin 50), ∃ l : Fin 81, m ((c.tc : Thread KernelIdeal.nD KernelIdeal.τ).loc KernelIdeal.main_arg3) (ix2 b t) = BitVec.ofNat 32 l :=
    fun c b t => label_of _ _ _ _ _ _ (hp c) b t
  refine ⟨fun c => costArr m c, fun c i => rowArr picks m c (ix3 (i 0) 0 (i 1)), fun c i => colArr picks m c (ix3 (i 0) 0 (i 1)), ?_, ?_⟩
  · refine (θ_run KernelIdeal.defs _ _).mono ?_ (θ_run_and (run_values picks m g) (unchanged picks m g))
    intro r h c
    exact ⟨fun i _ => congrFun (h.1 c).1 i, fun i _ => congrFun (h.1 c).2.1 i, fun i _ => congrFun (h.1 c).2.2 i, h.2 c⟩
  · refine (θ_run ReferenceIdeal.defs _ _).mono ?_ (Ref.run m' g')
    intro r h c
    exact ⟨fun i _ => (congrFun (h c).1.1 i).trans (congrFun (costs_agree m m' c (hlab c) (hm c)) i),
      fun i hi => absurd hi (mask_off _ _ _ _ _ _ i).1, fun i hi => absurd hi (mask_off _ _ _ _ _ _ i).2, (h c).2⟩

end Cert.Proof
-- ==== Proof.GroupMin.lean ====
module

public import proofs.«01_k».proof.Proof.Pick

@[expose] public section

/-! The minimum of each column of one group of 200 rows, and the first row that holds it. -/

noncomputable section
namespace Cert.Proof
open Idealize.ShloMosaic Cert.KernelIdeal Cert.KernelIdeal.Gen

/-- Reducing the rows of a group leaves the column. -/
theorem drop_rows (r : Fin 200) (t : Fin 50) : reduces_S200x50_S50.drop (ix2 r t) = ix1 t := by
  funext a
  match a with
  | ⟨0, _⟩ => rfl

/-- An index that reduces into a column lies in it. -/
theorem of_drop_rows (i : S200x50.Idx) (t : Fin 50) (h : reduces_S200x50_S50.drop i = ix1 t) : ∃ r : Fin 200, i = ix2 r t := by
  obtain ⟨r, t', rfl⟩ : ∃ (r : Fin 200) (t' : Fin 50), i = ix2 r t' := ⟨i 0, i 1, eq_ix2 i⟩
  rw [drop_rows] at h
  exact ⟨r, by rw [show t' = t from congrFun h 0]⟩

/-- The minima of the columns. -/
abbrev colMin (S : FVec Ideal S200x50 .f32) : FVec Ideal S1x50 .f32 :=
  shapeCast S1x50 (multiReduction .minimumf [0] S50 S 0x7F800000#32 reduces_S200x50_S50 (.inl rfl) rfl) shapeCasts_S50_S1x50

/-- The first rows that hold them, counted from row `w`. -/
abbrev colArg (S : FVec Ideal S200x50 .f32) (w : BitVec 32) : IVec S1x50 32 :=
  shapeCast S1x50 (multiReductionI .minsi [0] S50 (select (cmpf .oeq S (broadcastTo S200x50 (colMin S) broadcasts_S1x50_S200x50))
    (addi (iota .tc S200x50 32 [0] iota_S200x50_d0_w32) (broadcast S200x50 w)) (broadcast S200x50 1073741824#32)) 2147483647#32 reduces_S200x50_S50 rfl)
    shapeCasts_S50_S1x50

theorem row_cast {α : Type} (x : S50.Idx → α) (t : Fin 50) : shapeCast S1x50 x shapeCasts_S50_S1x50 (ix2 0 t) = x (ix1 t) :=
  ValueIdx.shapeCast_a_1a_apply x shapeCasts_S50_S1x50 0 t

/-- The minimum of a column is one of its entries, below all of them, and the row named is one that holds it. -/
theorem group_at (S : FVec Ideal S200x50 .f32) (g t : Fin 50) : ∃ r : Fin 200, colMin S (ix2 0 t) = S (ix2 r t)
    ∧ colArg S (BitVec.ofNat 32 (g.val * 200)) (ix2 0 t) = BitVec.ofNat 32 (g.val * 200 + r.val) ∧ ∀ r' : Fin 200, S (ix2 r t) ≤ S (ix2 r' t) := by
  have hle : ∀ r' : Fin 200, colMin S (ix2 0 t) ≤ S (ix2 r' t) := fun r' =>
    (le_of_eq (row_cast _ t)).trans (minF_le S reduces_S200x50_S50 (.inl rfl) rfl (ix1 t) (ix2 r' t) (drop_rows r' t))
  have hmem : ∃ r : Fin 200, colMin S (ix2 0 t) = S (ix2 r t) := by
    obtain ⟨i, hi, e⟩ := minF_mem S reduces_S200x50_S50 (.inl rfl) rfl (ix1 t) (ix2 0 t) (drop_rows 0 t)
    obtain ⟨r, rfl⟩ := of_drop_rows i t hi
    exact ⟨r, (row_cast _ t).trans e⟩
  unfold colArg
  generalize colMin S = mv at *
  rw [row_cast]
  generalize hK : select (cmpf .oeq S (broadcastTo S200x50 mv broadcasts_S1x50_S200x50))
    (addi (iota .tc S200x50 32 [0] iota_S200x50_d0_w32) (broadcast S200x50 (BitVec.ofNat 32 (g.val * 200)))) (broadcast S200x50 1073741824#32) = K
  have hKa : ∀ r : Fin 200, K (ix2 r t) = if S (ix2 r t) = mv (ix2 0 t) then BitVec.ofNat 32 (g.val * 200 + r.val) else 1073741824#32 := fun r => by
    rw [← hK]
    have eb : broadcastTo S200x50 mv broadcasts_S1x50_S200x50 (ix2 r t) = mv (ix2 0 t) := ValueIdx.broadcastTo_1b_ab_apply mv broadcasts_S1x50_S200x50 r t
    show Scalar.select (BitVec.ofBool (decide (S (ix2 r t) = broadcastTo S200x50 mv broadcasts_S1x50_S200x50 (ix2 r t)))) (BitVec.ofNat 32 (0 * 200 + r.val) + BitVec.ofNat 32 (g.val * 200)) 1073741824#32 = _
    rw [eb]
    have e1 : BitVec.ofNat 32 (0 * 200 + r.val) + BitVec.ofNat 32 (g.val * 200) = BitVec.ofNat 32 (g.val * 200 + r.val) := by
      rw [← BitVec.ofNat_add]; congr 1; omega
    rw [e1]
    by_cases h : S (ix2 r t) = mv (ix2 0 t) <;> simp [h, Scalar.select]
  obtain ⟨r₀, h₀⟩ := hmem
  obtain ⟨i, hi, e⟩ := minI_mem K reduces_S200x50_S50 rfl (ix1 t) (ix2 0 t) (drop_rows 0 t)
  have hl := minI_le K reduces_S200x50_S50 rfl (ix1 t) (ix2 r₀ t) (drop_rows r₀ t)
  obtain ⟨r, rfl⟩ := of_drop_rows i t hi
  rw [e, hKa, hKa, if_pos h₀.symm] at hl
  by_cases h : S (ix2 r t) = mv (ix2 0 t)
  · exact ⟨r, h.symm, by rw [e, hKa, if_pos h], fun r' => h ▸ hle r'⟩
  · exfalso
    have h1 := g.isLt; have h2 := r₀.isLt
    rw [if_neg h, small_toInt (n := g.val * 200 + r₀.val) (by omega), show (1073741824#32 : BitVec 32).toInt = 1073741824 by decide] at hl
    omega

end Cert.Proof
-- ==== Proof.StepParts.lean ====
module

public import proofs.«01_k».proof.Proof.GroupMin
public import Idealize.ShloMosaic.Lib.Pointwise.Tactic
public import Idealize.ShloMosaic.Lib.Pointwise.Reduce
public import Idealize.ShloMosaic.Lib.Pointwise.Reshape

@[expose] public section

/-! The parts of one greedy step of the kernel, entry by entry. -/

noncomputable section
namespace Cert.Proof
open Idealize.ShloMosaic Cert.KernelIdeal Cert.KernelIdeal.Gen

/-- Floor division by 50, as the kernel computes it on words. -/
def group (v71 : BitVec 32) : BitVec 32 :=
  Scalar.select (Scalar.andi (Scalar.cmpi .ne (Scalar.subi (Scalar.extui (Scalar.cmpi .sgt v71 0#32)) (Scalar.extui (Scalar.cmpi .slt v71 0#32)))
    (Scalar.subi (Scalar.extui (Scalar.cmpi .sgt 50#32 0#32)) (Scalar.extui (Scalar.cmpi .slt 50#32 0#32)))) (Scalar.cmpi .ne (Scalar.remsi v71 50#32) 0#32))
    (Scalar.subi (Scalar.divsi v71 50#32) 1#32) (Scalar.divsi v71 50#32)

/-- The group of a position. -/
theorem group_eq (n : Fin 2500) : group (BitVec.ofNat 32 n.val) = BitVec.ofNat 32 (n.val / 50) := by
  revert n; decide +kernel

/-- Equality of small words as a bit that a select reads. -/
theorem select_eq {α : Type} (a b : ℕ) (ha : a < 2 ^ 32) (hb : b < 2 ^ 32) (x y : α) :
    Scalar.select (IntOp.cmpi .eq (BitVec.ofNat 32 a) (BitVec.ofNat 32 b)) x y = if a = b then x else y := by
  by_cases h : a = b
  · subst h; simp [IntOp.cmpi, Scalar.select]
  · have : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    rw [if_neg h]
    simp only [IntOp.cmpi, beq_eq_false_iff_ne.mpr this]; rfl

/-- The same for two equalities at once. -/
theorem select_and {α : Type} (a b a' b' : ℕ) (ha : a < 2 ^ 32) (hb : b < 2 ^ 32) (ha' : a' < 2 ^ 32) (hb' : b' < 2 ^ 32) (x y : α) :
    Scalar.select (IntOp.andi (IntOp.cmpi .eq (BitVec.ofNat 32 a) (BitVec.ofNat 32 b)) (IntOp.cmpi .eq (BitVec.ofNat 32 a') (BitVec.ofNat 32 b'))) x y
      = if a' = b' ∧ a = b then x else y := by
  have key : ∀ p q : BitVec 1, Scalar.select (IntOp.andi p q) x y = Scalar.select q (Scalar.select p x y) y := by
    intro p q
    have hp : p = 0#1 ∨ p = 1#1 := by revert p; decide
    have hq : q = 0#1 ∨ q = 1#1 := by revert q; decide
    rcases hp with rfl | rfl <;> rcases hq with rfl | rfl <;> rfl
  rw [key, select_eq _ _ ha' hb', select_eq _ _ ha hb]
  by_cases h1 : a' = b' <;> by_cases h2 : a = b <;> simp [h1, h2]

/-- Positions along a row of 50. -/
abbrev lane : IVec S1x50 32 := iota .tc S1x50 32 [1] iota_S1x50_d1_w32
/-- Row numbers in the table of row penalties. -/
abbrev maskRow : IVec S200x50 32 := iota .tc S200x50 32 [0] iota_S200x50_d0_w32
/-- Group numbers in the table of row penalties. -/
abbrev maskGroup : IVec S200x50 32 := iota .tc S200x50 32 [1] iota_S200x50_d1_w32
/-- Group numbers in the group table. -/
abbrev groupRow : IVec S50x50 32 := iota .tc S50x50 32 [0] iota_S50x50_d0_w32

/-- The penalty, a word of the program. -/
def pen : EReal := Ideal.ofBits FTy.f32 0x4E6E6B28#32

/-- The penalty is 1e9. -/
theorem pen_eq : pen = ((1000000000 : ℝ) : EReal) := by
  unfold pen
  simp [Ideal.ofBits, Ideal.ieee]
  rw [← EReal.coe_pow, ← EReal.coe_mul]
  norm_num

theorem pay35_at (v : IVec S1x50 32) (k : ℕ) (hk : k < 50) (w : BitVec 32) (i : Fin 50) :
    k0_pay35 lane v (BitVec.ofNat 32 k) w (ix2 0 i) = if i.val = k then w else v (ix2 0 i) := by
  unfold k0_pay35
  pointwise
  exact select_eq _ _ (by omega) (by omega) _ _

theorem pay36_at (v : FVec Ideal S1x50 .f32) (t₀ t : Fin 50) :
    k0_pay36 lane v (BitVec.ofNat 32 t₀.val) (ix2 0 t) = @HAdd.hAdd EReal EReal EReal _ (v (ix2 0 t)) (if t.val = t₀.val then pen else 0) := by
  unfold k0_pay36
  pointwise
  rw [select_eq _ _ (by omega) (by omega), ← Ideal.ofBits_zero .f32]
  rfl

theorem pay11_at (a : FVec Ideal S50x50 .f32) (x : FVec Ideal S1x50 .f32) (g₀ g t : Fin 50) :
    k0_pay11 a x (k0_pay41 groupRow (BitVec.ofNat 32 g₀.val)) (ix2 g t) = if g.val = g₀.val then x (ix2 0 t) else a (ix2 g t) := by
  unfold k0_pay11 k0_pay41
  pointwise
  exact select_eq _ _ (by omega) (by omega) _ _

theorem pay12_at (a : IVec S50x50 32) (x : IVec S1x50 32) (g₀ g t : Fin 50) :
    k0_pay12 a x (k0_pay41 groupRow (BitVec.ofNat 32 g₀.val)) (ix2 g t) = if g.val = g₀.val then x (ix2 0 t) else a (ix2 g t) := by
  unfold k0_pay12 k0_pay41
  pointwise
  exact select_eq _ _ (by omega) (by omega) _ _

theorem pay37_at (M : FVec Ideal S200x50 .f32) (g₀ g : Fin 50) (r₀ r : Fin 200) :
    k0_pay37 maskRow maskGroup M (BitVec.ofNat 32 g₀.val) (BitVec.ofNat 32 (g₀.val * 200 + r₀.val)) (ix2 r g)
      = @HAdd.hAdd EReal EReal EReal _ (M (ix2 r g)) (if g.val = g₀.val ∧ r.val = r₀.val then pen else 0) := by
  have e : Scalar.subi (BitVec.ofNat 32 (g₀.val * 200 + r₀.val)) (Scalar.muli (BitVec.ofNat 32 g₀.val) 200#32) = BitVec.ofNat 32 r₀.val := by
    have h1 := g₀.isLt; have h2 := r₀.isLt
    show BitVec.ofNat 32 (g₀.val * 200 + r₀.val) - BitVec.ofNat 32 g₀.val * 200#32 = _
    apply BitVec.eq_of_toNat_eq
    simp only [BitVec.toNat_sub, BitVec.toNat_mul, BitVec.toNat_ofNat]
    omega
  unfold k0_pay37
  simp only [e]
  pointwise
  rw [select_and _ _ _ _ (by omega) (by omega) (by omega) (by omega), ← Ideal.ofBits_zero .f32]
  rfl

/-- The literal 1e30. -/
def filler : EReal := Ideal.ofBits FTy.f32 0x7149F2CA#32

/-- The literal 1e30 is above 1e20. -/
theorem le_filler : ((100000000000000000000 : ℝ) : EReal) ≤ filler := by
  unfold filler
  simp [Ideal.ofBits, Ideal.ieee]
  rw [← EReal.coe_pow, ← EReal.coe_mul, EReal.coe_le_coe_iff]
  norm_num

/-- The rows of one group with their row penalties: the least over the groups of the group's own penalties and of 1e30. -/
theorem pay38_at (M : FVec Ideal S200x50 .f32) (g₀ : Fin 50) (w : BitVec 32) (Y : Vec Ideal S1x200x50 .f32) (r : Fin 200) (t : Fin 50)
    (h : k0_pay37 maskRow maskGroup M (BitVec.ofNat 32 g₀.val) w (ix2 r g₀) ≤ filler) :
    k0_pay38 maskRow maskGroup M (BitVec.ofNat 32 g₀.val) w Y (ix2 r t)
      = @HAdd.hAdd EReal EReal EReal _ (Y (ix3 0 r t)) (k0_pay37 maskRow maskGroup M (BitVec.ofNat 32 g₀.val) w (ix2 r g₀)) := by
  unfold k0_pay38
  generalize k0_pay37 (F := Ideal) maskRow maskGroup M (BitVec.ofNat 32 g₀.val) w = P at *
  simp only [multiReduction_minimumf_eq_fold]
  pointwise
  congr 1
  apply le_antisymm
  · refine (Finset.fold_min_le (β := EReal) _).2 (.inr ⟨g₀, Finset.mem_univ _, ?_⟩)
    rw [select_eq _ _ (by omega) (by omega), if_pos rfl]
  · refine (Finset.le_fold_min (β := EReal) _).2 ⟨?_, fun g _ => ?_⟩
    · exact le_top.trans_eq ofBits_inf.symm
    · rw [select_eq _ _ (by omega) (by omega)]
      split_ifs with e
      · rw [Fin.ext e]
      · exact h

theorem pay39_eq (M : FVec Ideal S200x50 .f32) (v w : BitVec 32) (Y : Vec Ideal S1x200x50 .f32) :
    k0_pay39 maskRow maskGroup M v w Y = colMin (k0_pay38 maskRow maskGroup M v w Y) := by
  unfold k0_pay39; rfl

theorem pay40_eq (M : FVec Ideal S200x50 .f32) (v w : BitVec 32) (Y : Vec Ideal S1x200x50 .f32) :
    k0_pay40 maskRow maskRow maskGroup M v w Y = colArg (k0_pay38 maskRow maskGroup M v w Y) (Scalar.muli v 200#32) := by
  unfold k0_pay40
  rw [pay39_eq]

/-- The row read out of the table of rows at the picked place. -/
theorem pay33_at (a : FVec Ideal S50x50 .f32) (b : FVec Ideal S1x50 .f32) (G : IVec S50x50 32) (g t : Fin 50) (n : ℕ) (hn : n < 10000)
    (hp : extractAt ![0, 0, 0] (k0_pay32 flat a b) inpos_S1x1x1_p0_0_0 = BitVec.ofNat 32 (50 * g.val + t.val)) (hG : G (ix2 g t) = BitVec.ofNat 32 n) :
    extractAt ![0, 0, 0] (k0_pay33 flat a G b) inpos_S1x1x1_p0_0_0 = BitVec.ofNat 32 n := by
  unfold k0_pay33
  rw [hp]
  show multiReductionI .minsi [1, 2] S1 (shapeCast S1x50x50 (select (cmpi .eq flat (broadcast S50x50 (BitVec.ofNat 32 (50 * g.val + t.val)))) G (broadcast S50x50 1073741824#32)) shapeCasts_S50x50_S1x50x50) 2147483647#32 reduces_S1x50x50_S1 rfl j₁ = _
  generalize hK : select (cmpi .eq flat (broadcast S50x50 (BitVec.ofNat 32 (50 * g.val + t.val)))) G (broadcast S50x50 1073741824#32) = K
  have hKa : ∀ g' t' : Fin 50, K (ix2 g' t') = if g' = g ∧ t' = t then BitVec.ofNat 32 n else 1073741824#32 := fun g' t' => by
    have h1 := g.isLt; have h2 := g'.isLt; have h3 := t.isLt; have h4 := t'.isLt
    rw [← hK]
    show Scalar.select (IntOp.cmpi .eq (flat (ix2 g' t')) (BitVec.ofNat 32 (50 * g.val + t.val))) (G (ix2 g' t')) 1073741824#32 = _
    rw [flat_apply]
    show Scalar.select (IntOp.cmpi .eq (BitVec.ofNat 32 (50 * g'.val + t'.val)) (BitVec.ofNat 32 (50 * g.val + t.val))) (G (ix2 g' t')) 1073741824#32 = _
    rw [select_eq _ _ (by omega) (by omega)]
    by_cases h : g' = g ∧ t' = t
    · obtain ⟨rfl, rfl⟩ := h
      simp [hG]
    · rw [if_neg h, if_neg]
      intro e
      exact h ⟨Fin.ext (by omega), Fin.ext (by omega)⟩
  have e0 : shapeCast S1x50x50 K shapeCasts_S50x50_S1x50x50 (ix3 0 g t) = BitVec.ofNat 32 n := (cast_apply K (ix3 0 g t)).trans ((hKa g t).trans (if_pos ⟨rfl, rfl⟩))
  rw [minI_eq _ reduces_S1x50x50_S1 rfl j₁ (ix3 0 g t) (drop_one _ _) (fun i _ => ?_), e0]
  rw [e0, cast_apply, small_toInt (by omega)]
  have := hKa (i 1) (i 2)
  rw [this]
  split_ifs
  · rw [small_toInt (by omega)]
  · rw [show (1073741824#32 : BitVec 32).toInt = 1073741824 by decide]; omega

theorem pay34_at (a : FVec Ideal S50x50 .f32) (b : FVec Ideal S1x50 .f32) (G : IVec S50x50 32) (k : Fin k0_t3_loop.trips) (hk : k.val < 50) (v : IVec S1x50 32) (i : Fin 50) (w : BitVec 32)
    (hw : extractAt ![0, 0, 0] (k0_pay33 flat a G b) inpos_S1x1x1_p0_0_0 = w) :
    k0_pay34 flat lane 0#32 1#32 k a G b v (ix2 0 i) = if i.val = k.val then w else v (ix2 0 i) := by
  have e : Scf.iv 0#32 1#32 k = BitVec.ofNat 32 k.val := by simp [Scf.iv]
  unfold k0_pay34
  rw [hw]
  simp only [e]
  pointwise
  exact select_eq _ _ (by omega) (by omega) _ _
end Cert.Proof
-- ==== Proof.Greedy.lean ====
module

public import Mathlib.Data.Real.Basic
public import Mathlib.Data.Fintype.Lattice
public import Mathlib.Data.Finite.Prod
public import Mathlib.Tactic.Linarith
public import Idealize.ShloMosaic.PureOps.Ideal.Laws

@[expose] public section

/-! The greedy assignment on a table of real numbers: in each step the least entry is picked, and a penalty is added to
its row and to its column. -/

noncomputable section

namespace Cert.Proof

/-- A table of real costs. -/
abbrev Table : Type := Fin 10000 → Fin 50 → ℝ

/-- No two entries are equal, and any two are less than the penalty apart. -/
structure Distinct (C : Table) : Prop where
  inj : ∀ q t q' t', C q t = C q' t' → q = q' ∧ t = t'
  near : ∀ q t q' t', C q t < C q' t' + 1000000000

/-- How often each row and each column was picked. -/
abbrev Counts : Type := (Fin 10000 → ℕ) × (Fin 50 → ℕ)

/-- The table with the penalties added. -/
def masked (C : Table) (n : Counts) : Table := fun q t => C q t + 1000000000 * ((n.1 q : ℝ) + (n.2 t : ℝ))

/-- A place of a least entry. -/
def best (M : Table) : Fin 10000 × Fin 50 :=
  Classical.choose (Finite.exists_min (fun p : Fin 10000 × Fin 50 => M p.1 p.2))

/-- The counts after one more pick. -/
def bump (n : Counts) (p : Fin 10000 × Fin 50) : Counts :=
  (fun q => n.1 q + (if q = p.1 then 1 else 0), fun t => n.2 t + (if t = p.2 then 1 else 0))

/-- The counts before step `k`. -/
def counts (C : Table) : ℕ → Counts
  | 0 => (fun _ => 0, fun _ => 0)
  | k + 1 => bump (counts C k) (best (masked C (counts C k)))

/-- The pick of step `k`. -/
def pick (C : Table) (k : ℕ) : Fin 10000 × Fin 50 := best (masked C (counts C k))

theorem counts_succ (C : Table) (k : ℕ) : counts C (k + 1) = bump (counts C k) (pick C k) := rfl

/-- `k` rows and `k` columns were picked before step `k`. -/
theorem counts_sum (C : Table) (k : ℕ) : ∑ q, (counts C k).1 q = k ∧ ∑ t, (counts C k).2 t = k := by
  induction k with
  | zero => simp [counts]
  | succ k ih => simp [counts_succ, bump, Finset.sum_add_distrib, ih.1, ih.2]

/-- Fewer picks than places leave a place unpicked. -/
theorem exists_free {n : ℕ} (f : Fin n → ℕ) (h : ∑ i, f i < n) : ∃ i, f i = 0 := by
  by_contra hc
  push Not at hc
  have := Finset.sum_le_sum (s := Finset.univ) (f := fun _ : Fin n => 1) (g := f) (fun i _ => Nat.one_le_iff_ne_zero.2 (hc i))
  simp at this
  omega

/-- A count is at most the number of picks. -/
theorem counts_le (C : Table) (k : ℕ) (q : Fin 10000) : (counts C k).1 q ≤ k :=
  (Finset.single_le_sum (f := (counts C k).1) (fun _ _ => Nat.zero_le _) (Finset.mem_univ q)).trans_eq (counts_sum C k).1

/-- Of a table without ties, the pick of each of the 50 steps is the only place of a least entry. -/
theorem pick_unique {C : Table} (hC : Distinct C) {k : ℕ} (hk : k < 50) (q : Fin 10000) (t : Fin 50)
    (h : ∀ q' t', masked C (counts C k) q t ≤ masked C (counts C k) q' t') : (q, t) = pick C k := by
  have hmin := Classical.choose_spec (Finite.exists_min (fun p : Fin 10000 × Fin 50 => masked C (counts C k) p.1 p.2))
  change ∀ p, masked C (counts C k) (pick C k).1 (pick C k).2 ≤ _ at hmin
  obtain ⟨q₀, hq⟩ := exists_free (counts C k).1 (by rw [(counts_sum C k).1]; omega)
  obtain ⟨t₀, ht⟩ := exists_free (counts C k).2 (by rw [(counts_sum C k).2]; omega)
  have key : ∀ q t, masked C (counts C k) q t ≤ masked C (counts C k) q₀ t₀ → masked C (counts C k) q t = C q t := by
    intro q t hle
    have hn := hC.near q₀ t₀ q t
    simp only [masked, hq, ht] at hle ⊢
    by_cases hz : (counts C k).1 q + (counts C k).2 t = 0
    · have h1 : (counts C k).1 q = 0 := by omega
      have h2 : (counts C k).2 t = 0 := by omega
      simp [h1, h2]
    · have : (1 : ℝ) ≤ ((counts C k).1 q : ℝ) + ((counts C k).2 t : ℝ) := by
        exact_mod_cast Nat.one_le_iff_ne_zero.2 hz
      simp only [Nat.cast_zero, add_zero, mul_zero] at hle
      linarith
  have e1 := key q t (h q₀ t₀)
  have e2 := key _ _ (hmin (q₀, t₀))
  have := hC.inj q t (pick C k).1 (pick C k).2 (le_antisymm (by rw [← e1, ← e2]; exact h _ _) (by rw [← e1, ← e2]; exact hmin (q, t)))
  exact Prod.ext this.1 this.2

end Cert.Proof
-- ==== Proof.Step.lean ====
module

public import proofs.«01_k».proof.Proof.StepParts
public import proofs.«01_k».proof.Proof.Greedy
public import proofs.«01_k».proof.Proof.GreedyLoop

@[expose] public section

/-! One greedy step of the kernel takes the least entry of the table with penalties. -/

noncomputable section
namespace Cert.Proof
open Idealize.ShloMosaic Cert.KernelIdeal Cert.KernelIdeal.Gen

/-- Row `r` of group `g`. -/
def row (g : Fin 50) (r : Fin 200) : Fin 10000 := ⟨g.val * 200 + r.val, by omega⟩

theorem row_inj (g g' : Fin 50) (r r' : Fin 200) (h : row g r = row g' r') : g = g' ∧ r = r' := by
  have := congrArg Fin.val h
  simp only [row] at this
  constructor <;> apply Fin.ext <;> omega

theorem row_surj (q : Fin 10000) : ∃ g r, q = row g r :=
  ⟨⟨q.val / 200, by omega⟩, ⟨q.val % 200, by omega⟩, Fin.ext (by simp only [row]; omega)⟩

/-- The table with the row penalties only. -/
def rowed (C : Table) (n : Counts) : Table := fun q t => C q t + 1000000000 * (n.1 q : ℝ)

/-- The carried value before step `k`, of the greedy assignment on `C`. -/
structure Holds (C : Table) (k : ℕ) (acc : Carry Ideal) : Prop where
  mins : ∀ g t : Fin 50, ∃ r : Fin 200, acc.1 (ix2 g t) = ((rowed C (counts C k) (row g r) t : ℝ) : EReal)
    ∧ acc.2.1 (ix2 g t) = BitVec.ofNat 32 (row g r).val ∧ ∀ r', rowed C (counts C k) (row g r) t ≤ rowed C (counts C k) (row g r') t
  cols : ∀ t : Fin 50, acc.2.2.1 (ix2 0 t) = ((1000000000 * ((counts C k).2 t : ℝ) : ℝ) : EReal)
  rows : ∀ (r : Fin 200) (g : Fin 50), acc.2.2.2.1 (ix2 r g) = ((1000000000 * ((counts C k).1 (row g r) : ℝ) : ℝ) : EReal)
  pickedRow : ∀ i : Fin 50, i.val < k → acc.2.2.2.2.1 (ix2 0 i) = BitVec.ofNat 32 (pick C i.val).1.val
  pickedCol : ∀ i : Fin 50, i.val < k → acc.2.2.2.2.2 (ix2 0 i) = BitVec.ofNat 32 (pick C i.val).2.val

/-- The position picked from a carried value. -/
abbrev posOf (acc : Carry Ideal) : BitVec 32 := extractAt ![0, 0, 0] (k0_pay32 flat acc.1 acc.2.2.1) inpos_S1x1x1_p0_0_0
/-- The row picked from a carried value. -/
abbrev rowOf (acc : Carry Ideal) : BitVec 32 := extractAt ![0, 0, 0] (k0_pay33 flat acc.1 acc.2.1 acc.2.2.1) inpos_S1x1x1_p0_0_0
/-- The column picked from a carried value. -/
abbrev colOf (acc : Carry Ideal) : BitVec 32 := Scalar.subi (posOf acc) (Scalar.muli (group (posOf acc)) 50#32)

/-- What a step yields, given the rows `Y` of the picked group. -/
def stepWith (k : Fin k0_t3_loop.trips) (acc : Carry Ideal) (Y : Vec Ideal S1x200x50 .f32) : Carry Ideal :=
  (k0_pay11 acc.1 (k0_pay39 maskRow maskGroup acc.2.2.2.1 (group (posOf acc)) (rowOf acc) Y) (k0_pay41 groupRow (group (posOf acc))),
   k0_pay12 acc.2.1 (k0_pay40 maskRow maskRow maskGroup acc.2.2.2.1 (group (posOf acc)) (rowOf acc) Y) (k0_pay41 groupRow (group (posOf acc))),
   k0_pay36 lane acc.2.2.1 (colOf acc),
   k0_pay37 maskRow maskGroup acc.2.2.2.1 (group (posOf acc)) (rowOf acc),
   k0_pay34 flat lane 0#32 1#32 k acc.1 acc.2.1 acc.2.2.1 acc.2.2.2.2.1,
   k0_pay35 lane acc.2.2.2.2.2 (Scf.iv 0#32 1#32 k) (colOf acc))

variable {C : Table} {k : ℕ} {acc : Carry Ideal}

/-- The place that a step picks: its position, row and column words. -/
theorem picked (hC : Distinct C) (hk : k < 50) (h : Holds C k acc) : ∃ (g t : Fin 50) (r : Fin 200), pick C k = (row g r, t)
    ∧ posOf acc = BitVec.ofNat 32 (50 * g.val + t.val) ∧ group (posOf acc) = BitVec.ofNat 32 g.val ∧ colOf acc = BitVec.ofNat 32 t.val
    ∧ rowOf acc = BitVec.ofNat 32 (g.val * 200 + r.val) := by
  obtain ⟨g, t, hp, hmin⟩ := pick_spec acc.1 acc.2.2.1
  obtain ⟨r, h1, h2, h3⟩ := h.mins g t
  have hg : group (posOf acc) = BitVec.ofNat 32 g.val := by
    rw [posOf, hp, group_eq ⟨50 * g.val + t.val, by omega⟩]
    congr 1
    show (50 * g.val + t.val) / 50 = g.val
    omega
  refine ⟨g, t, r, ?_, hp, hg, ?_, pay33_at acc.1 acc.2.2.1 acc.2.1 g t (row g r).val (row g r).isLt hp h2⟩
  · refine (pick_unique hC hk (row g r) t fun q' t' => ?_).symm
    obtain ⟨g', r', rfl⟩ := row_surj q'
    obtain ⟨r'', e1, -, e3⟩ := h.mins g' t'
    have hm := hmin g' t'
    rw [h1, e1, h.cols t, h.cols t'] at hm
    have hm' : rowed C (counts C k) (row g r) t + 1000000000 * ((counts C k).2 t : ℝ) ≤ rowed C (counts C k) (row g' r'') t' + 1000000000 * ((counts C k).2 t' : ℝ) := by
      rw [← EReal.coe_le_coe_iff, EReal.coe_add, EReal.coe_add]; exact hm
    have := e3 r'
    simp only [rowed, masked] at *
    linarith
  · rw [colOf, hg, posOf, hp]
    have h1 := g.isLt; have h2 := t.isLt
    show BitVec.ofNat 32 (50 * g.val + t.val) - BitVec.ofNat 32 g.val * 50#32 = _
    apply BitVec.eq_of_toNat_eq
    simp only [BitVec.toNat_sub, BitVec.toNat_mul, BitVec.toNat_ofNat]
    omega

/-- The penalty added or not, as a real number. -/
theorem pen_if (p : Prop) [Decidable p] (x : ℝ) (n : ℕ) (hx : x = 1000000000 * (n : ℝ)) :
    (x : EReal) + (if p then pen else 0) = ((1000000000 * ((n + (if p then 1 else 0) : ℕ) : ℝ) : ℝ) : EReal) := by
  subst hx
  by_cases h : p
  · rw [if_pos h, if_pos h, pen_eq, ← EReal.coe_add]; exact congrArg Real.toEReal (by push_cast; ring)
  · rw [if_neg h, if_neg h, add_zero, Nat.add_zero]

/-- The row penalties after a step. -/
theorem step_rows (hC : Distinct C) (hk : k < 50) (h : Holds C k acc) (r : Fin 200) (g : Fin 50) :
    k0_pay37 maskRow maskGroup acc.2.2.2.1 (group (posOf acc)) (rowOf acc) (ix2 r g)
      = ((1000000000 * ((counts C (k + 1)).1 (row g r) : ℝ) : ℝ) : EReal) := by
  obtain ⟨g₀, t₀, r₀, hp, -, hg, -, hr⟩ := picked hC hk h
  rw [hg, hr, pay37_at, h.rows r g, counts_succ, hp]
  refine (pen_if _ _ _ rfl).trans ?_
  simp only [bump]
  have : (g.val = g₀.val ∧ r.val = r₀.val) ↔ row g r = row g₀ r₀ :=
    ⟨fun e => by rw [Fin.ext e.1, Fin.ext e.2], fun e => by have := row_inj _ _ _ _ e; exact ⟨congrArg _ this.1, congrArg _ this.2⟩⟩
  simp only [this]

/-- One step of the kernel keeps the invariant. -/
theorem step (hC : Distinct C) (j : Fin k0_t3_loop.trips) (hj : j.val = k) (hk : k < 50) (h : Holds C k acc) (Y : Vec Ideal S1x200x50 .f32)
    (hY : ∀ g : Fin 50, group (posOf acc) = BitVec.ofNat 32 g.val → ∀ (r : Fin 200) (t : Fin 50), Y (ix3 0 r t) = ((C (row g r) t : ℝ) : EReal)) :
    Holds C (k + 1) (stepWith j acc Y) := by
  obtain ⟨g₀, t₀, r₀, hp, hpos, hg, hc, hr⟩ := picked hC hk h
  have hY' := hY g₀ hg
  have hrows := step_rows hC hk h
  have hS : ∀ (r : Fin 200) (t : Fin 50), k0_pay38 maskRow maskGroup acc.2.2.2.1 (BitVec.ofNat 32 g₀.val) (rowOf acc) Y (ix2 r t)
      = ((rowed C (counts C (k + 1)) (row g₀ r) t : ℝ) : EReal) := fun r t => by
    have e := hrows r g₀
    rw [hg] at e
    rw [pay38_at, hY', e]
    · exact (EReal.coe_add _ _).symm
    · rw [e]
      refine le_trans (EReal.coe_le_coe_iff.2 ?_) le_filler
      have : ((counts C (k + 1)).1 (row g₀ r) : ℝ) ≤ 50 := by exact_mod_cast (counts_le C (k + 1) _).trans (by omega)
      linarith
  have hbit : ∀ g : Fin 50, g ≠ g₀ → ∀ (r : Fin 200) (t : Fin 50), rowed C (counts C (k + 1)) (row g r) t = rowed C (counts C k) (row g r) t := fun g hne r t => by
    simp only [rowed, counts_succ, hp, bump]
    rw [if_neg (fun e => hne (row_inj _ _ _ _ e).1), Nat.add_zero]
  refine ⟨fun g t => ?_, fun t => ?_, hrows, fun i hi => ?_, fun i hi => ?_⟩
  · simp only [stepWith]
    rw [hg, pay11_at, pay12_at, pay39_eq, pay40_eq]
    by_cases e : g = g₀
    · subst e
      rw [if_pos rfl, if_pos rfl]
      have ew : Scalar.muli (BitVec.ofNat 32 g.val) 200#32 = BitVec.ofNat 32 (g.val * 200) := by
        show BitVec.ofNat 32 g.val * 200#32 = _
        rw [BitVec.ofNat_mul]
      obtain ⟨r, e1, e2, e3⟩ := group_at (k0_pay38 maskRow maskGroup acc.2.2.2.1 (BitVec.ofNat 32 g.val) (rowOf acc) Y) g t
      refine ⟨r, e1.trans (hS r t), (by rw [ew]; exact e2), fun r' => ?_⟩
      have := e3 r'
      rw [hS, hS, EReal.coe_le_coe_iff] at this
      exact this
    · have e' : g.val ≠ g₀.val := fun x => e (Fin.ext x)
      rw [if_neg e', if_neg e']
      obtain ⟨r, e1, e2, e3⟩ := h.mins g t
      exact ⟨r, by rw [hbit g e]; exact e1, e2, fun r' => by rw [hbit g e, hbit g e]; exact e3 r'⟩
  · simp only [stepWith]
    rw [hc, pay36_at, h.cols t, counts_succ, hp]
    refine (pen_if _ _ _ rfl).trans ?_
    simp only [bump, Fin.ext_iff]
  · simp only [stepWith]
    rw [pay34_at _ _ _ j (hj ▸ hk) _ _ _ hr]
    split_ifs with e
    · rw [show i.val = k by omega, hp]; rfl
    · exact h.pickedRow i (by omega)
  · simp only [stepWith]
    rw [show Scf.iv 0#32 1#32 j = BitVec.ofNat 32 k by simp [Scf.iv, hj], hc, pay35_at _ k hk]
    split_ifs with e
    · rw [show i.val = k by omega, hp]
    · exact h.pickedCol i (by omega)

end Cert.Proof
-- ==== Proof.KernelGreedy.lean ====
module

public import proofs.«01_k».proof.Proof.Step
public import proofs.«01_k».proof.Proof.KernelValue

@[expose] public section

set_option maxRecDepth 16384

/-! The kernel's two loops over the cost table: the table of group minima, and the greedy assignment. -/

noncomputable section
namespace Cert.Proof
open Idealize.ShloMosaic Idealize.ShloMosaic.TcCoe Cert.KernelIdeal Cert.KernelIdeal.Gen

theorem pay1_at (Y : Vec Ideal S1x200x50 .f32) (r : Fin 200) (t : Fin 50) : k0_pay1 Y (ix2 r t) = Y (ix3 0 r t) := by
  unfold k0_pay1
  pointwise

theorem pay4_at (a : FVec Ideal S50x50 .f32) (k : Fin k0_t2_loop.trips) (hk : k.val < 50) (Y : Vec Ideal S1x200x50 .f32) (g t : Fin 50) :
    k0_pay4 groupRow k a Y (ix2 g t) = if g.val = k.val then colMin (k0_pay1 Y) (ix2 0 t) else a (ix2 g t) := by
  have e : Scf.iv 0#32 1#32 k = BitVec.ofNat 32 k.val := by simp [Scf.iv]
  unfold k0_pay4 k0_pay3
  rw [show k0_pay2 Y = colMin (k0_pay1 Y) by unfold k0_pay2; rfl]
  generalize colMin (k0_pay1 Y) = mv
  simp only [e]
  pointwise
  exact select_eq _ _ (by omega) (by omega) _ _

theorem pay5_at (a : IVec S50x50 32) (k : Fin k0_t2_loop.trips) (hk : k.val < 50) (Y : Vec Ideal S1x200x50 .f32) (g t : Fin 50) :
    k0_pay5 (F := Ideal) maskRow groupRow k a Y (ix2 g t) = if g.val = k.val then colArg (k0_pay1 Y) (BitVec.ofNat 32 (k.val * 200)) (ix2 0 t) else a (ix2 g t) := by
  have e : Scf.iv 0#32 1#32 k = BitVec.ofNat 32 k.val := by simp [Scf.iv]
  have ew : Scalar.muli (BitVec.ofNat 32 k.val) 200#32 = BitVec.ofNat 32 (k.val * 200) := by
    show BitVec.ofNat 32 k.val * 200#32 = _
    rw [BitVec.ofNat_mul]
  unfold k0_pay5 k0_pay3
  rw [show k0_pay2 Y = colMin (k0_pay1 Y) by unfold k0_pay2; rfl]
  simp only [e, ew]
  change select (cmpi .eq groupRow (broadcast S50x50 (BitVec.ofNat 32 k.val))) (broadcastTo S50x50 (shapeCast S1x50 (colArg (k0_pay1 Y) (BitVec.ofNat 32 (k.val * 200))) shapeCasts_S1x50_S1x50) broadcasts_S1x50_S50x50) a (ix2 g t) = _
  generalize colArg (k0_pay1 Y) (BitVec.ofNat 32 (k.val * 200)) = mv
  pointwise
  exact select_eq _ _ (by omega) (by omega) _ _

variable (c : Dev nD) (i : grid0.Coords)
  (arg1 : Memref sig .tc .vmem S1x10000x81 .f32) (harg1 : arg1.IsWhole) (arg2 : Memref sig .tc .vmem S1x10000x4 .f32) (harg2 : arg2.IsWhole)
  (arg3 : Memref sig .tc .vmem S1x10000x117 .f32) (harg3 : arg3.IsWhole) (arg4 : Memref sig .tc .vmem S1x1x50 .i32) (harg4 : arg4.IsWhole)
  (arg5 : Memref sig .tc .vmem S1x4x50 .f32) (harg5 : arg5.IsWhole) (arg6 : Memref sig .tc .vmem S1x117x50 .f32) (harg6 : arg6.IsWhole)
  (arg7 : Memref sig .tc .vmem S1x10000x50 .f32) (harg7 : arg7.IsWhole) (arg8 : Memref sig .tc .vmem S1x1x50 .i32) (harg8 : arg8.IsWhole)
  (arg9 : Memref sig .tc .vmem S1x1x50 .i32) (harg9 : arg9.IsWhole)
  (X : BufTy.Contents (Elt Ideal) arg7.view.ty)

/-- What one trip of the greedy loop yields. -/
theorem trip_eq (k : Fin k0_t3_loop.trips) (acc : Carry Ideal) (hw : PickIn groupRow (iota .tc S50x50 32 [1] iota_S50x50_d1_w32) acc) :
    (trip Variants.none c none i arg1 harg1 arg2 harg2 arg3 harg3 arg4 harg4 arg5 harg5 arg6 harg6 arg7 harg7 arg8 harg8 arg9 harg9
      maskRow groupRow (iota .tc S50x50 32 [1] iota_S50x50_d1_w32) lane maskRow maskGroup X k).1 acc hw
      = stepWith k acc (View.readAt (Elt Ideal) arg7.view (Rect.unit (s := S1x10000x50) (k0_off6 (posOf acc)) S1x200x50.size (k0_off6_inb (posOf acc) hw)).toLoadRect X) := by
  unfold trip
  rfl

/-- What one trip of the loop over groups yields. -/
theorem trip2_eq (k : Fin k0_t2_loop.trips) (acc : FVec Ideal S50x50 .f32 × IVec S50x50 32) :
    tripR_k0_t2 (F := Ideal) Variants.none c none i arg1 harg1 arg2 harg2 arg3 harg3 arg4 harg4 arg5 harg5 arg6 harg6 arg7 harg7 arg8 harg8 arg9 harg9 maskRow groupRow X k acc
      = (k0_pay4 groupRow k acc.1 (View.readAt (Elt Ideal) arg7.view (Rect.unit (s := S1x10000x50) (k0_off5 k) S1x200x50.size (k0_off5_inb k)).toLoadRect X),
         k0_pay5 maskRow groupRow k acc.2 (View.readAt (Elt Ideal) arg7.view (Rect.unit (s := S1x10000x50) (k0_off5 k) S1x200x50.size (k0_off5_inb k)).toLoadRect X)) := by
  unfold tripR_k0_t2 trip_k0_t2
  rfl

/-- The rows of a group, read from the cost table. -/
theorem read_group (x : Vec Ideal S1x10000x50 .f32) (off : Fin 3 → ℕ) (inb : ∀ a, off a + S1x200x50.size a ≤ S1x10000x50.size a) (g : Fin 50)
    (h0 : off 0 = 0) (h1 : off 1 = g.val * 200) (h2 : off 2 = 0) (r : Fin 200) (t : Fin 50) :
    View.readAt (Elt Ideal) arg7.view (Rect.unit (s := S1x10000x50) off S1x200x50.size inb).toLoadRect (harg7.unread x) (ix3 0 r t) = x (ix3 0 (row g r) t) := by
  rw [View.readAt_eq_ld, harg7.read_unread]
  refine View.ld_unit_apply_of _ _ _ _ _ _ fun a => ?_
  fin_cases a
  · show 0 = off 0 + 0
    omega
  · show g.val * 200 + r.val = off 1 + r.val
    omega
  · show t.val = off 2 + t.val
    omega

variable (x : Vec Ideal S1x10000x50 .f32) (C : Table) (hx : ∀ q t, x (ix3 0 q t) = ((C q t : ℝ) : EReal))

include hx in
/-- The table of group minima after `k` trips. -/
theorem mins_at (k : ℕ) (hk : k ≤ 50) (g t : Fin 50) (hg : g.val < k) :
    ∃ r : Fin 200,
      (st_k0_t2 Variants.none c none i arg1 harg1 arg2 harg2 arg3 harg3 arg4 harg4 arg5 harg5 arg6 harg6 arg7 harg7 arg8 harg8 arg9 harg9
        maskRow groupRow (harg7.unread x) (k0_pay55, k0_pay56) k).1 (ix2 g t) = ((C (row g r) t : ℝ) : EReal)
      ∧ (st_k0_t2 Variants.none c none i arg1 harg1 arg2 harg2 arg3 harg3 arg4 harg4 arg5 harg5 arg6 harg6 arg7 harg7 arg8 harg8 arg9 harg9
        maskRow groupRow (harg7.unread x) (k0_pay55, k0_pay56) k).2 (ix2 g t) = BitVec.ofNat 32 (row g r).val
      ∧ ∀ r', C (row g r) t ≤ C (row g r') t := by
  induction k with
  | zero => omega
  | succ k ih =>
    have hl : k < k0_t2_loop.trips := by rw [show k0_t2_loop.trips = 50 by decide]; omega
    rw [st_k0_t2_succ (F := Ideal) Variants.none c none i arg1 harg1 arg2 harg2 arg3 harg3 arg4 harg4 arg5 harg5 arg6 harg6 arg7 harg7 arg8 harg8 arg9 harg9 maskRow groupRow (harg7.unread x) (k0_pay55, k0_pay56) ⟨k, hl⟩, trip2_eq]
    have hY := read_group arg7 harg7 x (k0_off5 ⟨k, hl⟩) (k0_off5_inb ⟨k, hl⟩) ⟨k, by omega⟩ rfl (by
      have : ∀ n : Fin k0_t2_loop.trips, k0_off5 n 1 = n.val * 200 := by decide +kernel
      exact this ⟨k, hl⟩) rfl
    generalize View.readAt (Elt Ideal) arg7.view (Rect.unit (s := S1x10000x50) (k0_off5 ⟨k, hl⟩) S1x200x50.size (k0_off5_inb ⟨k, hl⟩)).toLoadRect (harg7.unread x) = Y at hY ⊢
    simp only []
    rw [pay4_at _ _ (show k < 50 by omega), pay5_at _ _ (show k < 50 by omega)]
    by_cases e : g.val = k
    · subst e
      rw [if_pos rfl, if_pos rfl]
      obtain ⟨r, e1, e2, e3⟩ := group_at (k0_pay1 Y) g t
      have hS : ∀ r, k0_pay1 Y (ix2 r t) = ((C (row g r) t : ℝ) : EReal) := fun r => (pay1_at Y r t).trans ((hY r t).trans (hx _ _))
      refine ⟨r, e1.trans (hS r), e2, fun r' => ?_⟩
      have := e3 r'
      rw [hS, hS, EReal.coe_le_coe_iff] at this
      exact this
    · rw [if_neg e, if_neg e]
      exact ih (by omega) (by omega)

include hx in
/-- The carried value before step `k` of the kernel. -/
theorem holds (hC : Distinct C) (hok : PicksIn Ideal) (k : ℕ) (hk : k ≤ 50) :
    Holds C k (carried Variants.none c none i arg1 harg1 arg2 harg2 arg3 harg3 arg4 harg4 arg5 harg5 arg6 harg6 arg7 harg7 arg8 harg8 arg9 harg9
      maskRow groupRow (iota .tc S50x50 32 [1] iota_S50x50_d1_w32) lane maskRow maskGroup (harg7.unread x) hok
      ((groupMins c i arg1 harg1 arg2 harg2 arg3 harg3 arg4 harg4 arg5 harg5 arg6 harg6 arg7 harg7 arg8 harg8 arg9 harg9 (harg7.unread x)).1,
       (groupMins c i arg1 harg1 arg2 harg2 arg3 harg3 arg4 harg4 arg5 harg5 arg6 harg6 arg7 harg7 arg8 harg8 arg9 harg9 (harg7.unread x)).2, k0_pay7, k0_pay8, k0_pay9, k0_pay10) k) := by
  induction k with
  | zero =>
    have z : Ideal.ofBits FTy.f32 0x00000000#32 = ((1000000000 * ((0 : ℕ) : ℝ) : ℝ) : EReal) := by
      rw [Ideal.ofBits_zero]; simp
    refine ⟨fun g t => ?_, fun t => z, fun r g => z, fun i hi => absurd hi (by omega), fun i hi => absurd hi (by omega)⟩
    have e : (Scf.trips k0_t2_loop.lb k0_t2_loop.ub k0_t2_loop.st) = 50 := by decide
    obtain ⟨r, e1, e2, e3⟩ := mins_at c i arg1 harg1 arg2 harg2 arg3 harg3 arg4 harg4 arg5 harg5 arg6 harg6 arg7 harg7 arg8 harg8 arg9 harg9 x C hx (Scf.trips k0_t2_loop.lb k0_t2_loop.ub k0_t2_loop.st) e.le g t (lt_of_lt_of_eq g.isLt e.symm)
    have hz : ∀ q t, rowed C (counts C 0) q t = C q t := fun q t => by simp [rowed, counts]
    refine ⟨r, ?_, ?_, fun r' => by rw [hz, hz]; exact e3 r'⟩
    · rw [hz]; exact e1
    · exact e2
  | succ k ih =>
    have hl : k < k0_t3_loop.trips := by rw [show k0_t3_loop.trips = 50 by decide]; omega
    have h := ih (by omega)
    rw [carried]
    generalize carried Variants.none c none i arg1 harg1 arg2 harg2 arg3 harg3 arg4 harg4 arg5 harg5 arg6 harg6 arg7 harg7 arg8 harg8 arg9 harg9
      maskRow groupRow (iota .tc S50x50 32 [1] iota_S50x50_d1_w32) lane maskRow maskGroup (harg7.unread x) hok _ k = acc at h ⊢
    unfold next
    rw [dif_pos hl, trip_eq]
    refine step hC ⟨k, hl⟩ rfl hk h _ fun g hg r t => ?_
    refine (read_group arg7 harg7 x (k0_off6 (posOf acc)) _ g rfl ?_ rfl r t).trans (hx _ _)
    show (group (posOf acc) * 200#32).toNat = _
    rw [hg]
    have := g.isLt
    simp only [BitVec.toNat_mul, BitVec.toNat_ofNat]
    omega

/-- The rows and columns that the kernel returns are the picks of the greedy assignment on its cost table. -/
theorem kernel_picks (hok : PicksIn Ideal) (m : (ℓ : Loc nD τ sig) → Buf (Elt Ideal) ℓ) (c : Dev nD) (b : Fin 4) (C : Table) (hC : Distinct C)
    (hx : ∀ q t, costArr m c (ix3 b q t) = ((C q t : ℝ) : EReal)) (t : Fin 50) :
    rowArr hok m c (ix3 b 0 t) = BitVec.ofNat 32 (pick C t.val).1.val ∧ colArr hok m c (ix3 b 0 t) = BitVec.ofNat 32 (pick C t.val).2.val := by
  have e : (Scf.trips k0_t3_loop.lb k0_t3_loop.ub k0_t3_loop.st) = 50 := by decide
  have h := holds c (grid0.coords (pt b)) (ms0_0 (pt b)) (hs0_0 (pt b)) (ms0_1 (pt b)) (hs0_1 (pt b)) (ms0_2 (pt b)) (hs0_2 (pt b)) (ms0_3 (pt b)) (hs0_3 (pt b)) (ms0_4 (pt b)) (hs0_4 (pt b)) (ms0_5 (pt b)) (hs0_5 (pt b)) (ms0_6 (pt b)) (hs0_6 (pt b)) (ms0_7 (pt b)) (hs0_7 (pt b)) (ms0_8 (pt b)) (hs0_8 (pt b))
    (ptCost m c (pt b)) C hx hC hok 50 le_rfl
  rw [← e] at h
  change Holds C _ (ptEnd hok m c (pt b)) at h
  have h1 := h.pickedRow t (by rw [e]; exact t.isLt)
  have h2 := h.pickedCol t (by rw [e]; exact t.isLt)
  refine ⟨Eq.trans ?_ h1, Eq.trans ?_ h2⟩
  · show k0_pay13 (ptEnd hok m c (pt b)).2.2.2.2.1 (ix3 0 0 t) = _
    generalize (ptEnd hok m c (pt b)).2.2.2.2.1 = z
    unfold k0_pay13
    pointwise
  · show k0_pay14 (ptEnd hok m c (pt b)).2.2.2.2.2 (ix3 0 0 t) = _
    generalize (ptEnd hok m c (pt b)).2.2.2.2.2 = z
    unfold k0_pay14
    pointwise

end Cert.Proof
-- ==== Proof.RefStep.lean ====
module

public import proofs.«01_k».proof.Proof.RefRun
public import proofs.«01_k».proof.Proof.Greedy
public import Idealize.ShloMosaic.Lib.StableHlo.ReadAt
public import Idealize.ShloMosaic.Lib.Routing.Words

@[expose] public section

/-! One step of the reference's greedy assignment: what each stretch of the loop's body computes. -/

noncomputable section
namespace Cert.Proof.Ref
open Cert.Proof Cert.ReferenceIdeal Cert.ReferenceIdeal.Gen Cert.ReferenceIdeal.Value
open Idealize.ShloMosaic Idealize.ShloMosaic.StableHlo

set_option maxRecDepth 100000
set_option maxHeartbeats 2000000

/-- Floor division by 50, as the reference spells it. -/
theorem floor_word (n : ℕ) (hn : n < 500000) :
    Scalar.select (IntOp.andi
        (IntOp.cmpi .ne (if BitVec.ofNat 32 n = 0 then 0 else if BitVec.msb (BitVec.ofNat 32 n) = true then -1 else 1)
          (if (50#32 : BitVec 32) = 0 then 0 else if BitVec.msb (50#32 : BitVec 32) = true then (-1 : BitVec 32) else 1))
        (IntOp.cmpi .ne (IntOp.remsi .host (BitVec.ofNat 32 n) 50#32) 0#32))
      (IntOp.subi (IntOp.divsi .host (BitVec.ofNat 32 n) 50#32) 1#32) (IntOp.divsi .host (BitVec.ofNat 32 n) 50#32) = BitVec.ofNat 32 (n / 50) := by
  rw [Routing.remsi_word .host (a := n) (b := 50) (by omega) (by omega) (by omega), Routing.divsi_word .host (a := n) (b := 50) (by omega) (by omega) (by omega)]
  by_cases h0 : n = 0
  · subst h0; decide +kernel
  · have h1 : BitVec.ofNat 32 n ≠ 0 := fun e => h0 (by
      have := congrArg BitVec.toNat e
      simp only [BitVec.toNat_ofNat] at this
      change n % 4294967296 = 0 at this
      omega)
    have h2 : BitVec.msb (BitVec.ofNat 32 n) = false := by
      rw [BitVec.msb_eq_false_iff_two_mul_lt, BitVec.toNat_ofNat]; omega
    rw [if_neg h1, h2]
    have key : ∀ p : BitVec 1, IntOp.andi (IntOp.cmpi .ne (1 : BitVec 32) 1) p = 0#1 := by decide
    change Scalar.select (IntOp.andi (IntOp.cmpi .ne (1 : BitVec 32) 1) _) _ _ = _
    rw [key]; rfl

/-- The remainder modulo 50, as the reference spells it. -/
theorem rem_word (n : ℕ) (hn : n < 500000) :
    Scalar.select (IntOp.andi
        (IntOp.cmpi .ne (IntOp.cmpi .slt (IntOp.remsi .host (BitVec.ofNat 32 n) 50#32) 0#32) (IntOp.cmpi .slt (50#32) 0#32))
        (IntOp.cmpi .ne (IntOp.remsi .host (BitVec.ofNat 32 n) 50#32) 0#32))
      (IntOp.addi (IntOp.remsi .host (BitVec.ofNat 32 n) 50#32) 50#32)
      (IntOp.remsi .host (BitVec.ofNat 32 n) 50#32) = BitVec.ofNat 32 (n % 50) := by
  rw [Routing.remsi_word .host (a := n) (b := 50) (by omega) (by omega) (by omega)]
  have key : ∀ r : Fin 50, Scalar.select (IntOp.andi
        (IntOp.cmpi .ne (IntOp.cmpi .slt (BitVec.ofNat 32 r.val) 0#32) (IntOp.cmpi .slt (50#32) 0#32))
        (IntOp.cmpi .ne (BitVec.ofNat 32 r.val) 0#32))
      (IntOp.addi (BitVec.ofNat 32 r.val) 50#32) (BitVec.ofNat 32 r.val) = BitVec.ofNat 32 r.val := by decide +kernel
  exact key ⟨n % 50, by omega⟩

variable (X : Valuation τ sig (Elt Ideal)) (b : Fin 4)

theorem flat_at (q : Fin 10000) (t : Fin 50) (n : Fin 500000) (hn : n.val = q.val * 50 + t.val) :
    after while0Ops0 X (Proc.devRef .tc main_while0b_v195) (ix2 b n) = X (Proc.devRef .tc main_v192_1) (ix3 b q t) := by
  after_reads_at
  congr 2
  · exact Fin.ext (by show n.val / 50 = _; omega)
  · exact Fin.ext (by show n.val % 50 = _; omega)

theorem quot_at (n : ℕ) (hn : n < 500000) (h : X (Proc.devRef .tc main_while0b_v196) (ix1 b) = BitVec.ofNat 32 n) :
    after while0Ops0_3 (after while0Ops0_2 X) (Proc.devRef .tc main_while0b_v197) (ix1 b) = BitVec.ofNat 32 (n / 50) := by
  after_reads_at
  rw [h]
  exact floor_word n hn

theorem rem_at (n : ℕ) (hn : n < 500000) (h : X (Proc.devRef .tc main_while0b_v196) (ix1 b) = BitVec.ofNat 32 n) :
    after while0Ops0_5 (after while0Ops0_4 X) (Proc.devRef .tc main_while0b_v198) (ix1 b) = BitVec.ofNat 32 (n % 50) := by
  after_reads_at
  rw [h]
  exact rem_word n hn

/-- An entry of a one-hot row. -/
theorem hot (a c : ℕ) (ha : a < 2 ^ 32) (hc : c < 2 ^ 32) : (FloatOps.uitofp (F := Ideal) FTy.f32 (IntOp.cmpi .eq (BitVec.ofNat 32 a) (BitVec.ofNat 32 c)) : EReal) = (((if a = c then 1 else 0 : ℝ)) : EReal) := by
  by_cases h : a = c
  · subst h
    simp only [IntOp.cmpi, beq_self_eq_true, if_true]
    show (((1#1 : BitVec 1).toNat : ℝ) : EReal) = _
    simp
  · have : BitVec.ofNat 32 a ≠ BitVec.ofNat 32 c := fun e => h (by
      have := congrArg BitVec.toNat e
      rwa [BitVec.toNat_ofNat, BitVec.toNat_ofNat, Nat.mod_eq_of_lt ha, Nat.mod_eq_of_lt hc] at this)
    simp only [IntOp.cmpi, beq_eq_false_iff_ne.mpr this, if_neg h]
    show (((0#1 : BitVec 1).toNat : ℝ) : EReal) = _
    simp

theorem hot_row (r : ℕ) (hr : r < 10000) (h : X (Proc.devRef .tc main_while0b_v197) (ix1 b) = BitVec.ofNat 32 r) (q : Fin 10000) :
    (after while0Ops0_7 (after while0Ops0_6 X) (Proc.devRef .tc main_while0b_v200) (ix3 b q 0) : EReal) = (((if r = q.val then 1 else 0 : ℝ)) : EReal) := by
  after_reads_at
  rw [h]
  exact hot r q.val (by omega) (by omega)

theorem hot_col (r : ℕ) (hr : r < 50) (h : X (Proc.devRef .tc main_while0b_v198) (ix1 b) = BitVec.ofNat 32 r) (q : Fin 50) :
    (after while0Ops0_8 X (Proc.devRef .tc main_while0b_v201) (ix2 b q) : EReal) = (((if r = q.val then 1 else 0 : ℝ)) : EReal) := by
  after_reads_at
  rw [h]
  exact hot r q.val (by omega) (by omega)

theorem big_eq : Ideal.ofBits FTy.f32 0x4E6E6B28#32 = ((1000000000 : ℝ) : EReal) := by
  simp [Ideal.ofBits, Ideal.ieee]
  rw [← EReal.coe_pow, ← EReal.coe_mul]; norm_num

theorem new_at (q : Fin 10000) (t : Fin 50) (s x y : ℝ) (hs : (X (Proc.devRef .tc main_v192_1) (ix3 b q t) : EReal) = (s : EReal))
    (hx : (X (Proc.devRef .tc main_while0b_v200) (ix3 b q 0) : EReal) = (x : EReal)) (hy : (X (Proc.devRef .tc main_while0b_v201) (ix2 b t) : EReal) = (y : EReal)) :
    (after while0Ops0_9 X (Proc.devRef .tc main_while0b_v208) (ix3 b q t) : EReal) = ((s + 1000000000 * (x + y) : ℝ) : EReal) := by
  after_reads_at
  rw [hs, hx, hy, big_eq]
  rw [EReal.coe_add, EReal.coe_mul, EReal.coe_add]

/-- The starts of an update that puts one row. -/
theorem put_gen {α : Type} (ht : S1x4.rank = S50x4.rank) (s : Fin 2 → ℤ) (k : Fin 50) (hs0 : s 0 = (k.val : ℤ)) (hs1 : s 1 = 0) (i : Fin 50) (b : Fin 4)
    (u : (ht : _) → α) (z w : α)
    (hw : ∀ h, u h = w) :
    (if h : (Host.clampedStart S50x4 S1x4 ht s 0 ≤ i.val ∧ i.val < Host.clampedStart S50x4 S1x4 ht s 0 + 1) ∧ Host.clampedStart S50x4 S1x4 ht s 1 ≤ b.val then u h else z)
      = if i = k then w else z := by
  have e0 : Host.clampedStart S50x4 S1x4 ht s 0 = k.val := by
    show (min (max (s 0) 0) ((50 - 1 : ℕ) : ℤ)).toNat = _
    rw [hs0]; omega
  have e1 : Host.clampedStart S50x4 S1x4 ht s 1 = 0 := by
    show (min (max (s 1) 0) ((4 - 4 : ℕ) : ℤ)).toNat = _
    rw [hs1]; omega
  by_cases h : i = k
  · rw [if_pos h, dif_pos (by rw [e0, e1, h]; omega)]
    exact hw _
  · rw [if_neg h, dif_neg (by rw [e0]; intro hh; exact h (Fin.ext (by omega)))]

theorem put_row (k i : Fin 50) (hk : X (Proc.devRef .tc main_v192_0) = fun _ => Scf.iv 0#32 1#32 k) :
    after while0Ops0_10 X (Proc.devRef .tc main_while0b_v209) (ix2 i b)
      = if i = k then X (Proc.devRef .tc main_while0b_v197) (ix1 b) else X (Proc.devRef .tc main_v192_2) (ix2 i b) := by
  have e : ∀ k : Fin 50, BitVec.toInt (Scf.iv 0#32 1#32 k) = (k.val : ℤ) := by decide +kernel
  after_reads_at
  refine put_gen _ _ k ?_ ?_ i b _ _ _ fun h => ?_
  · refine Eq.trans ?_ (e k)
    rw [← congrFun hk (Shape.Idx.first h_S_)]
    rfl
  · rfl
  · congr 2

theorem put_col (k i : Fin 50) (hk : X (Proc.devRef .tc main_v192_0) = fun _ => Scf.iv 0#32 1#32 k) :
    after while0Ops0_11 X (Proc.devRef .tc main_while0b_v210) (ix2 i b)
      = if i = k then X (Proc.devRef .tc main_while0b_v198) (ix1 b) else X (Proc.devRef .tc main_v192_3) (ix2 i b) := by
  have e : ∀ k : Fin 50, BitVec.toInt (Scf.iv 0#32 1#32 k) = (k.val : ℤ) := by decide +kernel
  after_reads_at
  refine put_gen _ _ k ?_ ?_ i b _ _ _ fun h => ?_
  · refine Eq.trans ?_ (e k)
    rw [← congrFun hk (Shape.Idx.first h_S_)]
    rfl
  · rfl
  · congr 2

/-- The reducer of the reference's arg-min returns one of its operands, the lesser. -/
theorem red_or (a c : Ideal .f32 × BitVec 32) : (reducer_argmin_f32_i32 a c = a ∨ reducer_argmin_f32_i32 a c = c)
    ∧ ((reducer_argmin_f32_i32 a c).1 : EReal) ≤ (a.1 : EReal) ∧ ((reducer_argmin_f32_i32 a c).1 : EReal) ≤ (c.1 : EReal) := by
  obtain ⟨x, u⟩ := a
  obtain ⟨y, v⟩ := c
  change EReal at x y
  rcases lt_trichotomy x y with h | h | h
  · have e : reducer_argmin_f32_i32 (F := Ideal) (x, u) (y, v) = (x, u) := by
      simp [reducer_argmin_f32_i32, Ideal.cmpf_def, Ideal.cmp, h, h.ne, IntOp.ori, IntOp.andi, Scalar.select]
    rw [e]; exact ⟨Or.inl rfl, le_rfl, h.le⟩
  · subst h
    rcases (show IntOp.cmpi .slt u v = 0#1 ∨ IntOp.cmpi .slt u v = 1#1 by
      generalize IntOp.cmpi .slt u v = p; revert p; decide) with e1 | e1
    · have e : reducer_argmin_f32_i32 (F := Ideal) (x, u) (x, v) = (x, v) := by
        simp [reducer_argmin_f32_i32, Ideal.cmpf_def, Ideal.cmp, e1, IntOp.ori, IntOp.andi, Scalar.select]
      rw [e]; exact ⟨Or.inr rfl, le_rfl, le_rfl⟩
    · have e : reducer_argmin_f32_i32 (F := Ideal) (x, u) (x, v) = (x, u) := by
        simp [reducer_argmin_f32_i32, Ideal.cmpf_def, Ideal.cmp, e1, IntOp.ori, IntOp.andi, Scalar.select]
      rw [e]; exact ⟨Or.inl rfl, le_rfl, le_rfl⟩
  · have e : reducer_argmin_f32_i32 (F := Ideal) (x, u) (y, v) = (y, v) := by
      simp [reducer_argmin_f32_i32, Ideal.cmpf_def, Ideal.cmp, not_lt.mpr h.le, h.ne', IntOp.ori, IntOp.andi, Scalar.select]
    rw [e]; exact ⟨Or.inr rfl, h.le, le_rfl⟩

/-- The fold of that reducer. -/
theorem red_fold (L : List (Ideal .f32 × BitVec 32)) : ∀ a : Ideal .f32 × BitVec 32,
    (L.foldl reducer_argmin_f32_i32 a = a ∨ L.foldl reducer_argmin_f32_i32 a ∈ L)
    ∧ ((L.foldl reducer_argmin_f32_i32 a).1 : EReal) ≤ (a.1 : EReal) ∧ ∀ p ∈ L, ((L.foldl reducer_argmin_f32_i32 a).1 : EReal) ≤ (p.1 : EReal) := by
  induction L with
  | nil => exact fun a => ⟨Or.inl rfl, le_rfl, by simp⟩
  | cons c L ih =>
    intro a
    obtain ⟨h1, h2, h3⟩ := red_or a c
    obtain ⟨g1, g2, g3⟩ := ih (reducer_argmin_f32_i32 a c)
    rw [List.foldl_cons]
    refine ⟨?_, g2.trans h2, ?_⟩
    · rcases g1 with g | g
      · rw [g]
        rcases h1 with h | h
        · exact Or.inl h
        · exact Or.inr (by rw [h]; exact List.mem_cons_self)
      · exact Or.inr (List.mem_cons_of_mem _ g)
    · intro p hp
      rcases List.mem_cons.mp hp with rfl | hp
      · exact g2.trans h3
      · exact g3 p hp

/-- The position that the reference's arg-min picks holds a least entry. -/
theorem arg_gen (S : FVec Ideal S4x500000 .f32) (h : ∀ n : Fin 500000, (S (ix2 b n) : EReal) ≠ ⊤) :
    ∃ n : Fin 500000, (Host.argReduce reducer_argmin_f32_i32 S (iotaInDim S4x500000 32 1)
        (constant (F := Ideal) S_ FTy.f32 0x7F800000#32) (constantI S_ 32 0#32) reducesTo_S4x500000_S4_d1 h_S_ (ix1 b)).2 = BitVec.ofNat 32 n.val
      ∧ ∀ n' : Fin 500000, (S (ix2 b n) : EReal) ≤ (S (ix2 b n') : EReal) := by
  rw [Ideal.argReduce_eq_reduce2, Host.reduce2_eq_foldl_fiber]
  have hd : ∀ (b' : Fin 4) (n : Fin 500000), (reducesTo_S4x500000_S4_d1).drop (ix2 b' n) = ix1 b' := by
    intro b' n; funext a; fin_cases a; rfl
  have mem : ∀ p, p ∈ Host.argReduceFiber S (iotaInDim S4x500000 32 1) reducesTo_S4x500000_S4_d1 (ix1 b) ↔ ∃ n : Fin 500000, p = (S (ix2 b n), BitVec.ofNat 32 n.val) := by
    intro p
    unfold Host.argReduceFiber
    rw [List.mem_map]
    constructor
    · rintro ⟨n, hn, rfl⟩
      have hn := (List.mem_filter.mp hn).2
      generalize S4x500000.rowMajor.symm n = i at hn ⊢
      obtain ⟨b', n', rfl⟩ : ∃ (b' : Fin 4) (n' : Fin 500000), i = ix2 b' n' := ⟨i 0, i 1, eq_ix2 i⟩
      rw [hd, decide_eq_true_eq] at hn
      have : b' = b := congrFun hn 0
      subst this
      exact ⟨n', rfl⟩
    · rintro ⟨n, rfl⟩
      refine ⟨S4x500000.rowMajor (ix2 b n), List.mem_filter.mpr ⟨List.mem_finRange _, ?_⟩, ?_⟩
      · rw [Equiv.symm_apply_apply, hd]; simp
      · rw [Equiv.symm_apply_apply]; rfl
  obtain ⟨g1, g2, g3⟩ := red_fold (Host.argReduceFiber S (iotaInDim S4x500000 32 1) reducesTo_S4x500000_S4_d1 (ix1 b))
    (constant (F := Ideal) S_ FTy.f32 0x7F800000#32 (Shape.Idx.first h_S_), constantI S_ 32 0#32 (Shape.Idx.first h_S_))
  generalize List.foldl (reducer_argmin_f32_i32 (F := Ideal)) _ _ = r at g1 g2 g3 ⊢
  have top : (constant (F := Ideal) S_ FTy.f32 0x7F800000#32 (Shape.Idx.first h_S_) : EReal) = ⊤ := by
    show Ideal.ofBits FTy.f32 0x7F800000#32 = ⊤
    simp [Ideal.ofBits, Ideal.ieee]
  rcases g1 with g | g
  · exfalso
    have := g3 _ ((mem _).mpr ⟨0, rfl⟩)
    rw [g] at this
    rw [top] at this
    exact h 0 (top_le_iff.mp (show (⊤ : EReal) ≤ S (ix2 b 0) from this))
  · obtain ⟨n, e⟩ := (mem _).mp g
    refine ⟨n, by rw [e], fun n' => ?_⟩
    have := g3 _ ((mem _).mpr ⟨n', rfl⟩)
    rw [e] at this
    exact this

theorem arg_at (h : ∀ n : Fin 500000, @Ne EReal (X (Proc.devRef .tc main_while0b_v195) (ix2 b n)) ⊤) :
    ∃ n : Fin 500000, after while0Ops0_1 X (Proc.devRef .tc main_while0b_v196) (ix1 b) = BitVec.ofNat 32 n.val
      ∧ ∀ n' : Fin 500000, @LE.le EReal _ (X (Proc.devRef .tc main_while0b_v195) (ix2 b n)) (X (Proc.devRef .tc main_while0b_v195) (ix2 b n')) := by
  after_reads_at
  exact arg_gen b _ h
end Cert.Proof.Ref
-- ==== Proof.RefGreedy.lean ====
module

public import proofs.«01_k».proof.Proof.RefStep

@[expose] public section

/-! The reference's loop: its picks are those of the greedy assignment on its cost table. -/

noncomputable section
namespace Cert.Proof.Ref
open Cert.Proof Cert.ReferenceIdeal Cert.ReferenceIdeal.Gen Cert.ReferenceIdeal.Value
open Idealize.ShloMosaic Idealize.ShloMosaic.StableHlo

set_option maxRecDepth 100000
set_option maxHeartbeats 2000000

/-- The loop's buffers for image `b` before step `k`. -/
structure Before (C : Table) (b : Fin 4) (k : ℕ) (X : Valuation τ sig (Elt Ideal)) : Prop where
  tab : ∀ (q : Fin 10000) (t : Fin 50), (X (Proc.devRef .tc main_v192_1) (ix3 b q t) : EReal) = ((masked C (counts C k) q t : ℝ) : EReal)
  rows : ∀ i : Fin 50, i.val < k → X (Proc.devRef .tc main_v192_2) (ix2 i b) = BitVec.ofNat 32 (pick C i.val).1.val
  cols : ∀ i : Fin 50, i.val < k → X (Proc.devRef .tc main_v192_3) (ix2 i b) = BitVec.ofNat 32 (pick C i.val).2.val

/-- The same with the trip counter. -/
structure Base (C : Table) (b : Fin 4) (k : ℕ) (X : Valuation τ sig (Elt Ideal)) : Prop extends Before C b k X where
  ctr : X (Proc.devRef .tc main_v192_0) = fun _ => Scf.iv 0#32 1#32 k

variable {C : Table} {b : Fin 4} {k : ℕ}

/-- A stretch keeps a buffer that it does not write. -/
theorem keep {ops : List (HloOp τ sig (Elt Ideal))} {W : List (Ref sig .tc)}
    (hw : ops.Forall fun op => op.writes ⊆ (W.map (Proc.devRef (τ := τ) .tc)).toFinset) {r : Ref sig .tc} (hr : r ∉ W) (X : Valuation τ sig (Elt Ideal)) :
    after ops X (Proc.devRef .tc r) = X (Proc.devRef .tc r) := after_of_writes_sub ops X hw hr

theorem base_keep {ops : List (HloOp τ sig (Elt Ideal))} {W : List (Ref sig .tc)}
    (hw : ops.Forall fun op => op.writes ⊆ (W.map (Proc.devRef (τ := τ) .tc)).toFinset)
    (h0 : main_v192_0 ∉ W) (h1 : main_v192_1 ∉ W) (h2 : main_v192_2 ∉ W) (h3 : main_v192_3 ∉ W)
    {X : Valuation τ sig (Elt Ideal)} (h : Base C b k X) : Base C b k (after ops X) :=
  ⟨⟨fun q t => (congrFun (keep hw h1 X) _).trans (h.tab q t), fun i hi => (congrFun (keep hw h2 X) _).trans (h.rows i hi),
    fun i hi => (congrFun (keep hw h3 X) _).trans (h.cols i hi)⟩, (keep hw h0 X).trans h.ctr⟩

variable (X : Valuation τ sig (Elt Ideal))

theorem last1 : after while0Ops0_12 X (Proc.devRef .tc main_v192_1) = X (Proc.devRef .tc main_while0b_v208) := by
  after_results
  rfl
theorem last2 : after while0Ops0_12 X (Proc.devRef .tc main_v192_2) = X (Proc.devRef .tc main_while0b_v209) := by
  after_results
  rfl
theorem last3 : after while0Ops0_12 X (Proc.devRef .tc main_v192_3) = X (Proc.devRef .tc main_while0b_v210) := by
  after_results
  rfl

variable {X}

/-- One trip of the loop. -/
theorem body_step (hC : Distinct C) (hk : k < 50) (h : Base C b k X) : Before C b (k + 1) (afterL bodyI (after condOps X)) := by
  simp only [afterL_cons, afterL_nil]
  have h0 := base_keep condOps_writes (by decide +kernel) (by decide +kernel) (by decide +kernel) (by decide +kernel) h
  generalize after condOps X = X0 at h0 ⊢
  have f : ∀ (q : Fin 10000) (t : Fin 50) (n : Fin 500000), n.val = q.val * 50 + t.val →
      (after while0Ops0 X0 (Proc.devRef .tc main_while0b_v195) (ix2 b n) : EReal) = ((masked C (counts C k) q t : ℝ) : EReal) :=
    fun q t n hn => (flat_at X0 b q t n hn).trans (h0.tab q t)
  have h1 := base_keep while0Ops0_writes (by decide +kernel) (by decide +kernel) (by decide +kernel) (by decide +kernel) h0
  generalize after while0Ops0 X0 = X1 at f h1 ⊢
  obtain ⟨n, e, hmin⟩ := arg_at X1 b (fun n => by
    rw [f ⟨n.val / 50, by omega⟩ ⟨n.val % 50, by omega⟩ n (by show n.val = n.val / 50 * 50 + n.val % 50; omega)]
    exact EReal.coe_ne_top _)
  have hp : ((⟨n.val / 50, by omega⟩, ⟨n.val % 50, by omega⟩) : Fin 10000 × Fin 50) = pick C k := by
    refine pick_unique hC hk _ _ fun q' t' => ?_
    have := hmin ⟨q'.val * 50 + t'.val, by omega⟩
    rw [f ⟨n.val / 50, by omega⟩ ⟨n.val % 50, by omega⟩ n (by show n.val = n.val / 50 * 50 + n.val % 50; omega), f q' t' _ rfl] at this
    exact EReal.coe_le_coe_iff.mp this
  have hp1 : n.val / 50 = (pick C k).1.val := congrArg (fun p => p.1.val) hp
  have hp2 : n.val % 50 = (pick C k).2.val := congrArg (fun p => p.2.val) hp
  have h2 := base_keep while0Ops0_1_writes (by decide +kernel) (by decide +kernel) (by decide +kernel) (by decide +kernel) h1
  generalize after while0Ops0_1 X1 = X2 at e h2 ⊢
  have e7 := quot_at X2 b n.val n.isLt e
  have e := (congrFun ((keep while0Ops0_3_writes (show main_while0b_v196 ∉ while0Ops0_3_W by decide +kernel) _).trans (keep while0Ops0_2_writes (show main_while0b_v196 ∉ while0Ops0_2_W by decide +kernel) _)) (ix1 b)).trans e
  have h4 := base_keep while0Ops0_3_writes (by decide +kernel) (by decide +kernel) (by decide +kernel) (by decide +kernel) (base_keep while0Ops0_2_writes (by decide +kernel) (by decide +kernel) (by decide +kernel) (by decide +kernel) h2)
  generalize after while0Ops0_3 (after while0Ops0_2 X2) = X4 at e e7 h4 ⊢
  have e8 := rem_at X4 b n.val n.isLt e
  have e7 := (congrFun ((keep while0Ops0_5_writes (show main_while0b_v197 ∉ while0Ops0_5_W by decide +kernel) _).trans (keep while0Ops0_4_writes (show main_while0b_v197 ∉ while0Ops0_4_W by decide +kernel) _)) (ix1 b)).trans e7
  have h6 := base_keep while0Ops0_5_writes (by decide +kernel) (by decide +kernel) (by decide +kernel) (by decide +kernel) (base_keep while0Ops0_4_writes (by decide +kernel) (by decide +kernel) (by decide +kernel) (by decide +kernel) h4)
  generalize after while0Ops0_5 (after while0Ops0_4 X4) = X6 at e8 e7 h6 ⊢
  have hr := hot_row X6 b (n.val / 50) (by omega) e7
  have e7 := (congrFun ((keep while0Ops0_7_writes (show main_while0b_v197 ∉ while0Ops0_7_W by decide +kernel) _).trans (keep while0Ops0_6_writes (show main_while0b_v197 ∉ while0Ops0_6_W by decide +kernel) _)) (ix1 b)).trans e7
  have e8 := (congrFun ((keep while0Ops0_7_writes (show main_while0b_v198 ∉ while0Ops0_7_W by decide +kernel) _).trans (keep while0Ops0_6_writes (show main_while0b_v198 ∉ while0Ops0_6_W by decide +kernel) _)) (ix1 b)).trans e8
  have h8 := base_keep while0Ops0_7_writes (by decide +kernel) (by decide +kernel) (by decide +kernel) (by decide +kernel) (base_keep while0Ops0_6_writes (by decide +kernel) (by decide +kernel) (by decide +kernel) (by decide +kernel) h6)
  generalize after while0Ops0_7 (after while0Ops0_6 X6) = X8 at e8 e7 hr h8 ⊢
  have hc := hot_col X8 b (n.val % 50) (by omega) e8
  have e7 := (congrFun (keep while0Ops0_8_writes (show main_while0b_v197 ∉ while0Ops0_8_W by decide +kernel) _) (ix1 b)).trans e7
  have e8 := (congrFun (keep while0Ops0_8_writes (show main_while0b_v198 ∉ while0Ops0_8_W by decide +kernel) _) (ix1 b)).trans e8
  have hr := fun q => (congrFun (keep while0Ops0_8_writes (show main_while0b_v200 ∉ while0Ops0_8_W by decide +kernel) _) (ix3 b q 0)).trans (hr q)
  have h9 := base_keep while0Ops0_8_writes (by decide +kernel) (by decide +kernel) (by decide +kernel) (by decide +kernel) h8
  generalize after while0Ops0_8 X8 = X9 at e8 e7 hr hc h9 ⊢
  have nw := fun q t => new_at X9 b q t _ _ _ (h9.tab q t) (hr q) (hc t)
  have e7 := (congrFun (keep while0Ops0_9_writes (show main_while0b_v197 ∉ while0Ops0_9_W by decide +kernel) _) (ix1 b)).trans e7
  have e8 := (congrFun (keep while0Ops0_9_writes (show main_while0b_v198 ∉ while0Ops0_9_W by decide +kernel) _) (ix1 b)).trans e8
  have h10 := base_keep while0Ops0_9_writes (by decide +kernel) (by decide +kernel) (by decide +kernel) (by decide +kernel) h9
  generalize after while0Ops0_9 X9 = X10 at e8 e7 nw h10 ⊢
  have pr := fun i => put_row X10 b ⟨k, hk⟩ i h10.ctr
  simp only [e7] at pr
  have pr := fun i (hi : i.val < k + 1) => (pr i).trans (show _ = BitVec.ofNat 32 (pick C i.val).1.val by
    by_cases hik : i = ⟨k, hk⟩
    · rw [if_pos hik, hp1, hik]
    · rw [if_neg hik]
      exact h10.rows i (by have : i.val ≠ k := fun hh => hik (Fin.ext hh); omega))
  have e8 := (congrFun (keep while0Ops0_10_writes (show main_while0b_v198 ∉ while0Ops0_10_W by decide +kernel) _) (ix1 b)).trans e8
  have nw := fun q t => (congrFun (keep while0Ops0_10_writes (show main_while0b_v208 ∉ while0Ops0_10_W by decide +kernel) _) (ix3 b q t)).trans (nw q t)
  have h11 := base_keep while0Ops0_10_writes (by decide +kernel) (by decide +kernel) (by decide +kernel) (by decide +kernel) h10
  generalize after while0Ops0_10 X10 = X11 at e8 nw pr h11 ⊢
  have pc := fun i => put_col X11 b ⟨k, hk⟩ i h11.ctr
  simp only [e8] at pc
  have pc := fun i (hi : i.val < k + 1) => (pc i).trans (show _ = BitVec.ofNat 32 (pick C i.val).2.val by
    by_cases hik : i = ⟨k, hk⟩
    · rw [if_pos hik, hp2, hik]
    · rw [if_neg hik]
      exact h11.cols i (by have : i.val ≠ k := fun hh => hik (Fin.ext hh); omega))
  have nw := fun q t => (congrFun (keep while0Ops0_11_writes (show main_while0b_v208 ∉ while0Ops0_11_W by decide +kernel) _) (ix3 b q t)).trans (nw q t)
  have pr := fun i hi => (congrFun (keep while0Ops0_11_writes (show main_while0b_v209 ∉ while0Ops0_11_W by decide +kernel) _) (ix2 i b)).trans (pr i hi)
  generalize after while0Ops0_11 X11 = X12 at nw pr pc ⊢
  refine ⟨fun q t => (congrFun (last1 X12) _).trans ((nw q t).trans ?_), fun i hi => (congrFun (last2 X12) _).trans (pr i hi),
    fun i hi => (congrFun (last3 X12) _).trans (pc i hi)⟩
  rw [hp1, hp2]
  refine congrArg Real.toEReal ?_
  rw [counts_succ]
  simp only [masked, bump]
  have a1 : ((pick C k).1.val = q.val) ↔ q = (pick C k).1 := ⟨fun h => Fin.ext h.symm, fun h => (congrArg Fin.val h).symm⟩
  have a2 : ((pick C k).2.val = t.val) ↔ t = (pick C k).2 := ⟨fun h => Fin.ext h.symm, fun h => (congrArg Fin.val h).symm⟩
  simp only [a1, a2]
  push_cast
  ring

/-- The table of image `b` before the loop is that of the first result. -/
theorem entry_tab : after hostOps0_4 X (Proc.devRef .tc main_v192_1) = after hostOps0_4 X (Proc.devRef .tc main_v189) := by
  after_results
  rfl

/-- The loop's buffers before step `k`. -/
theorem before_at (m : (ℓ : Loc nD τ sig) → Buf (Elt Ideal) ℓ) (c : Dev nD) (hC : Distinct C)
    (hx : ∀ (q : Fin 10000) (t : Fin 50), (out main_v189 m c (ix3 b q t) : EReal) = ((C q t : ℝ) : EReal)) :
    ∀ k, k ≤ 50 → Before C b k (atK m k c)
  | 0, _ => by
    refine ⟨fun q t => ?_, fun i hi => absurd hi (by omega), fun i hi => absurd hi (by omega)⟩
    have e : masked C (counts C 0) q t = C q t := by simp [masked, counts]
    rw [e, ← hx q t]
    refine Eq.trans ?_ (congrFun (final_keep main_v189 (by decide +kernel) (by decide +kernel) m c) (ix3 b q t)).symm
    show entryContents preI m c (Proc.devRef .tc main_v192_1) (ix3 b q t) = _
    rw [entry_eq]
    exact congrFun entry_tab _
  | k + 1, h => by
    have := body_step hC (by omega) ⟨before_at m c hC hx k (by omega), atK_ctr m c k⟩
    rwa [show atK m (k + 1) c = afterL bodyI (after condOps (atK m k c)) from rfl]

theorem end_rows (i : Fin 50) : after hostOps0_5 X (Proc.devRef .tc main_v193) (ix2 b i) = X (Proc.devRef .tc main_v192_2) (ix2 i b) := by
  after_reads_at
theorem end_cols (i : Fin 50) : after hostOps0_5 X (Proc.devRef .tc main_v194) (ix2 b i) = X (Proc.devRef .tc main_v192_3) (ix2 i b) := by
  after_reads_at

/-- The rows and columns that the reference returns are the picks of the greedy assignment on its cost table. -/
theorem picks (m : (ℓ : Loc nD τ sig) → Buf (Elt Ideal) ℓ) (c : Dev nD) (hC : Distinct C)
    (hx : ∀ (q : Fin 10000) (t : Fin 50), (out main_v189 m c (ix3 b q t) : EReal) = ((C q t : ℝ) : EReal)) (i : Fin 50) :
    out main_v193 m c (ix2 b i) = BitVec.ofNat 32 (pick C i.val).1.val ∧ out main_v194 m c (ix2 b i) = BitVec.ofNat 32 (pick C i.val).2.val := by
  have h := before_at m c hC hx 50 le_rfl
  unfold out finalContents
  simp only [afterL_cons, afterL_nil]
  constructor
  · rw [end_rows, keep condOps_writes (show main_v192_2 ∉ condOps_W by decide +kernel)]
    exact h.rows i i.isLt
  · rw [end_cols, keep condOps_writes (show main_v192_3 ∉ condOps_W by decide +kernel)]
    exact h.cols i i.isLt

end Cert.Proof.Ref
-- ==== Proof.PreTable.lean ====
module

public import proofs.«01_k».proof.Pre_distinct_costs
public import proofs.«01_k».proof.Proof.CostRef

@[expose] public section

/-! The cost table of the second precondition, entry by entry. -/

noncomputable section
namespace Cert.Proof.Pre
open Cert.Proof Cert.Pre_distinct_costs Cert.Pre_distinct_costs.Facts Idealize.ShloMosaic

set_option maxRecDepth 100000
set_option maxHeartbeats 2000000

variable [Cert.Pre_distinct_costs.Facts]

/-- The class costs. -/
def cls (main_arg0 : FVec Ideal S4x10000x81 .f32) (main_arg3 : IVec S4x50 32) : FVec Ideal S4x10000x50 .f32 :=
  let main_cst : FVec Ideal S_ .f32 := constant S_ .f32 0xFF800000#32
  let main_v0 : FVec Ideal S4x10000 .f32 := (fun x v => Host.reduce FloatOps.maximumf x v reducesTo_S4x10000x81_S4x10000_d2 h_S_) main_arg0 main_cst
  let main_cst_0 : FVec Ideal S_ .f32 := constant S_ .f32 0xFF800000#32
  let main_v1 : FVec Ideal S4x10000 .f32 := broadcastInDim S4x10000 ![] bcast_S_S4x10000 main_cst_0
  let main_v2 : FVec Ideal S4x10000 .f32 := maximumf main_v1 main_v0
  let main_v3 : FVec Ideal S4x10000x1 .f32 := broadcastInDim S4x10000x1 ![0, 1] bcast_S4x10000_S4x10000x1_0_1 main_v2
  let main_v4 : FVec Ideal S4x10000x81 .f32 := broadcastInDim S4x10000x81 ![0, 1, 2] bcast_S4x10000x1_S4x10000x81_0_1_2 main_v3
  let main_v5 : FVec Ideal S4x10000x81 .f32 := subf main_arg0 main_v4
  let main_v6 : FVec Ideal S4x10000x81 .f32 := Host.exp main_v5
  let main_cst_1 : FVec Ideal S_ .f32 := constant S_ .f32 0x00000000#32
  let main_v7 : FVec Ideal S4x10000 .f32 := (fun x v => Host.reduceAdd x v reducesTo_S4x10000x81_S4x10000_d2 h_S_) main_v6 main_cst_1
  let main_v8 : FVec Ideal S4x10000x1 .f32 := broadcastInDim S4x10000x1 ![0, 1] bcast_S4x10000_S4x10000x1_0_1 main_v7
  let main_v9 : FVec Ideal S4x10000x81 .f32 := broadcastInDim S4x10000x81 ![0, 1, 2] bcast_S4x10000x1_S4x10000x81_0_1_2 main_v8
  let main_v10 : FVec Ideal S4x10000x81 .f32 := Host.divf main_v6 main_v9
  let main_c : IVec S_ 32 := constantI S_ 32 0#32
  let main_v11 : IVec S4x50 32 := broadcastInDim S4x50 ![] bcast_S_S4x50 main_c
  let main_v12 : IVec S4x50 1 := cmpi .slt main_arg3 main_v11
  let main_c_2 : IVec S_ 32 := constantI S_ 32 81#32
  let main_v13 : IVec S4x50 32 := broadcastInDim S4x50 ![] bcast_S_S4x50 main_c_2
  let main_v14 : IVec S4x50 32 := addi main_arg3 main_v13
  let main_v15 : IVec S4x50 32 := select main_v12 main_v14 main_arg3
  let main_v16 : IVec S4x50x1 32 := broadcastInDim S4x50x1 ![0, 1] bcast_S4x50_S4x50x1_0_1 main_v15
  let main_v17 : FVec Ideal S4x10000x50 .f32 := (fun x i => Host.gather gather_S4x10000x81_S4x50x1_S4x10000x50_1_2_0_0_2_2_1100001 x i) main_v10 main_v16
  let main_v18 : FVec Ideal S4x10000x50 .f32 := Host.negf main_v17
  main_v18

/-- The box distances. -/
def dists (main_arg1 : FVec Ideal S4x10000x4 .f32) (main_arg4 : FVec Ideal S4x50x4 .f32) : FVec Ideal S4x10000x50 .f32 :=
  let main_v19 : FVec Ideal S4x10000x1x4 .f32 := broadcastInDim S4x10000x1x4 ![0, 1, 3] bcast_S4x10000x4_S4x10000x1x4_0_1_3 main_arg1
  let main_v20 : FVec Ideal S4x1x50x4 .f32 := broadcastInDim S4x1x50x4 ![0, 2, 3] bcast_S4x50x4_S4x1x50x4_0_2_3 main_arg4
  let main_v21 : FVec Ideal S4x10000x50x4 .f32 := broadcastInDim S4x10000x50x4 ![0, 1, 2, 3] bcast_S4x10000x1x4_S4x10000x50x4_0_1_2_3 main_v19
  let main_v22 : FVec Ideal S4x10000x50x4 .f32 := broadcastInDim S4x10000x50x4 ![0, 1, 2, 3] bcast_S4x1x50x4_S4x10000x50x4_0_1_2_3 main_v20
  let main_v23 : FVec Ideal S4x10000x50x4 .f32 := subf main_v21 main_v22
  let main_v24 : FVec Ideal S4x10000x50x4 .f32 := Host.absf main_v23
  let main_cst_3 : FVec Ideal S_ .f32 := constant S_ .f32 0x00000000#32
  let main_v25 : FVec Ideal S4x10000x50 .f32 := (fun x v => Host.reduceAdd x v reducesTo_S4x10000x50x4_S4x10000x50_d3 h_S_) main_v24 main_cst_3
  main_v25

/-- The corners of the predicted boxes. -/
def qBox (main_arg1 : FVec Ideal S4x10000x4 .f32) : FVec Ideal S4x10000x4 .f32 :=
  let main_v26 : FVec Ideal S4x10000x1 .f32 := (extractStridedSlice S4x10000x1 ![0, 0, 0] · slices_S4x10000x4_S4x10000x1_0_0_0) main_arg1
  let main_v27 : FVec Ideal S4x10000 .f32 := shapeCast S4x10000 main_v26 shapeCasts_S4x10000x1_S4x10000
  let main_v28 : FVec Ideal S4x10000x1 .f32 := (extractStridedSlice S4x10000x1 ![0, 0, 1] · slices_S4x10000x4_S4x10000x1_0_0_1) main_arg1
  let main_v29 : FVec Ideal S4x10000 .f32 := shapeCast S4x10000 main_v28 shapeCasts_S4x10000x1_S4x10000
  let main_v30 : FVec Ideal S4x10000x1 .f32 := (extractStridedSlice S4x10000x1 ![0, 0, 2] · slices_S4x10000x4_S4x10000x1_0_0_2) main_arg1
  let main_v31 : FVec Ideal S4x10000 .f32 := shapeCast S4x10000 main_v30 shapeCasts_S4x10000x1_S4x10000
  let main_v32 : FVec Ideal S4x10000x1 .f32 := (extractStridedSlice S4x10000x1 ![0, 0, 3] · slices_S4x10000x4_S4x10000x1_0_0_3) main_arg1
  let main_v33 : FVec Ideal S4x10000 .f32 := shapeCast S4x10000 main_v32 shapeCasts_S4x10000x1_S4x10000
  let main_cst_4 : FVec Ideal S_ .f32 := constant S_ .f32 0x3F000000#32
  let main_v34 : FVec Ideal S4x10000 .f32 := broadcastInDim S4x10000 ![] bcast_S_S4x10000 main_cst_4
  let main_v35 : FVec Ideal S4x10000 .f32 := mulf main_v34 main_v31
  let main_v36 : FVec Ideal S4x10000 .f32 := subf main_v27 main_v35
  let main_cst_5 : FVec Ideal S_ .f32 := constant S_ .f32 0x3F000000#32
  let main_v37 : FVec Ideal S4x10000 .f32 := broadcastInDim S4x10000 ![] bcast_S_S4x10000 main_cst_5
  let main_v38 : FVec Ideal S4x10000 .f32 := mulf main_v37 main_v33
  let main_v39 : FVec Ideal S4x10000 .f32 := subf main_v29 main_v38
  let main_cst_6 : FVec Ideal S_ .f32 := constant S_ .f32 0x3F000000#32
  let main_v40 : FVec Ideal S4x10000 .f32 := broadcastInDim S4x10000 ![] bcast_S_S4x10000 main_cst_6
  let main_v41 : FVec Ideal S4x10000 .f32 := mulf main_v40 main_v31
  let main_v42 : FVec Ideal S4x10000 .f32 := addf main_v27 main_v41
  let main_cst_7 : FVec Ideal S_ .f32 := constant S_ .f32 0x3F000000#32
  let main_v43 : FVec Ideal S4x10000 .f32 := broadcastInDim S4x10000 ![] bcast_S_S4x10000 main_cst_7
  let main_v44 : FVec Ideal S4x10000 .f32 := mulf main_v43 main_v33
  let main_v45 : FVec Ideal S4x10000 .f32 := addf main_v29 main_v44
  let main_v46 : FVec Ideal S4x10000x1 .f32 := broadcastInDim S4x10000x1 ![0, 1] bcast_S4x10000_S4x10000x1_0_1 main_v36
  let main_v47 : FVec Ideal S4x10000x1 .f32 := broadcastInDim S4x10000x1 ![0, 1] bcast_S4x10000_S4x10000x1_0_1 main_v39
  let main_v48 : FVec Ideal S4x10000x1 .f32 := broadcastInDim S4x10000x1 ![0, 1] bcast_S4x10000_S4x10000x1_0_1 main_v42
  let main_v49 : FVec Ideal S4x10000x1 .f32 := broadcastInDim S4x10000x1 ![0, 1] bcast_S4x10000_S4x10000x1_0_1 main_v45
  let main_v50 : FVec Ideal S4x10000x4 .f32 := concatenate S4x10000x4 2 [⟨S4x10000x1, main_v46⟩, ⟨S4x10000x1, main_v47⟩, ⟨S4x10000x1, main_v48⟩, ⟨S4x10000x1, main_v49⟩] concatenates_S4x10000x1_S4x10000x1_S4x10000x1_S4x10000x1_S4x10000x4_d2
  main_v50

/-- The corners of the target boxes. -/
def tBox (main_arg4 : FVec Ideal S4x50x4 .f32) : FVec Ideal S4x50x4 .f32 :=
  let main_v51 : FVec Ideal S4x50x1 .f32 := (extractStridedSlice S4x50x1 ![0, 0, 0] · slices_S4x50x4_S4x50x1_0_0_0) main_arg4
  let main_v52 : FVec Ideal S4x50 .f32 := shapeCast S4x50 main_v51 shapeCasts_S4x50x1_S4x50
  let main_v53 : FVec Ideal S4x50x1 .f32 := (extractStridedSlice S4x50x1 ![0, 0, 1] · slices_S4x50x4_S4x50x1_0_0_1) main_arg4
  let main_v54 : FVec Ideal S4x50 .f32 := shapeCast S4x50 main_v53 shapeCasts_S4x50x1_S4x50
  let main_v55 : FVec Ideal S4x50x1 .f32 := (extractStridedSlice S4x50x1 ![0, 0, 2] · slices_S4x50x4_S4x50x1_0_0_2) main_arg4
  let main_v56 : FVec Ideal S4x50 .f32 := shapeCast S4x50 main_v55 shapeCasts_S4x50x1_S4x50
  let main_v57 : FVec Ideal S4x50x1 .f32 := (extractStridedSlice S4x50x1 ![0, 0, 3] · slices_S4x50x4_S4x50x1_0_0_3) main_arg4
  let main_v58 : FVec Ideal S4x50 .f32 := shapeCast S4x50 main_v57 shapeCasts_S4x50x1_S4x50
  let main_cst_8 : FVec Ideal S_ .f32 := constant S_ .f32 0x3F000000#32
  let main_v59 : FVec Ideal S4x50 .f32 := broadcastInDim S4x50 ![] bcast_S_S4x50 main_cst_8
  let main_v60 : FVec Ideal S4x50 .f32 := mulf main_v59 main_v56
  let main_v61 : FVec Ideal S4x50 .f32 := subf main_v52 main_v60
  let main_cst_9 : FVec Ideal S_ .f32 := constant S_ .f32 0x3F000000#32
  let main_v62 : FVec Ideal S4x50 .f32 := broadcastInDim S4x50 ![] bcast_S_S4x50 main_cst_9
  let main_v63 : FVec Ideal S4x50 .f32 := mulf main_v62 main_v58
  let main_v64 : FVec Ideal S4x50 .f32 := subf main_v54 main_v63
  let main_cst_10 : FVec Ideal S_ .f32 := constant S_ .f32 0x3F000000#32
  let main_v65 : FVec Ideal S4x50 .f32 := broadcastInDim S4x50 ![] bcast_S_S4x50 main_cst_10
  let main_v66 : FVec Ideal S4x50 .f32 := mulf main_v65 main_v56
  let main_v67 : FVec Ideal S4x50 .f32 := addf main_v52 main_v66
  let main_cst_11 : FVec Ideal S_ .f32 := constant S_ .f32 0x3F000000#32
  let main_v68 : FVec Ideal S4x50 .f32 := broadcastInDim S4x50 ![] bcast_S_S4x50 main_cst_11
  let main_v69 : FVec Ideal S4x50 .f32 := mulf main_v68 main_v58
  let main_v70 : FVec Ideal S4x50 .f32 := addf main_v54 main_v69
  let main_v71 : FVec Ideal S4x50x1 .f32 := broadcastInDim S4x50x1 ![0, 1] bcast_S4x50_S4x50x1_0_1 main_v61
  let main_v72 : FVec Ideal S4x50x1 .f32 := broadcastInDim S4x50x1 ![0, 1] bcast_S4x50_S4x50x1_0_1 main_v64
  let main_v73 : FVec Ideal S4x50x1 .f32 := broadcastInDim S4x50x1 ![0, 1] bcast_S4x50_S4x50x1_0_1 main_v67
  let main_v74 : FVec Ideal S4x50x1 .f32 := broadcastInDim S4x50x1 ![0, 1] bcast_S4x50_S4x50x1_0_1 main_v70
  let main_v75 : FVec Ideal S4x50x4 .f32 := concatenate S4x50x4 2 [⟨S4x50x1, main_v71⟩, ⟨S4x50x1, main_v72⟩, ⟨S4x50x1, main_v73⟩, ⟨S4x50x1, main_v74⟩] concatenates_S4x50x1_S4x50x1_S4x50x1_S4x50x1_S4x50x4_d2
  main_v75

/-- The areas of the predicted boxes. -/
def qArea (main_v50 : FVec Ideal S4x10000x4 .f32) : FVec Ideal S4x10000 .f32 :=
  let main_v76 : FVec Ideal S4x10000x1 .f32 := (extractStridedSlice S4x10000x1 ![0, 0, 2] · slices_S4x10000x4_S4x10000x1_0_0_2) main_v50
  let main_v77 : FVec Ideal S4x10000 .f32 := shapeCast S4x10000 main_v76 shapeCasts_S4x10000x1_S4x10000
  let main_v78 : FVec Ideal S4x10000x1 .f32 := (extractStridedSlice S4x10000x1 ![0, 0, 0] · slices_S4x10000x4_S4x10000x1_0_0_0) main_v50
  let main_v79 : FVec Ideal S4x10000 .f32 := shapeCast S4x10000 main_v78 shapeCasts_S4x10000x1_S4x10000
  let main_v80 : FVec Ideal S4x10000 .f32 := subf main_v77 main_v79
  let main_v81 : FVec Ideal S4x10000x1 .f32 := (extractStridedSlice S4x10000x1 ![0, 0, 3] · slices_S4x10000x4_S4x10000x1_0_0_3) main_v50
  let main_v82 : FVec Ideal S4x10000 .f32 := shapeCast S4x10000 main_v81 shapeCasts_S4x10000x1_S4x10000
  let main_v83 : FVec Ideal S4x10000x1 .f32 := (extractStridedSlice S4x10000x1 ![0, 0, 1] · slices_S4x10000x4_S4x10000x1_0_0_1) main_v50
  let main_v84 : FVec Ideal S4x10000 .f32 := shapeCast S4x10000 main_v83 shapeCasts_S4x10000x1_S4x10000
  let main_v85 : FVec Ideal S4x10000 .f32 := subf main_v82 main_v84
  let main_v86 : FVec Ideal S4x10000 .f32 := mulf main_v80 main_v85
  main_v86

/-- The areas of the target boxes. -/
def tArea (main_v75 : FVec Ideal S4x50x4 .f32) : FVec Ideal S4x50 .f32 :=
  let main_v87 : FVec Ideal S4x50x1 .f32 := (extractStridedSlice S4x50x1 ![0, 0, 2] · slices_S4x50x4_S4x50x1_0_0_2) main_v75
  let main_v88 : FVec Ideal S4x50 .f32 := shapeCast S4x50 main_v87 shapeCasts_S4x50x1_S4x50
  let main_v89 : FVec Ideal S4x50x1 .f32 := (extractStridedSlice S4x50x1 ![0, 0, 0] · slices_S4x50x4_S4x50x1_0_0_0) main_v75
  let main_v90 : FVec Ideal S4x50 .f32 := shapeCast S4x50 main_v89 shapeCasts_S4x50x1_S4x50
  let main_v91 : FVec Ideal S4x50 .f32 := subf main_v88 main_v90
  let main_v92 : FVec Ideal S4x50x1 .f32 := (extractStridedSlice S4x50x1 ![0, 0, 3] · slices_S4x50x4_S4x50x1_0_0_3) main_v75
  let main_v93 : FVec Ideal S4x50 .f32 := shapeCast S4x50 main_v92 shapeCasts_S4x50x1_S4x50
  let main_v94 : FVec Ideal S4x50x1 .f32 := (extractStridedSlice S4x50x1 ![0, 0, 1] · slices_S4x50x4_S4x50x1_0_0_1) main_v75
  let main_v95 : FVec Ideal S4x50 .f32 := shapeCast S4x50 main_v94 shapeCasts_S4x50x1_S4x50
  let main_v96 : FVec Ideal S4x50 .f32 := subf main_v93 main_v95
  let main_v97 : FVec Ideal S4x50 .f32 := mulf main_v91 main_v96
  main_v97

/-- The sides of the intersections. -/
def common2 (main_v50 : FVec Ideal S4x10000x4 .f32) (main_v75 : FVec Ideal S4x50x4 .f32) : FVec Ideal S4x10000x50x2 .f32 :=
  let main_v98 : FVec Ideal S4x10000x2 .f32 := (extractStridedSlice S4x10000x2 ![0, 0, 0] · slices_S4x10000x4_S4x10000x2_0_0_0) main_v50
  let main_v99 : FVec Ideal S4x10000x1x2 .f32 := broadcastInDim S4x10000x1x2 ![0, 1, 3] bcast_S4x10000x2_S4x10000x1x2_0_1_3 main_v98
  let main_v100 : FVec Ideal S4x50x2 .f32 := (extractStridedSlice S4x50x2 ![0, 0, 0] · slices_S4x50x4_S4x50x2_0_0_0) main_v75
  let main_v101 : FVec Ideal S4x1x50x2 .f32 := broadcastInDim S4x1x50x2 ![0, 2, 3] bcast_S4x50x2_S4x1x50x2_0_2_3 main_v100
  let main_v102 : FVec Ideal S4x10000x50x2 .f32 := broadcastInDim S4x10000x50x2 ![0, 1, 2, 3] bcast_S4x10000x1x2_S4x10000x50x2_0_1_2_3 main_v99
  let main_v103 : FVec Ideal S4x10000x50x2 .f32 := broadcastInDim S4x10000x50x2 ![0, 1, 2, 3] bcast_S4x1x50x2_S4x10000x50x2_0_1_2_3 main_v101
  let main_v104 : FVec Ideal S4x10000x50x2 .f32 := maximumf main_v102 main_v103
  let main_v105 : FVec Ideal S4x10000x2 .f32 := (extractStridedSlice S4x10000x2 ![0, 0, 2] · slices_S4x10000x4_S4x10000x2_0_0_2) main_v50
  let main_v106 : FVec Ideal S4x10000x1x2 .f32 := broadcastInDim S4x10000x1x2 ![0, 1, 3] bcast_S4x10000x2_S4x10000x1x2_0_1_3 main_v105
  let main_v107 : FVec Ideal S4x50x2 .f32 := (extractStridedSlice S4x50x2 ![0, 0, 2] · slices_S4x50x4_S4x50x2_0_0_2) main_v75
  let main_v108 : FVec Ideal S4x1x50x2 .f32 := broadcastInDim S4x1x50x2 ![0, 2, 3] bcast_S4x50x2_S4x1x50x2_0_2_3 main_v107
  let main_v109 : FVec Ideal S4x10000x50x2 .f32 := broadcastInDim S4x10000x50x2 ![0, 1, 2, 3] bcast_S4x10000x1x2_S4x10000x50x2_0_1_2_3 main_v106
  let main_v110 : FVec Ideal S4x10000x50x2 .f32 := broadcastInDim S4x10000x50x2 ![0, 1, 2, 3] bcast_S4x1x50x2_S4x10000x50x2_0_1_2_3 main_v108
  let main_v111 : FVec Ideal S4x10000x50x2 .f32 := minimumf main_v109 main_v110
  let main_v112 : FVec Ideal S4x10000x50x2 .f32 := subf main_v111 main_v104
  let main_cst_12 : FVec Ideal S_ .f32 := constant S_ .f32 0x00000000#32
  let main_v113 : FVec Ideal S4x10000x50x2 .f32 := fn_clip (F := Ideal) main_v112 main_cst_12
  main_v113

/-- The areas of the intersections. -/
def inters (main_v113 : FVec Ideal S4x10000x50x2 .f32) : FVec Ideal S4x10000x50 .f32 :=
  let main_v114 : FVec Ideal S4x10000x50x1 .f32 := (extractStridedSlice S4x10000x50x1 ![0, 0, 0, 0] · slices_S4x10000x50x2_S4x10000x50x1_0_0_0_0) main_v113
  let main_v115 : FVec Ideal S4x10000x50 .f32 := shapeCast S4x10000x50 main_v114 shapeCasts_S4x10000x50x1_S4x10000x50
  let main_v116 : FVec Ideal S4x10000x50x1 .f32 := (extractStridedSlice S4x10000x50x1 ![0, 0, 0, 1] · slices_S4x10000x50x2_S4x10000x50x1_0_0_0_1) main_v113
  let main_v117 : FVec Ideal S4x10000x50 .f32 := shapeCast S4x10000x50 main_v116 shapeCasts_S4x10000x50x1_S4x10000x50
  let main_v118 : FVec Ideal S4x10000x50 .f32 := mulf main_v115 main_v117
  main_v118

/-- The areas of the unions. -/
def unions (main_v86 : FVec Ideal S4x10000 .f32) (main_v97 : FVec Ideal S4x50 .f32) (main_v118 : FVec Ideal S4x10000x50 .f32) : FVec Ideal S4x10000x50 .f32 :=
  let main_v119 : FVec Ideal S4x10000x1 .f32 := broadcastInDim S4x10000x1 ![0, 1] bcast_S4x10000_S4x10000x1_0_1 main_v86
  let main_v120 : FVec Ideal S4x1x50 .f32 := broadcastInDim S4x1x50 ![0, 2] bcast_S4x50_S4x1x50_0_2 main_v97
  let main_v121 : FVec Ideal S4x10000x50 .f32 := broadcastInDim S4x10000x50 ![0, 1, 2] bcast_S4x10000x1_S4x10000x50_0_1_2 main_v119
  let main_v122 : FVec Ideal S4x10000x50 .f32 := broadcastInDim S4x10000x50 ![0, 1, 2] bcast_S4x1x50_S4x10000x50_0_1_2 main_v120
  let main_v123 : FVec Ideal S4x10000x50 .f32 := addf main_v121 main_v122
  let main_v124 : FVec Ideal S4x10000x50 .f32 := subf main_v123 main_v118
  main_v124

/-- The overlaps. -/
def ious (main_v124 : FVec Ideal S4x10000x50 .f32) (main_v118 : FVec Ideal S4x10000x50 .f32) : FVec Ideal S4x10000x50 .f32 :=
  let main_cst_13 : FVec Ideal S_ .f32 := constant S_ .f32 0x322BCC77#32
  let main_v125 : FVec Ideal S4x10000x50 .f32 := broadcastInDim S4x10000x50 ![] bcast_S_S4x10000x50 main_cst_13
  let main_v126 : FVec Ideal S4x10000x50 .f32 := addf main_v124 main_v125
  let main_v127 : FVec Ideal S4x10000x50 .f32 := Host.divf main_v118 main_v126
  main_v127

/-- The sides of the boxes that two boxes span. -/
def span2 (main_v50 : FVec Ideal S4x10000x4 .f32) (main_v75 : FVec Ideal S4x50x4 .f32) : FVec Ideal S4x10000x50x2 .f32 :=
  let main_v128 : FVec Ideal S4x10000x2 .f32 := (extractStridedSlice S4x10000x2 ![0, 0, 0] · slices_S4x10000x4_S4x10000x2_0_0_0) main_v50
  let main_v129 : FVec Ideal S4x10000x1x2 .f32 := broadcastInDim S4x10000x1x2 ![0, 1, 3] bcast_S4x10000x2_S4x10000x1x2_0_1_3 main_v128
  let main_v130 : FVec Ideal S4x50x2 .f32 := (extractStridedSlice S4x50x2 ![0, 0, 0] · slices_S4x50x4_S4x50x2_0_0_0) main_v75
  let main_v131 : FVec Ideal S4x1x50x2 .f32 := broadcastInDim S4x1x50x2 ![0, 2, 3] bcast_S4x50x2_S4x1x50x2_0_2_3 main_v130
  let main_v132 : FVec Ideal S4x10000x50x2 .f32 := broadcastInDim S4x10000x50x2 ![0, 1, 2, 3] bcast_S4x10000x1x2_S4x10000x50x2_0_1_2_3 main_v129
  let main_v133 : FVec Ideal S4x10000x50x2 .f32 := broadcastInDim S4x10000x50x2 ![0, 1, 2, 3] bcast_S4x1x50x2_S4x10000x50x2_0_1_2_3 main_v131
  let main_v134 : FVec Ideal S4x10000x50x2 .f32 := minimumf main_v132 main_v133
  let main_v135 : FVec Ideal S4x10000x2 .f32 := (extractStridedSlice S4x10000x2 ![0, 0, 2] · slices_S4x10000x4_S4x10000x2_0_0_2) main_v50
  let main_v136 : FVec Ideal S4x10000x1x2 .f32 := broadcastInDim S4x10000x1x2 ![0, 1, 3] bcast_S4x10000x2_S4x10000x1x2_0_1_3 main_v135
  let main_v137 : FVec Ideal S4x50x2 .f32 := (extractStridedSlice S4x50x2 ![0, 0, 2] · slices_S4x50x4_S4x50x2_0_0_2) main_v75
  let main_v138 : FVec Ideal S4x1x50x2 .f32 := broadcastInDim S4x1x50x2 ![0, 2, 3] bcast_S4x50x2_S4x1x50x2_0_2_3 main_v137
  let main_v139 : FVec Ideal S4x10000x50x2 .f32 := broadcastInDim S4x10000x50x2 ![0, 1, 2, 3] bcast_S4x10000x1x2_S4x10000x50x2_0_1_2_3 main_v136
  let main_v140 : FVec Ideal S4x10000x50x2 .f32 := broadcastInDim S4x10000x50x2 ![0, 1, 2, 3] bcast_S4x1x50x2_S4x10000x50x2_0_1_2_3 main_v138
  let main_v141 : FVec Ideal S4x10000x50x2 .f32 := maximumf main_v139 main_v140
  let main_v142 : FVec Ideal S4x10000x50x2 .f32 := subf main_v141 main_v134
  let main_cst_14 : FVec Ideal S_ .f32 := constant S_ .f32 0x00000000#32
  let main_v143 : FVec Ideal S4x10000x50x2 .f32 := fn_clip (F := Ideal) main_v142 main_cst_14
  main_v143

/-- The areas of the boxes that two boxes span. -/
def encl (main_v143 : FVec Ideal S4x10000x50x2 .f32) : FVec Ideal S4x10000x50 .f32 :=
  let main_v144 : FVec Ideal S4x10000x50x1 .f32 := (extractStridedSlice S4x10000x50x1 ![0, 0, 0, 0] · slices_S4x10000x50x2_S4x10000x50x1_0_0_0_0) main_v143
  let main_v145 : FVec Ideal S4x10000x50 .f32 := shapeCast S4x10000x50 main_v144 shapeCasts_S4x10000x50x1_S4x10000x50
  let main_v146 : FVec Ideal S4x10000x50x1 .f32 := (extractStridedSlice S4x10000x50x1 ![0, 0, 0, 1] · slices_S4x10000x50x2_S4x10000x50x1_0_0_0_1) main_v143
  let main_v147 : FVec Ideal S4x10000x50 .f32 := shapeCast S4x10000x50 main_v146 shapeCasts_S4x10000x50x1_S4x10000x50
  let main_v148 : FVec Ideal S4x10000x50 .f32 := mulf main_v145 main_v147
  main_v148

/-- The generalized overlaps, negated. -/
def gious (main_v148 : FVec Ideal S4x10000x50 .f32) (main_v124 : FVec Ideal S4x10000x50 .f32) (main_v127 : FVec Ideal S4x10000x50 .f32) : FVec Ideal S4x10000x50 .f32 :=
  let main_v149 : FVec Ideal S4x10000x50 .f32 := subf main_v148 main_v124
  let main_cst_15 : FVec Ideal S_ .f32 := constant S_ .f32 0x322BCC77#32
  let main_v150 : FVec Ideal S4x10000x50 .f32 := broadcastInDim S4x10000x50 ![] bcast_S_S4x10000x50 main_cst_15
  let main_v151 : FVec Ideal S4x10000x50 .f32 := addf main_v148 main_v150
  let main_v152 : FVec Ideal S4x10000x50 .f32 := Host.divf main_v149 main_v151
  let main_v153 : FVec Ideal S4x10000x50 .f32 := subf main_v127 main_v152
  let main_v154 : FVec Ideal S4x10000x50 .f32 := Host.negf main_v153
  main_v154

/-- The action costs. -/
def acts (main_arg2 : FVec Ideal S4x10000x117 .f32) (main_arg5 : FVec Ideal S4x50x117 .f32) : FVec Ideal S4x10000x50 .f32 :=
  let main_v155 : FVec Ideal S4x10000x117 .f32 := Host.negf main_arg2
  let main_v156 : FVec Ideal S4x10000x117 .f32 := Host.exp main_v155
  let main_cst_16 : FVec Ideal S_ .f32 := constant S_ .f32 0x3F800000#32
  let main_v157 : FVec Ideal S4x10000x117 .f32 := broadcastInDim S4x10000x117 ![] bcast_S_S4x10000x117 main_cst_16
  let main_v158 : FVec Ideal S4x10000x117 .f32 := addf main_v157 main_v156
  let main_cst_17 : FVec Ideal S_ .f32 := constant S_ .f32 0x3F800000#32
  let main_v159 : FVec Ideal S4x10000x117 .f32 := broadcastInDim S4x10000x117 ![] bcast_S_S4x10000x117 main_cst_17
  let main_v160 : FVec Ideal S4x10000x117 .f32 := Host.divf main_v159 main_v158
  let main_cst_18 : FVec Ideal S_ .f32 := constant S_ .f32 0x322BCC77#32
  let main_v161 : FVec Ideal S4x10000x117 .f32 := broadcastInDim S4x10000x117 ![] bcast_S_S4x10000x117 main_cst_18
  let main_v162 : FVec Ideal S4x10000x117 .f32 := addf main_v160 main_v161
  let main_v163 : FVec Ideal S4x10000x117 .f32 := Host.log main_v162
  let main_v164 : FVec Ideal S4x117x50 .f32 := (transpose S4x117x50 [0, 2, 1] · transposes_S4x50x117_S4x117x50_0_2_1) main_arg5
  let main_v165 : FVec Ideal S4x10000x50 .f32 := (fun l r => Host.dotGeneral dot_S4x10000x117_S4x117x50_S4x10000x50_2_1_1_2_0_0 none l r) main_v163 main_v164
  let main_cst_19 : FVec Ideal S_ .f32 := constant S_ .f32 0x3F800000#32
  let main_v166 : FVec Ideal S4x10000x117 .f32 := broadcastInDim S4x10000x117 ![] bcast_S_S4x10000x117 main_cst_19
  let main_v167 : FVec Ideal S4x10000x117 .f32 := subf main_v166 main_v160
  let main_cst_20 : FVec Ideal S_ .f32 := constant S_ .f32 0x322BCC77#32
  let main_v168 : FVec Ideal S4x10000x117 .f32 := broadcastInDim S4x10000x117 ![] bcast_S_S4x10000x117 main_cst_20
  let main_v169 : FVec Ideal S4x10000x117 .f32 := addf main_v167 main_v168
  let main_v170 : FVec Ideal S4x10000x117 .f32 := Host.log main_v169
  let main_cst_21 : FVec Ideal S_ .f32 := constant S_ .f32 0x3F800000#32
  let main_v171 : FVec Ideal S4x50x117 .f32 := broadcastInDim S4x50x117 ![] bcast_S_S4x50x117 main_cst_21
  let main_v172 : FVec Ideal S4x50x117 .f32 := subf main_v171 main_arg5
  let main_v173 : FVec Ideal S4x117x50 .f32 := (transpose S4x117x50 [0, 2, 1] · transposes_S4x50x117_S4x117x50_0_2_1) main_v172
  let main_v174 : FVec Ideal S4x10000x50 .f32 := (fun l r => Host.dotGeneral dot_S4x10000x117_S4x117x50_S4x10000x50_2_1_1_2_0_0 none l r) main_v170 main_v173
  let main_v175 : FVec Ideal S4x10000x50 .f32 := addf main_v165 main_v174
  let main_v176 : FVec Ideal S4x10000x50 .f32 := Host.negf main_v175
  let main_cst_22 : FVec Ideal S_ .f32 := constant S_ .f32 0x42EA0000#32
  let main_v177 : FVec Ideal S4x10000x50 .f32 := broadcastInDim S4x10000x50 ![] bcast_S_S4x10000x50 main_cst_22
  let main_v178 : FVec Ideal S4x10000x50 .f32 := Host.divf main_v176 main_v177
  main_v178

/-- The sum of the four costs with their weights. -/
def total (main_v25 : FVec Ideal S4x10000x50 .f32) (main_v18 : FVec Ideal S4x10000x50 .f32) (main_v154 : FVec Ideal S4x10000x50 .f32) (main_v178 : FVec Ideal S4x10000x50 .f32) : FVec Ideal S4x10000x50 .f32 :=
  let main_cst_23 : FVec Ideal S_ .f32 := constant S_ .f32 0x40A00000#32
  let main_v179 : FVec Ideal S4x10000x50 .f32 := broadcastInDim S4x10000x50 ![] bcast_S_S4x10000x50 main_cst_23
  let main_v180 : FVec Ideal S4x10000x50 .f32 := mulf main_v179 main_v25
  let main_cst_24 : FVec Ideal S_ .f32 := constant S_ .f32 0x3F800000#32
  let main_v181 : FVec Ideal S4x10000x50 .f32 := broadcastInDim S4x10000x50 ![] bcast_S_S4x10000x50 main_cst_24
  let main_v182 : FVec Ideal S4x10000x50 .f32 := mulf main_v181 main_v18
  let main_v183 : FVec Ideal S4x10000x50 .f32 := addf main_v180 main_v182
  let main_cst_25 : FVec Ideal S_ .f32 := constant S_ .f32 0x40000000#32
  let main_v184 : FVec Ideal S4x10000x50 .f32 := broadcastInDim S4x10000x50 ![] bcast_S_S4x10000x50 main_cst_25
  let main_v185 : FVec Ideal S4x10000x50 .f32 := mulf main_v184 main_v154
  let main_v186 : FVec Ideal S4x10000x50 .f32 := addf main_v183 main_v185
  let main_cst_26 : FVec Ideal S_ .f32 := constant S_ .f32 0x3F800000#32
  let main_v187 : FVec Ideal S4x10000x50 .f32 := broadcastInDim S4x10000x50 ![] bcast_S_S4x10000x50 main_cst_26
  let main_v188 : FVec Ideal S4x10000x50 .f32 := mulf main_v187 main_v178
  let main_v189 : FVec Ideal S4x10000x50 .f32 := addf main_v186 main_v188
  main_v189

variable (b : Fin 4) (q : Fin 10000) (t : Fin 50)

theorem cls_at (a0 : FVec Ideal S4x10000x81 .f32) (a3 : IVec S4x50 32) (l : Fin 81) (hl : a3 (ix2 b t) = BitVec.ofNat 32 l) :
    cls a0 a3 (ix3 b q t) = 0 - prob (fun j => a0 (ix3 b q j)) l := by
  change -Host.gather Cert.ReferenceIdeal.gather_S4x10000x81_S4x50x1_S4x10000x50_1_2_0_0_2_2_1100001 (soft a0) (starts a3) (ix3 b q t) = _
  rw [gather_at _ _ b q t l (starts_at _ b t l hl), soft_at, zero_sub]

theorem dists_at (a1 : FVec Ideal S4x10000x4 .f32) (a4 : FVec Ideal S4x50x4 .f32) :
    dists a1 a4 (ix3 b q t) = boxDist (fun j => a1 (ix3 b q j)) (fun j => a4 (ix3 b t j)) := by
  unfold dists
  pointwise
  rw [Fin.sum_univ_four]
  rfl

theorem qBox_0 (a : FVec Ideal S4x10000x4 .f32) : qBox a (ix3 b q 0) = lo (a (ix3 b q 0)) (a (ix3 b q 2)) := by
  unfold qBox
  pointwise
  rfl
theorem qBox_1 (a : FVec Ideal S4x10000x4 .f32) : qBox a (ix3 b q 1) = lo (a (ix3 b q 1)) (a (ix3 b q 3)) := by
  unfold qBox
  pointwise
  rfl
theorem qBox_2 (a : FVec Ideal S4x10000x4 .f32) : qBox a (ix3 b q 2) = hi (a (ix3 b q 0)) (a (ix3 b q 2)) := by
  unfold qBox
  pointwise
  rfl
theorem qBox_3 (a : FVec Ideal S4x10000x4 .f32) : qBox a (ix3 b q 3) = hi (a (ix3 b q 1)) (a (ix3 b q 3)) := by
  unfold qBox
  pointwise
  rfl
theorem tBox_0 (a : FVec Ideal S4x50x4 .f32) : tBox a (ix3 b t 0) = lo (a (ix3 b t 0)) (a (ix3 b t 2)) := by
  unfold tBox
  pointwise
  rfl
theorem tBox_1 (a : FVec Ideal S4x50x4 .f32) : tBox a (ix3 b t 1) = lo (a (ix3 b t 1)) (a (ix3 b t 3)) := by
  unfold tBox
  pointwise
  rfl
theorem tBox_2 (a : FVec Ideal S4x50x4 .f32) : tBox a (ix3 b t 2) = hi (a (ix3 b t 0)) (a (ix3 b t 2)) := by
  unfold tBox
  pointwise
  rfl
theorem tBox_3 (a : FVec Ideal S4x50x4 .f32) : tBox a (ix3 b t 3) = hi (a (ix3 b t 1)) (a (ix3 b t 3)) := by
  unfold tBox
  pointwise
  rfl
theorem qArea_at (v : FVec Ideal S4x10000x4 .f32) : qArea v (ix2 b q) = (v (ix3 b q 2) - v (ix3 b q 0)) * (v (ix3 b q 3) - v (ix3 b q 1)) := by
  unfold qArea
  pointwise
theorem tArea_at (v : FVec Ideal S4x50x4 .f32) : tArea v (ix2 b t) = (v (ix3 b t 2) - v (ix3 b t 0)) * (v (ix3 b t 3) - v (ix3 b t 1)) := by
  unfold tArea
  pointwise
theorem common2_0 (v : FVec Ideal S4x10000x4 .f32) (w : FVec Ideal S4x50x4 .f32) : common2 v w (ix4 b q t 0) = max (min (v (ix3 b q 2)) (w (ix3 b t 2)) - max (v (ix3 b q 0)) (w (ix3 b t 0))) 0 := by
  rw [max_comm]
  unfold common2 fn_clip
  pointwise
  change max (Ideal.ofBits .f32 0x00000000#32) _ = _
  rw [Ideal.ofBits_zero .f32]
theorem common2_1 (v : FVec Ideal S4x10000x4 .f32) (w : FVec Ideal S4x50x4 .f32) : common2 v w (ix4 b q t 1) = max (min (v (ix3 b q 3)) (w (ix3 b t 3)) - max (v (ix3 b q 1)) (w (ix3 b t 1))) 0 := by
  rw [max_comm]
  unfold common2 fn_clip
  pointwise
  change max (Ideal.ofBits .f32 0x00000000#32) _ = _
  rw [Ideal.ofBits_zero .f32]
theorem span2_0 (v : FVec Ideal S4x10000x4 .f32) (w : FVec Ideal S4x50x4 .f32) : span2 v w (ix4 b q t 0) = max (max (v (ix3 b q 2)) (w (ix3 b t 2)) - min (v (ix3 b q 0)) (w (ix3 b t 0))) 0 := by
  rw [max_comm]
  unfold span2 fn_clip
  pointwise
  change max (Ideal.ofBits .f32 0x00000000#32) _ = _
  rw [Ideal.ofBits_zero .f32]
theorem span2_1 (v : FVec Ideal S4x10000x4 .f32) (w : FVec Ideal S4x50x4 .f32) : span2 v w (ix4 b q t 1) = max (max (v (ix3 b q 3)) (w (ix3 b t 3)) - min (v (ix3 b q 1)) (w (ix3 b t 1))) 0 := by
  rw [max_comm]
  unfold span2 fn_clip
  pointwise
  change max (Ideal.ofBits .f32 0x00000000#32) _ = _
  rw [Ideal.ofBits_zero .f32]
theorem inters_at (v : FVec Ideal S4x10000x50x2 .f32) : inters v (ix3 b q t) = v (ix4 b q t 0) * v (ix4 b q t 1) := by
  unfold inters
  pointwise
theorem encl_at (v : FVec Ideal S4x10000x50x2 .f32) : encl v (ix3 b q t) = v (ix4 b q t 0) * v (ix4 b q t 1) := by
  unfold encl
  pointwise
theorem unions_at (u : FVec Ideal S4x10000 .f32) (v : FVec Ideal S4x50 .f32) (w : FVec Ideal S4x10000x50 .f32) : unions u v w (ix3 b q t) = u (ix2 b q) + v (ix2 b t) - w (ix3 b q t) := by
  unfold unions
  pointwise
theorem ious_at (u w : FVec Ideal S4x10000x50 .f32) : ious u w (ix3 b q t) = Ideal.div (w (ix3 b q t)) (u (ix3 b q t) + eps) := by
  unfold ious
  pointwise
  rfl
theorem gious_at (e u i : FVec Ideal S4x10000x50 .f32) : gious e u i (ix3 b q t) = 0 - (i (ix3 b q t) - Ideal.div (e (ix3 b q t) - u (ix3 b q t)) (e (ix3 b q t) + eps)) := by
  rw [zero_sub]
  unfold gious
  pointwise
  rfl
theorem acts_at (a2 : FVec Ideal S4x10000x117 .f32) (a5 : FVec Ideal S4x50x117 .f32) :
    acts a2 a5 (ix3 b q t) = Ideal.div (0 - likelihood (fun j => a2 (ix3 b q j)) (fun j => a5 (ix3 b t j))) actions := by
  rw [zero_sub]
  unfold acts
  pointwise
  rfl
theorem total_at (u v w x : FVec Ideal S4x10000x50 .f32) :
    total u v w x (ix3 b q t) = five * u (ix3 b q t) + v (ix3 b q t) + two * w (ix3 b q t) + x (ix3 b q t) := by
  unfold total
  pointwise
  rfl

/-- The cost table. -/
def table (a0 : FVec Ideal S4x10000x81 .f32) (a1 : FVec Ideal S4x10000x4 .f32) (a2 : FVec Ideal S4x10000x117 .f32) (a3 : IVec S4x50 32)
    (a4 : FVec Ideal S4x50x4 .f32) (a5 : FVec Ideal S4x50x117 .f32) : FVec Ideal S4x10000x50 .f32 :=
  total (dists a1 a4) (cls a0 a3)
    (gious (encl (span2 (qBox a1) (tBox a4)))
      (unions (qArea (qBox a1)) (tArea (tBox a4)) (inters (common2 (qBox a1) (tBox a4))))
      (ious (unions (qArea (qBox a1)) (tArea (tBox a4)) (inters (common2 (qBox a1) (tBox a4)))) (inters (common2 (qBox a1) (tBox a4)))))
    (acts a2 a5)

/-- An entry of the table is the matching cost. -/
theorem table_cost (a0 : FVec Ideal S4x10000x81 .f32) (a1 : FVec Ideal S4x10000x4 .f32) (a2 : FVec Ideal S4x10000x117 .f32) (a3 : IVec S4x50 32)
    (a4 : FVec Ideal S4x50x4 .f32) (a5 : FVec Ideal S4x50x117 .f32) (l : Fin 81) (hl : a3 (ix2 b t) = BitVec.ofNat 32 l) :
    table a0 a1 a2 a3 a4 a5 (ix3 b q t) = cost (fun j => a0 (ix3 b q j)) (fun j => a1 (ix3 b q j)) (fun j => a2 (ix3 b q j)) l (fun j => a4 (ix3 b t j)) (fun j => a5 (ix3 b t j)) := by
  unfold table
  rw [total_at, dists_at, cls_at b q t a0 a3 l hl, gious_at, acts_at, encl_at, span2_0, span2_1, ious_at, unions_at, qArea_at, tArea_at, inters_at, common2_0, common2_1,
    qBox_0, qBox_1, qBox_2, qBox_3, tBox_0, tBox_1, tBox_2, tBox_3]
  rfl

/-- What the precondition says of the labels and of the table. -/
def verdict (main_arg3 : IVec S4x50 32) (main_v189 : FVec Ideal S4x10000x50 .f32) : IVec S4x50 1 × IVec S4x499999 1 × IVec S4 1 :=
  let main_v190 : FVec Ideal S4x500000 .f32 := shapeCast S4x500000 main_v189 shapeCasts_S4x10000x50_S4x500000
  let main_v191 : FVec Ideal S4x500000 .f32 := fn_sort (F := Ideal) main_v190
  let main_c_27 : IVec S_ 32 := constantI S_ 32 0#32
  let main_v192 : IVec S4x50 32 := broadcastInDim S4x50 ![] bcast_S_S4x50 main_c_27
  let main_v193 : IVec S4x50 1 := cmpi .sge main_arg3 main_v192
  let main_c_28 : IVec S_ 32 := constantI S_ 32 80#32
  let main_v194 : IVec S4x50 32 := broadcastInDim S4x50 ![] bcast_S_S4x50 main_c_28
  let main_v195 : IVec S4x50 1 := cmpi .sle main_arg3 main_v194
  let main_v196 : IVec S4x50 1 := andi main_v193 main_v195
  let main_v197 : FVec Ideal S4x499999 .f32 := (extractStridedSlice S4x499999 ![0, 0] · slices_S4x500000_S4x499999_0_0) main_v191
  let main_v198 : FVec Ideal S4x499999 .f32 := (extractStridedSlice S4x499999 ![0, 1] · slices_S4x500000_S4x499999_0_1) main_v191
  let main_v199 : IVec S4x499999 1 := cmpf .olt main_v197 main_v198
  let main_v200 : FVec Ideal S4x1 .f32 := (extractStridedSlice S4x1 ![0, 499999] · slices_S4x500000_S4x1_0_499999) main_v191
  let main_v201 : FVec Ideal S4 .f32 := shapeCast S4 main_v200 shapeCasts_S4x1_S4
  let main_v202 : FVec Ideal S4x1 .f32 := (extractStridedSlice S4x1 ![0, 0] · slices_S4x500000_S4x1_0_0) main_v191
  let main_v203 : FVec Ideal S4 .f32 := shapeCast S4 main_v202 shapeCasts_S4x1_S4
  let main_v204 : FVec Ideal S4 .f32 := subf main_v201 main_v203
  let main_cst_29 : FVec Ideal S_ .f32 := constant S_ .f32 0x4E6E6B28#32
  let main_v205 : FVec Ideal S4 .f32 := broadcastInDim S4 ![] bcast_S_S4 main_cst_29
  let main_v206 : IVec S4 1 := cmpf .olt main_v204 main_v205
  (main_v196, main_v199, main_v206)

theorem fn_eq (a0 : FVec Ideal S4x10000x81 .f32) (a1 : FVec Ideal S4x10000x4 .f32) (a2 : FVec Ideal S4x10000x117 .f32) (a3 : IVec S4x50 32)
    (a4 : FVec Ideal S4x50x4 .f32) (a5 : FVec Ideal S4x50x117 .f32) :
    fn (F := Ideal) a0 a1 a2 a3 a4 a5 = verdict a3 (table a0 a1 a2 a3 a4 a5) := rfl
end Cert.Proof.Pre
-- ==== Proof.PreSort.lean ====
module

public import proofs.«01_k».proof.Proof.PreTable
public import proofs.«01_k».proof.Proof.RefStep
public import proofs.«01_k».proof.Proof.Labels
public import Idealize.ShloMosaic.Lib.SortFacts

@[expose] public section

/-! What the second precondition says of the cost table: its entries are real, those of one batch differ, and they lie within 10⁹ of one another. -/

noncomputable section
namespace Cert.Proof.Pre
open Cert.Proof Cert.Pre_distinct_costs Cert.Pre_distinct_costs.Facts Idealize.ShloMosaic

set_option maxRecDepth 100000
set_option maxHeartbeats 2000000

/-- Values that increase strictly along some order of their positions, the last less than `d` above the first, are real and differ. -/
theorem spread {N : Nat} (f : Fin (N + 2) → EReal) (σ : Fin (N + 2) → Fin (N + 2)) (hσ : Function.Surjective σ) (d : ℝ)
    (hlt : ∀ i : Fin (N + 1), f (σ i.castSucc) < f (σ i.succ)) (hd : f (σ (Fin.last _)) - f (σ 0) < (d : EReal)) :
    (∀ n, f n = ((f n).toReal : EReal)) ∧ Function.Injective f ∧ ∀ n n', (f n).toReal < (f n').toReal + d := by
  have hs : StrictMono (fun i => f (σ i)) := Fin.strictMono_iff_lt_succ.mpr hlt
  have h0l : f (σ 0) < f (σ (Fin.last _)) := hs (Fin.last_pos)
  have hbot : f (σ 0) ≠ ⊥ := by
    intro h
    rw [h] at hd h0l
    rw [EReal.sub_bot h0l.ne'] at hd
    exact absurd hd (not_lt.mpr le_top)
  have htop : f (σ (Fin.last _)) ≠ ⊤ := by
    intro h
    rw [h] at hd h0l
    rw [EReal.top_sub h0l.ne] at hd
    exact absurd hd (not_lt.mpr le_top)
  have hlo : ∀ n, f (σ 0) ≤ f n := by
    intro n
    obtain ⟨i, rfl⟩ := hσ n
    exact hs.monotone (Fin.zero_le i)
  have hhi : ∀ n, f n ≤ f (σ (Fin.last _)) := by
    intro n
    obtain ⟨i, rfl⟩ := hσ n
    exact hs.monotone (Fin.le_last i)
  have hreal : ∀ n, f n = ((f n).toReal : EReal) := by
    intro n
    refine (EReal.coe_toReal ?_ ?_).symm
    · intro h
      exact htop (top_le_iff.mp (h ▸ hhi n))
    · intro h
      exact hbot (le_bot_iff.mp (h ▸ hlo n))
  refine ⟨hreal, ?_, ?_⟩
  · intro n n' h
    obtain ⟨i, rfl⟩ := hσ n
    obtain ⟨j, rfl⟩ := hσ n'
    rw [hs.injective h]
  · intro n n'
    have e1 := hhi n
    have e2 := hlo n'
    rw [hreal n, hreal (σ (Fin.last _)), EReal.coe_le_coe_iff] at e1
    rw [hreal n', hreal (σ 0), EReal.coe_le_coe_iff] at e2
    rw [hreal (σ (Fin.last _)), hreal (σ 0), ← EReal.coe_sub, EReal.coe_lt_coe_iff] at hd
    linarith

variable [Cert.Pre_distinct_costs.Facts]

/-- A row of the table, laid out flat. -/
def flat (v : FVec Ideal S4x10000x50 .f32) (b : Fin 4) (n : Fin 500000) : EReal :=
  v (ix3 b ⟨n.val / 50, by omega⟩ ⟨n.val % 50, by omega⟩)

theorem cast_at (v : FVec Ideal S4x10000x50 .f32) (b : Fin 4) (n : Fin 500000) :
    shapeCast S4x500000 v shapeCasts_S4x10000x50_S4x500000 (ix2 b n) = flat v b n := by
  unfold flat
  pointwise

theorem along_row (b : Fin 4) (n k : Fin 500000) : Shape.Idx.along (s := S4x500000) (ix2 b n) 1 k = ix2 b k := by
  funext a
  fin_cases a
  · rfl
  · rfl

/-- The order in which the sort reads a row. -/
def order (x : FVec Ideal S4x500000 .f32) (b : Fin 4) : Fin 500000 → Fin 500000 :=
  sortedFrom (fun k k' => comparator_f32_d1 (F := Ideal) (x (ix2 b k)) (x (ix2 b k')) == 1#1)

theorem sort_at (x : FVec Ideal S4x500000 .f32) (b : Fin 4) (n : Fin 500000) : fn_sort x (ix2 b n) = x (ix2 b (order x b n)) := by
  change x (Shape.Idx.along (s := S4x500000) (ix2 b n) 1 (sortedFrom (n := 500000)
    (fun k k' => comparator_f32_d1 (F := Ideal) (x (Shape.Idx.along (s := S4x500000) (ix2 b n) 1 k)) (x (Shape.Idx.along (s := S4x500000) (ix2 b n) 1 k')) == 1#1) n)) = _
  simp only [along_row]
  rfl

/-- A comparison that holds. -/
theorem less_of_one (x y : EReal) (h : Ideal.cmp .olt x y = 1#1) : x < y := by
  unfold Ideal.cmp at h
  by_contra hn
  simp [hn] at h

theorem less_at {S : Shape} (x y : FVec Ideal S .f32) (i : S.Idx) (h : cmpf .olt x y i = 1#1) : @LT.lt EReal _ (x i) (y i) :=
  less_of_one (x i) (y i) (by simpa only [cmpf, Ideal.cmpf_def] using h)

/-- The table meets the precondition's two conditions on costs. -/
theorem verdict_flat (a3 : IVec S4x50 32) (v : FVec Ideal S4x10000x50 .f32) (h1 : (verdict a3 v).2.1 = fun _ => 1#1) (h2 : (verdict a3 v).2.2 = fun _ => 1#1) (b : Fin 4) :
    (∀ n, flat v b n = ((flat v b n).toReal : EReal)) ∧ Function.Injective (flat v b) ∧ ∀ n n', (flat v b n).toReal < (flat v b n').toReal + 1000000000 := by
  refine spread (N := 499998) (flat v b) (order (shapeCast S4x500000 v shapeCasts_S4x10000x50_S4x500000) b) (sortedFrom_surjective _) 1000000000 ?_ ?_
  · intro i
    have h := congrFun h1 (ix2 b i)
    unfold verdict at h
    simp only [] at h
    generalize hs : fn_sort (F := Ideal) (shapeCast S4x500000 v shapeCasts_S4x10000x50_S4x500000) = s at h
    have e1 : extractStridedSlice S4x499999 ![0, 0] s slices_S4x500000_S4x499999_0_0 (ix2 b i) = s (ix2 b i.castSucc) := by
      pointwise
      rfl
    have e2 : extractStridedSlice S4x499999 ![0, 1] s slices_S4x500000_S4x499999_0_1 (ix2 b i) = s (ix2 b i.succ) := by
      pointwise
      exact congrArg (fun n => s (ix2 b n)) (Fin.ext (Nat.add_comm 1 i.val))
    have e := less_at _ _ _ h
    rw [e1, e2, ← hs, sort_at, sort_at, cast_at, cast_at] at e
    exact e
  · have h := congrFun h2 (ix1 b)
    unfold verdict at h
    simp only [] at h
    generalize hs : fn_sort (F := Ideal) (shapeCast S4x500000 v shapeCasts_S4x10000x50_S4x500000) = s at h
    have e1 : shapeCast S4 (extractStridedSlice S4x1 ![0, 499999] s slices_S4x500000_S4x1_0_499999) shapeCasts_S4x1_S4 (ix1 b) = s (ix2 b 499999) := by
      pointwise
    have e2 : shapeCast S4 (extractStridedSlice S4x1 ![0, 0] s slices_S4x500000_S4x1_0_0) shapeCasts_S4x1_S4 (ix1 b) = s (ix2 b 0) := by
      pointwise
    have e := less_at _ _ _ h
    change @HSub.hSub EReal EReal EReal _ (shapeCast S4 (extractStridedSlice S4x1 ![0, 499999] s slices_S4x500000_S4x1_0_499999) shapeCasts_S4x1_S4 (ix1 b))
      (shapeCast S4 (extractStridedSlice S4x1 ![0, 0] s slices_S4x500000_S4x1_0_0) shapeCasts_S4x1_S4 (ix1 b)) < Ideal.ofBits FTy.f32 0x4E6E6B28#32 at e
    rw [e1, e2, Ref.big_eq, ← hs, sort_at, sort_at, cast_at, cast_at] at e
    exact e

theorem flat_at (v : FVec Ideal S4x10000x50 .f32) (b : Fin 4) (q : Fin 10000) (t : Fin 50) :
    flat v b ⟨q.val * 50 + t.val, by omega⟩ = v (ix3 b q t) := by
  unfold flat
  have e1 : (⟨(q.val * 50 + t.val) / 50, by omega⟩ : Fin 10000) = q := Fin.ext (by show (q.val * 50 + t.val) / 50 = q.val; omega)
  have e2 : (⟨(q.val * 50 + t.val) % 50, by omega⟩ : Fin 50) = t := Fin.ext (by show (q.val * 50 + t.val) % 50 = t.val; omega)
  exact congrArg₂ (fun q t => v (ix3 b q t)) e1 e2

/-- Under the precondition the costs of one batch are a table of reals that differ and lie close together. -/
theorem verdict_table (a3 : IVec S4x50 32) (v : FVec Ideal S4x10000x50 .f32) (h1 : (verdict a3 v).2.1 = fun _ => 1#1) (h2 : (verdict a3 v).2.2 = fun _ => 1#1) (b : Fin 4) :
    ∃ C : Table, Distinct C ∧ ∀ q t, v (ix3 b q t) = ((C q t : ℝ) : EReal) := by
  obtain ⟨hr, hi, hn⟩ := verdict_flat a3 v h1 h2 b
  refine ⟨fun q t => (flat v b ⟨q.val * 50 + t.val, by omega⟩).toReal, ⟨?_, ?_⟩, ?_⟩
  · intro q t q' t' h
    have e := hi ((hr _).trans ((congrArg Real.toEReal h).trans (hr _).symm))
    have e' : q.val * 50 + t.val = q'.val * 50 + t'.val := congrArg Fin.val e
    exact ⟨Fin.ext (by omega), Fin.ext (by omega)⟩
  · intro q t q' t'
    exact hn _ _
  · intro q t
    exact (flat_at v b q t).symm.trans (hr _)

/-- Under the precondition every label names a class. -/
theorem verdict_label (a3 : IVec S4x50 32) (v : FVec Ideal S4x10000x50 .f32) (h : (verdict a3 v).1 = fun _ => 1#1) (b : Fin 4) (t : Fin 50) :
    ∃ l : Fin 81, a3 (ix2 b t) = BitVec.ofNat 32 l :=
  word_of_range _ (congrFun h (ix2 b t))

end Cert.Proof.Pre
-- ==== Proof.GreedyClaim.lean ====
module

public import proofs.«01_k».proof.Proof.CostClaim
public import proofs.«01_k».proof.Proof.KernelGreedy
public import proofs.«01_k».proof.Proof.RefGreedy
public import proofs.«01_k».proof.Proof.PreSort
public import proofs.«01_k».proof.Proof.Gen.Pre_distinct_costs

@[expose] public section

/-! The claim on all three results: with costs that differ, kernel and reference make the same assignment. -/

noncomputable section
namespace Cert.Proof
open Idealize.ShloMosaic

set_option maxRecDepth 100000
set_option maxHeartbeats 2000000

variable [Cert.Pre_distinct_costs.Facts]

/-- Under the precondition every label names a class and the kernel's costs of one batch are a table of differing reals. -/
theorem kernel_table (m : (ℓ : Loc KernelIdeal.nD KernelIdeal.τ KernelIdeal.sig) → Buf (Elt Ideal) ℓ) (c : Dev KernelIdeal.nD)
    (hp : Cert.Pre_KernelIdeal_distinct_costs m) :
    (∀ (b : Fin 4) (t : Fin 50), ∃ l : Fin 81, m ((c.tc : Thread KernelIdeal.nD KernelIdeal.τ).loc KernelIdeal.main_arg3) (ix2 b t) = BitVec.ofNat 32 l)
      ∧ ∀ b : Fin 4, ∃ C : Table, Distinct C ∧ ∀ q t, costArr m c (ix3 b q t) = ((C q t : ℝ) : EReal) := by
  obtain ⟨h0, h1, h2⟩ := hp c
  rw [Pre.fn_eq] at h0 h1 h2
  have hlab := fun b t => Pre.verdict_label _ _ h0 b t
  refine ⟨hlab, fun b => ?_⟩
  obtain ⟨C, hC, hx⟩ := Pre.verdict_table _ _ h1 h2 b
  refine ⟨C, hC, fun q t => ?_⟩
  obtain ⟨l, hl⟩ := hlab b t
  exact (costArr_at m c b q t l hl).trans ((Pre.table_cost b q t _ _ _ _ _ _ l hl).symm.trans (hx q t))

/-- All three results of the kernel and the reference are equal. -/
theorem matches_agree : Cert.algebraic_KernelIdeal_ReferenceIdeal_pre_distinct_costs := by
  intro m g m' g' hp hm
  have hcost : ∀ c, Ref.out ReferenceIdeal.main_v189 m' c = costArr m c := fun c => costs_agree m m' c (kernel_table m c hp).1 (hm c)
  have hpick : ∀ (c : Dev KernelIdeal.nD) (b : Fin 4) (t : Fin 50),
      Ref.out ReferenceIdeal.main_v193 m' c (ix2 b t) = rowArr picks m c (ix3 b 0 t)
        ∧ Ref.out ReferenceIdeal.main_v194 m' c (ix2 b t) = colArr picks m c (ix3 b 0 t) := by
    intro c b t
    obtain ⟨C, hC, hx⟩ := (kernel_table m c hp).2 b
    have k := kernel_picks picks m c b C hC hx t
    have r := Ref.picks (b := b) m' c hC (fun q t => (congrFun (hcost c) (ix3 b q t)).trans (hx q t)) t
    exact ⟨r.1.trans k.1.symm, r.2.trans k.2.symm⟩
  refine ⟨fun c => costArr m c, fun c i => rowArr picks m c (ix3 (i 0) 0 (i 1)), fun c i => colArr picks m c (ix3 (i 0) 0 (i 1)), ?_, ?_⟩
  · refine (θ_run KernelIdeal.defs _ _).mono ?_ (θ_run_and (run_values picks m g) (unchanged picks m g))
    intro r h c
    exact ⟨(h.1 c).1, (h.1 c).2.1, (h.1 c).2.2, h.2 c⟩
  · refine (θ_run ReferenceIdeal.defs _ _).mono ?_ (Ref.run m' g')
    intro r h c
    refine ⟨(h c).1.1.trans (hcost c), ?_, ?_, (h c).2⟩
    · refine (h c).1.2.1.trans (funext fun i => ?_)
      obtain ⟨b, t, rfl⟩ : ∃ (b : Fin 4) (t : Fin 50), i = ix2 b t := ⟨i 0, i 1, eq_ix2 i⟩
      exact (hpick c b t).1
    · refine (h c).1.2.2.trans (funext fun i => ?_)
      obtain ⟨b, t, rfl⟩ : ∃ (b : Fin 4) (t : Fin 50), i = ix2 b t := ⟨i 0, i 1, eq_ix2 i⟩
      exact (hpick c b t).2

end Cert.Proof
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_labels_in_range
public import proofs.«01_k».proof.Proof.Gen.Pre_distinct_costs
public import proofs.«01_k».proof.Proof.Gen.On_costs_only
public import proofs.«01_k».proof.Proof.CostClaim
public import proofs.«01_k».proof.Proof.GreedyClaim
public import Idealize.ShloMosaic.Adequacy
public import Idealize.ShloMosaic.Init

/-! The certificate of the set-matching kernel: assembled from the modules under `Proof/`. -/

@[expose] public section

noncomputable section

namespace Cert.Proof

/-- Kernel and reference run from every memory and keep their arguments; for labels that name a class they end with equal
    cost matrices, and for costs that also differ within a batch they end with the same assignment. -/
theorem claim : Cert.Claim :=
  ⟨Cert.KernelIdeal.Gen.facts, Cert.ReferenceIdeal.Gen.facts, Cert.Pre_labels_in_range.Gen.facts,
    Cert.Pre_distinct_costs.Gen.facts, Cert.On_costs_only.Gen.facts,
    frame_kernel, fun m g _ => kernel_frame picks m g, fun m g _ => kernel_frame picks m g,
    frame_reference, fun m g _ => Ref.frame m g, fun m g _ => Ref.frame m g, costs, matches_agree⟩

end Cert.Proof

end
